-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_v0_3) = v3 c
          ∧ r.2.mem ((c.tc : Thread Cert.MlpRefIdeal.nD Cert.MlpRefIdeal.τ).loc Cert.MlpRefIdeal.main_v0_4) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0_0) = v0 c
          ∧ r.2.mem ((c.tc : Thread Cert.OutRefIdeal.nD Cert.OutRefIdeal.τ).loc Cert.OutRefIdeal.main_v0_1) = v1 c
          ∧ r.2.mem ((c.tc : Thread Cert.OutRefIdeal.nD Cert.OutRefIdeal.τ).loc Cert.OutRefIdeal.main_v0_2) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
-- ==== Mlp.lean ====
abbrev S3x1024x2304 : Shape := ⟨3, ![3, 1024, 2304]⟩
abbrev S3x1024x1 : Shape := ⟨3, ![3, 1024, 1]⟩
abbrev S2304x12288 : Shape := ⟨2, ![2304, 12288]⟩
abbrev S1x12288 : Shape := ⟨2, ![1, 12288]⟩
abbrev S6144x2304 : Shape := ⟨2, ![6144, 2304]⟩
abbrev S1x2304 : Shape := ⟨2, ![1, 2304]⟩
abbrev S3x1x2304 : Shape := ⟨3, ![3, 1, 2304]⟩
abbrev S3x1024x6144 : Shape := ⟨3, ![3, 1024, 6144]⟩
abbrev S3x1024x18 : Shape := ⟨3, ![3, 1024, 18]⟩
abbrev S1x128x2304 : Shape := ⟨3, ![1, 128, 2304]⟩
abbrev S1x128x1 : Shape := ⟨3, ![1, 128, 1]⟩
abbrev S1x1x2304 : Shape := ⟨3, ![1, 1, 2304]⟩
abbrev S1x128x6144 : Shape := ⟨3, ![1, 128, 6144]⟩
abbrev S1x128x18 : Shape := ⟨3, ![1, 128, 18]⟩
abbrev S128x6144 : Shape := ⟨2, ![128, 6144]⟩
abbrev S128x1 : Shape := ⟨2, ![128, 1]⟩
abbrev S128x2304 : Shape := ⟨2, ![128, 2304]⟩
abbrev S1x252 : Shape := ⟨2, ![1, 252]⟩
abbrev S2304x256 : Shape := ⟨2, ![2304, 256]⟩
abbrev S128x256 : Shape := ⟨2, ![128, 256]⟩
abbrev S1x256 : Shape := ⟨2, ![1, 256]⟩
abbrev S128 : Shape := ⟨1, ![128]⟩
abbrev S1x128x256 : Shape := ⟨3, ![1, 128, 256]⟩
abbrev S6144x256 : Shape := ⟨2, ![6144, 256]⟩
abbrev S1x1x256 : Shape := ⟨3, ![1, 1, 256]⟩
abbrev S128x128 : Shape := ⟨2, ![128, 128]⟩
abbrev S128x252 : Shape := ⟨2, ![128, 252]⟩
abbrev S1x128x128 : Shape := ⟨3, ![1, 128, 128]⟩

abbrev nBuf : Space → Nat
  | .hbm => 14
  | .vmem => 25
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x12288, .fp8e4m3⟩
  | .hbm, ⟨3, _⟩ => ⟨S1x12288, .f32⟩
  | .hbm, ⟨4, _⟩ => ⟨S6144x2304, .fp8e4m3⟩
  | .hbm, ⟨5, _⟩ => ⟨S1x2304, .f32⟩
  | .hbm, ⟨6, _⟩ => ⟨S3x1024x2304, .f32⟩
  | .hbm, ⟨7, _⟩ => ⟨S3x1024x2304, .bf16⟩
  | .hbm, ⟨8, _⟩ => ⟨S3x1x2304, .f32⟩
  | .hbm, ⟨9, _⟩ => ⟨S3x1024x2304, .bf16⟩
  | .hbm, ⟨10, _⟩ => ⟨S3x1024x6144, .fp8e4m3⟩
  | .hbm, ⟨11, _⟩ => ⟨S3x1024x1, .f32⟩
  | .hbm, ⟨12, _⟩ => ⟨S3x1024x2304, .fp8e4m3⟩
  | .hbm, ⟨13, _⟩ => ⟨S3x1024x18, .f32⟩
  | .local _ .vmem, ⟨0, _⟩ => ⟨S1x128x2304, .fp8e4m3⟩
  | .local _ .vmem, ⟨1, _⟩ => ⟨S1x128x2304, .fp8e4m3⟩
  | .local _ .vmem, ⟨2, _⟩ => ⟨S1x128x1, .f32⟩
  | .local _ .vmem, ⟨3, _⟩ => ⟨S1x128x1, .f32⟩
  | .local _ .vmem, ⟨4, _⟩ => ⟨S2304x12288, .fp8e4m3⟩
  | .local _ .vmem, ⟨5, _⟩ => ⟨S1x12288, .f32⟩
  | .local _ .vmem, ⟨6, _⟩ => ⟨S6144x2304, .fp8e4m3⟩
  | .local _ .vmem, ⟨7, _⟩ => ⟨S1x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .bf16⟩
  | .local _ .vmem, ⟨11, _⟩ => ⟨S1x128x2304, .bf16⟩
  | .local _ .vmem, ⟨12, _⟩ => ⟨S1x1x2304, .f32⟩
  | .local _ .vmem, ⟨13, _⟩ => ⟨S1x1x2304, .f32⟩
  | .local _ .vmem, ⟨14, _⟩ => ⟨S1x128x2304, .bf16⟩
  | .local _ .vmem, ⟨15, _⟩ => ⟨S1x128x2304, .bf16⟩
  | .local _ .vmem, ⟨16, _⟩ => ⟨S1x128x6144, .fp8e4m3⟩
  | .local _ .vmem, ⟨17, _⟩ => ⟨S1x128x6144, .fp8e4m3⟩
  | .local _ .vmem, ⟨18, _⟩ => ⟨S1x128x1, .f32⟩
  | .local _ .vmem, ⟨19, _⟩ => ⟨S1x128x1, .f32⟩
  | .local _ .vmem, ⟨20, _⟩ => ⟨S1x128x2304, .fp8e4m3⟩
  | .local _ .vmem, ⟨21, _⟩ => ⟨S1x128x2304, .fp8e4m3⟩
  | .local _ .vmem, ⟨22, _⟩ => ⟨S1x128x18, .f32⟩
  | .local _ .vmem, ⟨23, _⟩ => ⟨S1x128x18, .f32⟩
  | .local _ .vmem, ⟨24, _⟩ => ⟨S128x6144, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6144x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x6144 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2304 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x18 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlpRefIdeal.lean ====
abbrev S3x1024x2304 : Shape := ⟨3, ![3, 1024, 2304]⟩
abbrev S3x1024x1 : Shape := ⟨3, ![3, 1024, 1]⟩
abbrev S2304x12288 : Shape := ⟨2, ![2304, 12288]⟩
abbrev S1x12288 : Shape := ⟨2, ![1, 12288]⟩
abbrev S6144x2304 : Shape := ⟨2, ![6144, 2304]⟩
abbrev S1x2304 : Shape := ⟨2, ![1, 2304]⟩
abbrev S3x1x2304 : Shape := ⟨3, ![3, 1, 2304]⟩
abbrev S3x1024x6144 : Shape := ⟨3, ![3, 1024, 6144]⟩
abbrev S3x1024x18 : Shape := ⟨3, ![3, 1024, 18]⟩
abbrev S3072x2304 : Shape := ⟨2, ![3072, 2304]⟩
abbrev S3072x12288 : Shape := ⟨2, ![3072, 12288]⟩
abbrev S3x1024x12288 : Shape := ⟨3, ![3, 1024, 12288]⟩
abbrev S1x1x12288 : Shape := ⟨3, ![1, 1, 12288]⟩
abbrev S3x1024 : Shape := ⟨2, ![3, 1024]⟩
abbrev S3072x6144 : Shape := ⟨2, ![3072, 6144]⟩
abbrev S1x1x2304 : Shape := ⟨3, ![1, 1, 2304]⟩
abbrev S3x1024x18x128 : Shape := ⟨4, ![3, 1024, 18, 128]⟩
abbrev S3x1024x18x1 : Shape := ⟨4, ![3, 1024, 18, 1]⟩

abbrev nBuf : Space → Nat
  | .hbm => 14
  | .vmem => 14
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x12288, .fp8e4m3⟩
  | .hbm, ⟨3, _⟩ => ⟨S1x12288, .f32⟩
  | .hbm, ⟨4, _⟩ => ⟨S6144x2304, .fp8e4m3⟩
  | .hbm, ⟨5, _⟩ => ⟨S1x2304, .f32⟩
  | .hbm, ⟨6, _⟩ => ⟨S3x1024x2304, .f32⟩
  | .hbm, ⟨7, _⟩ => ⟨S3x1024x2304, .bf16⟩
  | .hbm, ⟨8, _⟩ => ⟨S3x1x2304, .f32⟩
  | .hbm, ⟨9, _⟩ => ⟨S3x1024x2304, .bf16⟩
  | .hbm, ⟨10, _⟩ => ⟨S3x1024x6144, .fp8e4m3⟩
  | .hbm, ⟨11, _⟩ => ⟨S3x1024x1, .f32⟩
  | .hbm, ⟨12, _⟩ => ⟨S3x1024x2304, .fp8e4m3⟩
  | .hbm, ⟨13, _⟩ => ⟨S3x1024x18, .f32⟩
  | .local _ .vmem, ⟨0, _⟩ => ⟨S3x1024x2304, .fp8e4m3⟩
  | .local _ .vmem, ⟨1, _⟩ => ⟨S3x1024x1, .f32⟩
  | .local _ .vmem, ⟨2, _⟩ => ⟨S2304x12288, .fp8e4m3⟩
  | .local _ .vmem, ⟨3, _⟩ => ⟨S1x12288, .f32⟩
  | .local _ .vmem, ⟨4, _⟩ => ⟨S6144x2304, .fp8e4m3⟩
  | .local _ .vmem, ⟨5, _⟩ => ⟨S1x2304, .f32⟩
  | .local _ .vmem, ⟨6, _⟩ => ⟨S3x1024x2304, .f32⟩
  | .local _ .vmem, ⟨7, _⟩ => ⟨S3x1024x2304, .bf16⟩
  | .local _ .vmem, ⟨8, _⟩ => ⟨S3x1x2304, .f32⟩
  | .local _ .vmem, ⟨9, _⟩ => ⟨S3x1024x2304, .bf16⟩
  | .local _ .vmem, ⟨10, _⟩ => ⟨S3x1024x6144, .fp8e4m3⟩
  | .local _ .vmem, ⟨11, _⟩ => ⟨S3x1024x1, .f32⟩
  | .local _ .vmem, ⟨12, _⟩ => ⟨S3x1024x2304, .fp8e4m3⟩
  | .local _ .vmem, ⟨13, _⟩ => ⟨S3x1024x18, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x1024x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1024x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1024x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1024x6144 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1024x2304 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1024x18 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Out.lean ====
abbrev S3x1024x2304 : Shape := ⟨3, ![3, 1024, 2304]⟩
abbrev S3x1024x1 : Shape := ⟨3, ![3, 1024, 1]⟩
abbrev S2304x2304 : Shape := ⟨2, ![2304, 2304]⟩
abbrev S1x2304 : Shape := ⟨2, ![1, 2304]⟩
abbrev S3x1x2304 : Shape := ⟨3, ![3, 1, 2304]⟩
abbrev S1x256x2304 : Shape := ⟨3, ![1, 256, 2304]⟩
abbrev S1x256x1 : Shape := ⟨3, ![1, 256, 1]⟩
abbrev S1x1x2304 : Shape := ⟨3, ![1, 1, 2304]⟩
abbrev S256x1 : Shape := ⟨2, ![256, 1]⟩
abbrev S256x2304 : Shape := ⟨2, ![256, 2304]⟩
abbrev S2304x256 : Shape := ⟨2, ![2304, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 11
  | .vmem => 19
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x2304, .fp8e4m3⟩
  | .hbm, ⟨3, _⟩ => ⟨S1x2304, .f32⟩
  | .hbm, ⟨4, _⟩ => ⟨S3x1024x2304, .bf16⟩
  | .hbm, ⟨5, _⟩ => ⟨S3x1x2304, .f32⟩
  | .hbm, ⟨6, _⟩ => ⟨S1x2304, .f32⟩
  | .hbm, ⟨7, _⟩ => ⟨S3x1x2304, .f32⟩
  | .hbm, ⟨8, _⟩ => ⟨S3x1024x2304, .f32⟩
  | .hbm, ⟨9, _⟩ => ⟨S3x1024x2304, .fp8e4m3⟩
  | .hbm, ⟨10, _⟩ => ⟨S3x1024x1, .f32⟩
  | .local _ .vmem, ⟨0, _⟩ => ⟨S1x256x2304, .fp8e4m3⟩
  | .local _ .vmem, ⟨1, _⟩ => ⟨S1x256x2304, .fp8e4m3⟩
  | .local _ .vmem, ⟨2, _⟩ => ⟨S1x256x1, .f32⟩
  | .local _ .vmem, ⟨3, _⟩ => ⟨S1x256x1, .f32⟩
  | .local _ .vmem, ⟨4, _⟩ => ⟨S2304x2304, .fp8e4m3⟩
  | .local _ .vmem, ⟨5, _⟩ => ⟨S1x2304, .f32⟩
  | .local _ .vmem, ⟨6, _⟩ => ⟨S1x256x2304, .bf16⟩
  | .local _ .vmem, ⟨7, _⟩ => ⟨S1x256x2304, .bf16⟩
  | .local _ .vmem, ⟨8, _⟩ => ⟨S1x1x2304, .f32⟩
  | .local _ .vmem, ⟨9, _⟩ => ⟨S1x1x2304, .f32⟩
  | .local _ .vmem, ⟨10, _⟩ => ⟨S1x2304, .f32⟩
  | .local _ .vmem, ⟨11, _⟩ => ⟨S1x1x2304, .f32⟩
  | .local _ .vmem, ⟨12, _⟩ => ⟨S1x1x2304, .f32⟩
  | .local _ .vmem, ⟨13, _⟩ => ⟨S1x256x2304, .f32⟩
  | .local _ .vmem, ⟨14, _⟩ => ⟨S1x256x2304, .f32⟩
  | .local _ .vmem, ⟨15, _⟩ => ⟨S1x256x2304, .fp8e4m3⟩
  | .local _ .vmem, ⟨16, _⟩ => ⟨S1x256x2304, .fp8e4m3⟩
  | .local _ .vmem, ⟨17, _⟩ => ⟨S1x256x1, .f32⟩
  | .local _ .vmem, ⟨18, _⟩ => ⟨S1x256x1, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2304 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutRefIdeal.lean ====
abbrev S3x1024x2304 : Shape := ⟨3, ![3, 1024, 2304]⟩
abbrev S3x1024x1 : Shape := ⟨3, ![3, 1024, 1]⟩
abbrev S2304x2304 : Shape := ⟨2, ![2304, 2304]⟩
abbrev S1x2304 : Shape := ⟨2, ![1, 2304]⟩
abbrev S3x1x2304 : Shape := ⟨3, ![3, 1, 2304]⟩
abbrev S3072x2304 : Shape := ⟨2, ![3072, 2304]⟩
abbrev S1x1x2304 : Shape := ⟨3, ![1, 1, 2304]⟩
abbrev S3x1024 : Shape := ⟨2, ![3, 1024]⟩

abbrev nBuf : Space → Nat
  | .hbm => 11
  | .vmem => 11
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x2304, .fp8e4m3⟩
  | .hbm, ⟨3, _⟩ => ⟨S1x2304, .f32⟩
  | .hbm, ⟨4, _⟩ => ⟨S3x1024x2304, .bf16⟩
  | .hbm, ⟨5, _⟩ => ⟨S3x1x2304, .f32⟩
  | .hbm, ⟨6, _⟩ => ⟨S1x2304, .f32⟩
  | .hbm, ⟨7, _⟩ => ⟨S3x1x2304, .f32⟩
  | .hbm, ⟨8, _⟩ => ⟨S3x1024x2304, .f32⟩
  | .hbm, ⟨9, _⟩ => ⟨S3x1024x2304, .fp8e4m3⟩
  | .hbm, ⟨10, _⟩ => ⟨S3x1024x1, .f32⟩
  | .local _ .vmem, ⟨0, _⟩ => ⟨S3x1024x2304, .fp8e4m3⟩
  | .local _ .vmem, ⟨1, _⟩ => ⟨S3x1024x1, .f32⟩
  | .local _ .vmem, ⟨2, _⟩ => ⟨S2304x2304, .fp8e4m3⟩
  | .local _ .vmem, ⟨3, _⟩ => ⟨S1x2304, .f32⟩
  | .local _ .vmem, ⟨4, _⟩ => ⟨S3x1024x2304, .bf16⟩
  | .local _ .vmem, ⟨5, _⟩ => ⟨S3x1x2304, .f32⟩
  | .local _ .vmem, ⟨6, _⟩ => ⟨S1x2304, .f32⟩
  | .local _ .vmem, ⟨7, _⟩ => ⟨S3x1x2304, .f32⟩
  | .local _ .vmem, ⟨8, _⟩ => ⟨S3x1024x2304, .f32⟩
  | .local _ .vmem, ⟨9, _⟩ => ⟨S3x1024x2304, .fp8e4m3⟩
  | .local _ .vmem, ⟨10, _⟩ => ⟨S3x1024x1, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x1024x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1024x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1024x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Qkv.lean ====
abbrev S3x1024x2304 : Shape := ⟨3, ![3, 1024, 2304]⟩
abbrev S3x1024x1 : Shape := ⟨3, ![3, 1024, 1]⟩
abbrev S2304x3456 : Shape := ⟨2, ![2304, 3456]⟩
abbrev S1x3456 : Shape := ⟨2, ![1, 3456]⟩
abbrev S3x1024x72 : Shape := ⟨3, ![3, 1024, 72]⟩
abbrev S72x128 : Shape := ⟨2, ![72, 128]⟩
abbrev S3x32x72x1024 : Shape := ⟨4, ![3, 32, 72, 1024]⟩
abbrev S3x1024x8x72 : Shape := ⟨4, ![3, 1024, 8, 72]⟩
abbrev S3x1024x8 : Shape := ⟨3, ![3, 1024, 8]⟩
abbrev S1x256x2304 : Shape := ⟨3, ![1, 256, 2304]⟩
abbrev S1x256x1 : Shape := ⟨3, ![1, 256, 1]⟩
abbrev S1x256x72 : Shape := ⟨3, ![1, 256, 72]⟩
abbrev S1x32x72x256 : Shape := ⟨4, ![1, 32, 72, 256]⟩
abbrev S1x256x8x72 : Shape := ⟨4, ![1, 256, 8, 72]⟩
abbrev S1x256x8 : Shape := ⟨3, ![1, 256, 8]⟩
abbrev S3456x256 : Shape := ⟨2, ![3456, 256]⟩
abbrev S2x72x128 : Shape := ⟨3, ![2, 72, 128]⟩
abbrev S2048x128 : Shape := ⟨2, ![2048, 128]⟩
abbrev S8x256 : Shape := ⟨2, ![8, 256]⟩
abbrev S256x1 : Shape := ⟨2, ![256, 1]⟩
abbrev S256x2304 : Shape := ⟨2, ![256, 2304]⟩
abbrev S256x72 : Shape := ⟨2, ![256, 72]⟩
abbrev S72x256 : Shape := ⟨2, ![72, 256]⟩
abbrev S36x128 : Shape := ⟨2, ![36, 128]⟩
abbrev S1x36x128 : Shape := ⟨3, ![1, 36, 128]⟩
abbrev S9x8x128 : Shape := ⟨3, ![9, 8, 128]⟩
abbrev S2304x256 : Shape := ⟨2, ![2304, 256]⟩
abbrev S256x256 : Shape := ⟨2, ![256, 256]⟩
abbrev S1x256 : Shape := ⟨2, ![1, 256]⟩
abbrev S128 : Shape := ⟨1, ![128]⟩
abbrev S1x128 : Shape := ⟨2, ![1, 128]⟩
abbrev S1x72x128 : Shape := ⟨3, ![1, 72, 128]⟩
abbrev S1x1x72x256 : Shape := ⟨4, ![1, 1, 72, 256]⟩
abbrev S256 : Shape := ⟨1, ![256]⟩
abbrev S56x256 : Shape := ⟨2, ![56, 256]⟩
abbrev S128x256 : Shape := ⟨2, ![128, 256]⟩
abbrev S256x128 : Shape := ⟨2, ![256, 128]⟩
abbrev S256x8x128 : Shape := ⟨3, ![256, 8, 128]⟩
abbrev S256x8x72 : Shape := ⟨3, ![256, 8, 72]⟩
abbrev S256x8 : Shape := ⟨2, ![256, 8]⟩

abbrev nBuf : Space → Nat
  | .hbm => 12
  | .vmem => 27
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x3456, .fp8e4m3⟩
  | .hbm, ⟨3, _⟩ => ⟨S1x3456, .f32⟩
  | .hbm, ⟨4, _⟩ => ⟨S3x1024x72, .f32⟩
  | .hbm, ⟨5, _⟩ => ⟨S72x128, .f32⟩
  | .hbm, ⟨6, _⟩ => ⟨S72x128, .f32⟩
  | .hbm, ⟨7, _⟩ => ⟨S3x32x72x1024, .bf16⟩
  | .hbm, ⟨8, _⟩ => ⟨S3x1024x8x72, .fp8e4m3⟩
  | .hbm, ⟨9, _⟩ => ⟨S3x1024x8, .f32⟩
  | .hbm, ⟨10, _⟩ => ⟨S3x1024x8x72, .fp8e4m3⟩
  | .hbm, ⟨11, _⟩ => ⟨S3x1024x8, .f32⟩
  | .local _ .vmem, ⟨0, _⟩ => ⟨S1x256x2304, .fp8e4m3⟩
  | .local _ .vmem, ⟨1, _⟩ => ⟨S1x256x2304, .fp8e4m3⟩
  | .local _ .vmem, ⟨2, _⟩ => ⟨S1x256x1, .f32⟩
  | .local _ .vmem, ⟨3, _⟩ => ⟨S1x256x1, .f32⟩
  | .local _ .vmem, ⟨4, _⟩ => ⟨S2304x3456, .fp8e4m3⟩
  | .local _ .vmem, ⟨5, _⟩ => ⟨S1x3456, .f32⟩
  | .local _ .vmem, ⟨6, _⟩ => ⟨S1x256x72, .f32⟩
  | .local _ .vmem, ⟨7, _⟩ => ⟨S1x256x72, .f32⟩
  | .local _ .vmem, ⟨8, _⟩ => ⟨S72x128, .f32⟩
  | .local _ .vmem, ⟨9, _⟩ => ⟨S72x128, .f32⟩
  | .local _ .vmem, ⟨10, _⟩ => ⟨S1x32x72x256, .bf16⟩
  | .local _ .vmem, ⟨11, _⟩ => ⟨S1x32x72x256, .bf16⟩
  | .local _ .vmem, ⟨12, _⟩ => ⟨S1x256x8x72, .fp8e4m3⟩
  | .local _ .vmem, ⟨13, _⟩ => ⟨S1x256x8x72, .fp8e4m3⟩
  | .local _ .vmem, ⟨14, _⟩ => ⟨S1x256x8, .f32⟩
  | .local _ .vmem, ⟨15, _⟩ => ⟨S1x256x8, .f32⟩
  | .local _ .vmem, ⟨16, _⟩ => ⟨S1x256x8x72, .fp8e4m3⟩
  | .local _ .vmem, ⟨17, _⟩ => ⟨S1x256x8x72, .fp8e4m3⟩
  | .local _ .vmem, ⟨18, _⟩ => ⟨S1x256x8, .f32⟩
  | .local _ .vmem, ⟨19, _⟩ => ⟨S1x256x8, .f32⟩
  | .local _ .vmem, ⟨20, _⟩ => ⟨S3456x256, .f32⟩
  | .local _ .vmem, ⟨21, _⟩ => ⟨S2x72x128, .f32⟩
  | .local _ .vmem, ⟨22, _⟩ => ⟨S2x72x128, .f32⟩
  | .local _ .vmem, ⟨23, _⟩ => ⟨S2048x128, .f32⟩
  | .local _ .vmem, ⟨24, _⟩ => ⟨S2048x128, .f32⟩
  | .local _ .vmem, ⟨25, _⟩ => ⟨S8x256, .f32⟩
  | .local _ .vmem, ⟨26, _⟩ => ⟨S8x256, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x72 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x72x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x8x72 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x8x72 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S3x1024x2304 : Shape := ⟨3, ![3, 1024, 2304]⟩
abbrev S3x1024x1 : Shape := ⟨3, ![3, 1024, 1]⟩
abbrev S2304x3456 : Shape := ⟨2, ![2304, 3456]⟩
abbrev S1x3456 : Shape := ⟨2, ![1, 3456]⟩
abbrev S3x1024x72 : Shape := ⟨3, ![3, 1024, 72]⟩
abbrev S72x128 : Shape := ⟨2, ![72, 128]⟩
abbrev S3x32x72x1024 : Shape := ⟨4, ![3, 32, 72, 1024]⟩
abbrev S3x1024x8x72 : Shape := ⟨4, ![3, 1024, 8, 72]⟩
abbrev S3x1024x8 : Shape := ⟨3, ![3, 1024, 8]⟩
abbrev S3072x2304 : Shape := ⟨2, ![3072, 2304]⟩
abbrev S3072x3456 : Shape := ⟨2, ![3072, 3456]⟩
abbrev S3x1024x3456 : Shape := ⟨3, ![3, 1024, 3456]⟩
abbrev S1x1x3456 : Shape := ⟨3, ![1, 1, 3456]⟩
abbrev S3x1024x48x72 : Shape := ⟨4, ![3, 1024, 48, 72]⟩
abbrev S3x1024x36 : Shape := ⟨3, ![3, 1024, 36]⟩
abbrev S3x1024x1x36 : Shape := ⟨4, ![3, 1024, 1, 36]⟩
abbrev S3x1024x32x72 : Shape := ⟨4, ![3, 1024, 32, 72]⟩
abbrev S128x72 : Shape := ⟨2, ![128, 72]⟩
abbrev S1x128x72 : Shape := ⟨3, ![1, 128, 72]⟩
abbrev S8x128x72 : Shape := ⟨3, ![8, 128, 72]⟩
abbrev S1x1024x1x72 : Shape := ⟨4, ![1, 1024, 1, 72]⟩
abbrev S3x1024x32 : Shape := ⟨3, ![3, 1024, 32]⟩
abbrev S3x1024x32x1 : Shape := ⟨4, ![3, 1024, 32, 1]⟩
abbrev S3x1024x32x36x2 : Shape := ⟨5, ![3, 1024, 32, 36, 2]⟩
abbrev S3x1024x32x36x1 : Shape := ⟨5, ![3, 1024, 32, 36, 1]⟩
abbrev S3x1024x32x36 : Shape := ⟨4, ![3, 1024, 32, 36]⟩
abbrev S3x1024x8x1 : Shape := ⟨4, ![3, 1024, 8, 1]⟩
abbrev S3x1024x8x36x2 : Shape := ⟨5, ![3, 1024, 8, 36, 2]⟩
abbrev S3x1024x8x36x1 : Shape := ⟨5, ![3, 1024, 8, 36, 1]⟩
abbrev S3x1024x8x36 : Shape := ⟨4, ![3, 1024, 8, 36]⟩

abbrev nBuf : Space → Nat
  | .hbm => 12
  | .vmem => 12
  | .smem => 0
  | _ => 0

abbrev bufTy : (tb : Table) → Fin (tcTables nBuf tb) → BufTy
  | .hbm, ⟨0, _⟩ => ⟨S3x1024x2304, .fp8e4m3⟩
  | .hbm, ⟨1, _⟩ => ⟨S3x1024x1, .f32⟩
  | .hbm, ⟨2, _⟩ => ⟨S2304x3456, .fp8e4m3⟩
  | .hbm, ⟨3, _⟩ => ⟨S1x3456, .f32⟩
  | .hbm, ⟨4, _⟩ => ⟨S3x1024x72, .f32⟩
  | .hbm, ⟨5, _⟩ => ⟨S72x128, .f32⟩
  | .hbm, ⟨6, _⟩ => ⟨S72x128, .f32⟩
  | .hbm, ⟨7, _⟩ => ⟨S3x32x72x1024, .bf16⟩
  | .hbm, ⟨8, _⟩ => ⟨S3x1024x8x72, .fp8e4m3⟩
  | .hbm, ⟨9, _⟩ => ⟨S3x1024x8, .f32⟩
  | .hbm, ⟨10, _⟩ => ⟨S3x1024x8x72, .fp8e4m3⟩
  | .hbm, ⟨11, _⟩ => ⟨S3x1024x8, .f32⟩
  | .local _ .vmem, ⟨0, _⟩ => ⟨S3x1024x2304, .fp8e4m3⟩
  | .local _ .vmem, ⟨1, _⟩ => ⟨S3x1024x1, .f32⟩
  | .local _ .vmem, ⟨2, _⟩ => ⟨S2304x3456, .fp8e4m3⟩
  | .local _ .vmem, ⟨3, _⟩ => ⟨S1x3456, .f32⟩
  | .local _ .vmem, ⟨4, _⟩ => ⟨S3x1024x72, .f32⟩
  | .local _ .vmem, ⟨5, _⟩ => ⟨S72x128, .f32⟩
  | .local _ .vmem, ⟨6, _⟩ => ⟨S72x128, .f32⟩
  | .local _ .vmem, ⟨7, _⟩ => ⟨S3x32x72x1024, .bf16⟩
  | .local _ .vmem, ⟨8, _⟩ => ⟨S3x1024x8x72, .fp8e4m3⟩
  | .local _ .vmem, ⟨9, _⟩ => ⟨S3x1024x8, .f32⟩
  | .local _ .vmem, ⟨10, _⟩ => ⟨S3x1024x8x72, .fp8e4m3⟩
  | .local _ .vmem, ⟨11, _⟩ => ⟨S3x1024x8, .f32⟩
  | _, _ => ⟨S3x1024x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3x1024x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x3456 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x32x72x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1024x8x72 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1024x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1024x8x72 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1024x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scale.lean ====
module
public import Idealize.ShloMosaic.Lib.Pointwise
public import Mathlib.Data.Fintype.Fin
@[expose] public section
set_option maxRecDepth 16384
noncomputable section
open Idealize.ShloMosaic

/-! # The power-of-two scale of a group

The kernel finds the exponent of a group's scale by counting the powers of two at most `m / 448`; the reference takes the
floor of a logarithm. Here the two are shown to be one number, and the bit patterns that the kernel builds from it to
denote the powers of two that the reference computes. Nothing here mentions a program. -/

namespace MlpScale

/-- The pattern of the constant `1 / 448`. -/
abbrev c448 : EReal := Ideal.ofBits .f32 991054117#32

/-- The exponent as the kernel counts it: how many of `2^-126 … 2^125` are at most `m / 448`, less 126. -/
def kexp (m : EReal) : BitVec 32 :=
  if m = 0 then 0#32 else
    IntOp.subi (Finset.fold IntOp.addi (0#32) (fun x : Fin 252 => BitVec.setWidth 32 (BitVec.ofBool (decide
      (Ideal.ofBits .f32 (IntOp.shli ArithUnit.vector (IntOp.addi (BitVec.ofNat 32 ↑x) 1#32) 23#32) ≤ m * c448)))) Finset.univ) 126#32

/-- The exponent as the reference states it: `⌊log (m / 448) / log 2⌋ + 1`, clipped. -/
def rexp (m : EReal) : EReal :=
  if m = 0 then 0 else
    min (Ideal.ofBits .f32 0x42FC0000#32) (max (Ideal.ofBits .f32 0xC2FC0000#32)
      (Ideal.liftRound Int.floor (Ideal.div (Ideal.log (m * c448)) (Ideal.log (Ideal.ofBits .f32 0x40000000#32))) + 1))

theorem c448_pos : ∃ c : ℝ, 0 < c ∧ c448 = (c : EReal) := by
  refine ⟨_, ?_, by simp [c448, Ideal.ofBits, Ideal.ieee, -EReal.coe_mul]; rfl⟩
  positivity

theorem ofBits_two : Ideal.ofBits .f32 0x40000000#32 = ((2 : ℝ) : EReal) := by
  simp [Ideal.ofBits, Ideal.ieee, -EReal.coe_mul]; norm_num

theorem ofBits_126 : Ideal.ofBits .f32 0x42FC0000#32 = (((126 : ℤ) : ℝ) : EReal) := by
  simp [Ideal.ofBits, Ideal.ieee, -EReal.coe_mul]; norm_num

theorem ofBits_neg126 : Ideal.ofBits .f32 0xC2FC0000#32 = (((-126 : ℤ) : ℝ) : EReal) := by
  simp [Ideal.ofBits, Ideal.ieee, -EReal.coe_mul, -EReal.coe_neg]; norm_num

/-- The fields of the pattern `n · 2^23`: exponent `n`, nothing else (all 254 of them, decided). -/
theorem fields : ∀ n : Fin 255, ((IntOp.shli ArithUnit.vector (BitVec.ofNat 32 ↑n) 23#32).extractLsb' 31 1 == 1#1) = false
    ∧ ((IntOp.shli ArithUnit.vector (BitVec.ofNat 32 ↑n) 23#32).extractLsb' 23 8).toNat = ↑n
    ∧ ((IntOp.shli ArithUnit.vector (BitVec.ofNat 32 ↑n) 23#32).extractLsb' 0 23).toNat = 0 := by
  decide +kernel

/-- The word `n` moved to the exponent field denotes `2^(n - 127)`. -/
theorem ofBits_pow2 (n : ℕ) (h1 : 1 ≤ n) (h2 : n ≤ 254) :
    Ideal.ofBits .f32 (IntOp.shli ArithUnit.vector (BitVec.ofNat 32 n) 23#32) = (((2 : ℝ) ^ ((n : ℤ) - 127) : ℝ) : EReal) := by
  obtain ⟨a, b, c⟩ := fields ⟨n, by omega⟩
  simp only at a b c
  have hne : ¬ (n = 2 ^ 8 - 1) := by omega
  have hn0 : ¬ (n = 0) := by omega
  show Ideal.ieee 8 23 _ = _
  unfold Ideal.ieee
  simp only [Nat.reduceAdd, a, b, c, if_neg hne, if_neg hn0]
  rw [EReal.coe_eq_coe_iff]
  have : ((n : ℤ) - (2 ^ (8 - 1) - 1) - ((23 : ℕ) : ℤ)) = ((n : ℤ) - 127) + (-23) := by norm_num; ring
  rw [this, zpow_add₀ (by norm_num)]
  norm_num
  ring

/-- A word count of the members of `Fin n` with a property. -/
theorem fold_count {n : ℕ} (p : Fin n → Prop) [DecidablePred p] (s : Finset (Fin n)) :
    Finset.fold IntOp.addi (0#32) (fun x => BitVec.setWidth 32 (BitVec.ofBool (decide (p x)))) s
      = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (by simp [ha])]
      simp [h, IntOp.addi, BitVec.ofNat_add, BitVec.add_comm]
    · rw [if_neg h]; simp [h, IntOp.addi]

/-- The threshold at place `x`. -/
theorem pow2_at (x : Fin 252) :
    Ideal.ofBits .f32 (IntOp.shli ArithUnit.vector (IntOp.addi (BitVec.ofNat 32 ↑x) 1#32) 23#32)
      = (((2 : ℝ) ^ ((x : ℤ) - 126) : ℝ) : EReal) := by
  have : IntOp.addi (BitVec.ofNat 32 ↑x) 1#32 = BitVec.ofNat 32 (↑x + 1) := by
    simp [IntOp.addi, BitVec.ofNat_add]
  rw [this, ofBits_pow2 _ (by omega) (by omega)]
  congr 2; push_cast; ring

/-- Both exponents are one integer between -126 and 126. -/
theorem exps (m : EReal) (hm : 0 ≤ m) :
    ∃ n : ℕ, n ≤ 252 ∧ kexp m = BitVec.ofNat 32 n - 126#32 ∧ rexp m = ((((n : ℤ) - 126 : ℤ) : ℝ) : EReal) := by
  by_cases h0 : m = 0
  · refine ⟨126, by norm_num, ?_, ?_⟩
    · simp [kexp, h0]
    · simp [rexp, h0]
  obtain ⟨c, hc, hcm⟩ := c448_pos
  have hl2 : Real.log 2 ≠ 0 := (Real.log_pos (by norm_num)).ne'
  have hlog2 : Ideal.log (Ideal.ofBits .f32 0x40000000#32) = ((Real.log 2 : ℝ) : EReal) := by
    rw [ofBits_two, Ideal.log_coe, if_neg (by norm_num)]
  unfold kexp rexp
  rw [if_neg h0, if_neg h0, fold_count, hlog2, Ideal.div_coe hl2, ofBits_126, ofBits_neg126]
  simp only [pow2_at, hcm]
  induction m using EReal.rec with
  | bot => simp at hm
  | top =>
    refine ⟨252, le_rfl, ?_, ?_⟩
    · rw [EReal.top_mul_coe_of_pos hc]; simp [IntOp.subi]
    · rw [EReal.top_mul_coe_of_pos hc, Ideal.log_top, EReal.top_mul_coe_of_pos (by have := Real.log_pos (show (1:ℝ) < 2 by norm_num); positivity)]
      simp only [Ideal.liftRound_top]
      rw [show (⊤ : EReal) + 1 = ⊤ from rfl, max_top_right, min_top_right]
      norm_num
  | coe r =>
    have hr : 0 < r := by
      rcases lt_or_eq_of_le (EReal.coe_nonneg.mp hm) with h | h
      · exact h
      · exact absurd (by rw [← h]; rfl) h0
    have ht : 0 < r * c := mul_pos hr hc
    rw [← EReal.coe_mul, Ideal.log_coe, if_neg (not_le.mpr ht), ← EReal.coe_mul, Ideal.liftRound_coe]
    have hq : Real.log (r * c) * (1 / Real.log 2) = Real.log (r * c) / Real.log 2 := mul_one_div _ _
    rw [hq]
    set q : ℤ := ⌊Real.log (r * c) / Real.log 2⌋ with hqd
    have key : ∀ x : Fin 252, (((2 : ℝ) ^ ((x : ℤ) - 126) : ℝ) : EReal) ≤ ((r * c : ℝ) : EReal) ↔ (x : ℕ) < (min (max (q + 127) 0) 252).toNat := by
      intro x
      rw [EReal.coe_le_coe_iff, ← Real.log_le_log_iff (by positivity) ht, Real.log_zpow,
        ← le_div_iff₀ (Real.log_pos (by norm_num)), ← Int.le_floor, ← hqd]
      omega
    refine ⟨(min (max (q + 127) 0) 252).toNat, by omega, ?_, ?_⟩
    · simp only [key, Fin.card_filter_val_lt]
      rw [min_eq_right (by omega)]; rfl
    · rw [show (1 : EReal) = (((1 : ℤ) : ℝ) : EReal) by norm_num, ← EReal.coe_add, ← Int.cast_add,
        ← EReal.coe_strictMono.monotone.map_max, ← EReal.coe_strictMono.monotone.map_min, ← Int.cast_max, ← Int.cast_min]
      congr 2
      omega

/-- The scale that the kernel writes: the pattern whose exponent field is `e + 127`, the value `2^e`. -/
theorem up_eq (m : EReal) (hm : 0 ≤ m) :
    Ideal.ofBits .f32 (IntOp.shli ArithUnit.vector (IntOp.addi (kexp m) 127#32) 23#32) = Ideal.exp2 (rexp m) := by
  obtain ⟨n, hn, hk, hr⟩ := exps m hm
  have hb : IntOp.addi (kexp m) 127#32 = BitVec.ofNat 32 (n + 1) := by
    rw [hk]; apply BitVec.eq_of_toNat_eq; simp [IntOp.addi]; omega
  rw [hb, hr, ofBits_pow2 _ (by omega) (by omega), Ideal.exp2_coe]
  congr 1
  show _ = (2 : ℝ) ^ ((((n : ℤ) - 126 : ℤ)) : ℝ)
  rw [Real.rpow_intCast]; congr 1; push_cast; ring

/-- Its reciprocal likewise: the exponent field `127 - e`, the value `2^-e`. -/
theorem down_eq (m : EReal) (hm : 0 ≤ m) :
    Ideal.ofBits .f32 (IntOp.shli ArithUnit.vector (IntOp.subi 127#32 (kexp m)) 23#32) = Ideal.exp2 (0 - rexp m) := by
  obtain ⟨n, hn, hk, hr⟩ := exps m hm
  have hb : IntOp.subi 127#32 (kexp m) = BitVec.ofNat 32 (253 - n) := by
    rw [hk]; apply BitVec.eq_of_toNat_eq; simp [IntOp.subi]; omega
  rw [hb, hr, ofBits_pow2 _ (by omega) (by omega), show (0 : EReal) = ((0 : ℝ) : EReal) from rfl, ← EReal.coe_sub, Ideal.exp2_coe]
  congr 1
  show _ = (2 : ℝ) ^ (0 - ((((n : ℤ) - 126 : ℤ)) : ℝ))
  rw [zero_sub, ← Int.cast_neg, Real.rpow_intCast]; congr 1; omega

/-- A maximum of absolute values is not negative. -/
theorem fold_abs_nonneg {n : ℕ} (b : EReal) (f : Fin (n + 1) → EReal) :
    0 ≤ Finset.fold max b (fun x => FloatOps.absf (F := Ideal) (φ := .f32) (f x)) Finset.univ := by
  rw [Finset.le_fold_max]
  right
  refine ⟨0, Finset.mem_univ _, ?_⟩
  show 0 ≤ max (f 0) (-(f 0))
  rcases le_total 0 (f 0) with h | h
  · exact le_max_of_le_left h
  · exact le_max_of_le_right (EReal.neg_nonneg.mpr h)

end MlpScale
end
-- ==== Proof.Rows.lean ====
module
public import proofs.«01_k».proof.Proof.Scale
@[expose] public section
set_option maxRecDepth 16384
noncomputable section
open Idealize.ShloMosaic

/-! # One token's row through the block

Everything the call computes for a token depends on that token's row alone. Here is that computation for one row, by
coordinates: both programs are read as these functions. -/

namespace MlpRow

/-- The data of one token: its codes and their scale, its residual row, the row it is compared with, and the weights. -/
structure Row where
  h : Fin 2304 → EReal
  hs : EReal
  w : Fin 2304 → Fin 12288 → EReal
  s : Fin 12288 → EReal
  wd : Fin 6144 → Fin 2304 → EReal
  sd : Fin 2304 → EReal
  x1 : Fin 2304 → EReal
  xa : Fin 2304 → EReal
  gm : Fin 2304 → EReal

/-- The absolute value as the programs take it. -/
abbrev av (x : EReal) : EReal := FloatOps.absf (F := Ideal) (φ := .f32) x

/-- The largest absolute value of a family. -/
def amax {n : ℕ} (f : Fin n → EReal) : EReal := Finset.fold max (Ideal.ofBits .f32 4286578688#32) (fun k => av (f k)) Finset.univ

/-- The scale of a row with largest absolute value `a`. -/
def scaleOf (a : EReal) : EReal := if a = 0 then 1 else Ideal.div a (Ideal.ofBits .f32 0x43E00000#32)

/-- Clipping to the range of the codes. -/
def clip (x : EReal) : EReal := min (Ideal.ofBits .f32 0x43E00000#32) (max (Ideal.ofBits .f32 0xC3E00000#32) x)

variable (R : Row)

/-- The dequantised projection of the row. -/
def lin (k : Fin 12288) : EReal := (∑ d : Fin 2304, R.h d * R.w d k) * R.hs * R.s k

/-- The place of the gate column `k`, and of the up column `k`. -/
abbrev gcol (k : Fin 6144) : Fin 12288 := ⟨k, by omega⟩
abbrev ucol (k : Fin 6144) : Fin 12288 := ⟨6144 + k, by omega⟩

/-- The activation. -/
def act (k : Fin 6144) : EReal := lin R (gcol k) * Ideal.logistic (lin R (gcol k)) * lin R (ucol k)

/-- The activation's scale and codes. -/
def asc : EReal := scaleOf (amax (act R))
def code (k : Fin 6144) : EReal := clip (Ideal.div (act R k) (asc R))

/-- The row after the down projection. -/
def x2 (n : Fin 2304) : EReal := R.x1 n + R.gm n * ((∑ k : Fin 6144, code R k * R.wd k n) * asc R * R.sd n)

/-- Its difference from the row it is compared with. -/
def delta (n : Fin 2304) : EReal := x2 R n - R.xa n

/-- Lane `l` of group `g`. -/
abbrev lane (g : Fin 18) (l : Fin 128) : Fin 2304 := ⟨g * 128 + l, by omega⟩

/-- A group's largest absolute difference, its scale and its codes. -/
def gmax (g : Fin 18) : EReal := amax fun l => delta R (lane g l)
def nsc (g : Fin 18) : EReal := Ideal.exp2 (MlpScale.rexp (gmax R g))
def ncode (g : Fin 18) (l : Fin 128) : EReal := clip (delta R (lane g l) * Ideal.exp2 (0 - MlpScale.rexp (gmax R g)))

theorem gmax_nonneg (g : Fin 18) : 0 ≤ gmax R g := MlpScale.fold_abs_nonneg _ _

theorem ninf : Ideal.ofBits .f32 4286578688#32 = ⊥ := by simp [Ideal.ofBits, Ideal.ieee]

/-- `m` is the largest of `0` and the absolute values of the first `n` members. -/
def IsMx {N : ℕ} (f : Fin N → EReal) (n : ℕ) (m : EReal) : Prop :=
  ∀ b, m ≤ b ↔ 0 ≤ b ∧ ∀ k : Fin N, k < n → av (f k) ≤ b

theorem IsMx.zero {N : ℕ} (f : Fin N → EReal) : IsMx f 0 0 := fun b => by simp

/-- The next chunk's maximum joined in. -/
theorem IsMx.step {N n p : ℕ} {f : Fin N → EReal} {m : EReal} (h : IsMx f n m) (g : Fin p → EReal)
    (hp : n + p ≤ N) (hg : ∀ j : Fin p, g j = f ⟨n + j, by omega⟩) : IsMx f (n + p) (max m (amax g)) := by
  intro b
  rw [max_le_iff, h b, amax, Finset.fold_max_le, ninf]
  constructor
  · rintro ⟨⟨h0, h1⟩, -, h2⟩
    refine ⟨h0, fun k hk => ?_⟩
    by_cases hkn : (k : ℕ) < n
    · exact h1 k hkn
    · have := h2 ⟨k - n, by omega⟩ (Finset.mem_univ _)
      rw [hg] at this
      convert this using 3
      exact Fin.ext (by simp; omega)
  · rintro ⟨h0, h1⟩
    refine ⟨⟨h0, fun k hk => h1 k (by omega)⟩, bot_le, fun j _ => ?_⟩
    rw [hg]
    exact h1 _ (by simp)

/-- The whole family's. -/
theorem IsMx.all {N : ℕ} {f : Fin (N + 1) → EReal} {m : EReal} (h : IsMx f (N + 1) m) : m = amax f := by
  refine eq_of_forall_ge_iff fun b => ?_
  rw [h b, amax, Finset.fold_max_le, ninf]
  constructor
  · rintro ⟨-, h1⟩
    exact ⟨bot_le, fun k _ => h1 k k.isLt⟩
  · rintro ⟨-, h1⟩
    refine ⟨?_, fun k _ => h1 k (Finset.mem_univ _)⟩
    refine le_trans ?_ (h1 0 (Finset.mem_univ _))
    show 0 ≤ max (f 0) (-(f 0))
    rcases le_total 0 (f 0) with h | h
    · exact le_max_of_le_left h
    · exact le_max_of_le_right (EReal.neg_nonneg.mpr h)

end MlpRow
end
-- ==== Proof.Block.lean ====
module
public import proofs.«01_k».proof.Proof.Rows
public import proofs.«01_k».proof.Proof.Gen.MlpIdeal.Skeleton
@[expose] public section
set_option maxRecDepth 16384
noncomputable section
open Idealize.ShloMosaic Idealize.ShloMosaic.TcCoe Idealize.SL.Sem

/-! # The body's vector expressions

The body repeats a few expressions for every chunk of columns. Each is written here once, over any operands, and read
at an index. -/

namespace Cert.MlpIdeal.Value
open Cert.MlpIdeal Cert.MlpIdeal.Gen

/-- A chunk of the projection, dequantised. -/
def linV (v1 : FVec Ideal S128x1 .f32) (v3 : FVec Ideal S128x2304 .fp8e4m3) (w : FVec Ideal S2304x256 .fp8e4m3) (s : FVec Ideal S1x256 .f32) : FVec Ideal S128x256 .f32 :=
  mulf (mulf (matmul dot_S128x2304_S2304x256_S128x256_1_0_0_1_n_n none v3 w (constant S128x256 .f32 0x00000000#32))
    (broadcastTo S128x256 v1 broadcasts_S128x1_S128x256)) (broadcastTo S128x256 s broadcasts_S1x256_S128x256)

/-- A chunk of the activation from its gate and up chunks. -/
def actV (g u : FVec Ideal S128x256 .f32) : FVec Ideal S128x256 .f32 := mulf (mulf g (logistic g)) u

/-- The running maximum joined with a chunk's. -/
def mxV (a : FVec Ideal S128x1 .f32) (v : FVec Ideal S128x256 .f32) : FVec Ideal S128x1 .f32 :=
  maximumf a (shapeCast S128x1 (multiReduction .maximumf [1] S128 (absf v) 0xFF800000#32 reduces_S128x256_S128 (.inl rfl) rfl) shapeCasts_S128_S128x1)

/-- The scale of the rows with these maxima. -/
def ascV (a : FVec Ideal S128x1 .f32) : FVec Ideal S128x1 .f32 :=
  select (cmpf .oeq a (broadcast S128x1 (Scalar.ofBits .f32 0x00000000#32))) (broadcast S128x1 (Scalar.ofBits .f32 0x3F800000#32))
    (divf a (broadcast S128x1 (Scalar.ofBits .f32 0x43E00000#32)))

/-- A chunk's codes. -/
def codeV (asc : FVec Ideal S128x1 .f32) (a : FVec Ideal S128x256 .f32) : FVec Ideal S1x128x256 .fp8e4m3 :=
  shapeCast S1x128x256 (truncf .fp8e4m3 (minimumf (broadcast S128x256 (Scalar.ofBits .f32 0x43E00000#32))
    (maximumf (broadcast S128x256 (Scalar.ofBits .f32 0xC3E00000#32)) (divf a (broadcastTo S128x256 asc broadcasts_S128x1_S128x256)))) bitsLt_fp8e4m3_f32)
    shapeCasts_S128x256_S1x128x256

/-- A chunk of the rows after the down projection. -/
def x2V (asc : FVec Ideal S128x1 .f32) (ac : FVec Ideal S1x128x6144 .fp8e4m3) (w : FVec Ideal S6144x256 .fp8e4m3)
    (x1 : FVec Ideal S1x128x256 .f32) (gm : FVec Ideal S1x1x256 .f32) (sd : FVec Ideal S1x256 .f32) : FVec Ideal S128x256 .f32 :=
  addf (shapeCast S128x256 x1 shapeCasts_S1x128x256_S128x256)
    (mulf (broadcastTo S128x256 (shapeCast S1x256 gm shapeCasts_S1x1x256_S1x256) broadcasts_S1x256_S128x256)
      (mulf (mulf (matmul dot_S128x6144_S6144x256_S128x256_1_0_0_1_n_n none (shapeCast S128x6144 ac shapeCasts_S1x128x6144_S128x6144) w
        (constant S128x256 .f32 0x00000000#32)) (broadcastTo S128x256 asc broadcasts_S128x1_S128x256)) (broadcastTo S128x256 sd broadcasts_S1x256_S128x256)))

/-- What is stored of it. -/
def yaV (x2 : FVec Ideal S128x256 .f32) : FVec Ideal S1x128x256 .bf16 :=
  shapeCast S1x128x256 (truncf .bf16 x2 bitsLt_bf16_f32) shapeCasts_S128x256_S1x128x256

/-- The difference, and its two groups. -/
def delV (x2 : FVec Ideal S128x256 .f32) (xa : FVec Ideal S1x128x256 .bf16) : FVec Ideal S128x256 .f32 :=
  subf x2 (extf .f32 (shapeCast S128x256 xa shapeCasts_S1x128x256_S128x256) bitsLt_bf16_f32)
def lowV (d : FVec Ideal S128x256 .f32) : FVec Ideal S128x128 .f32 := extractStridedSlice S128x128 ![0, 0] d slices_S128x256_o0_0_S128x128
def highV (d : FVec Ideal S128x256 .f32) : FVec Ideal S128x128 .f32 := extractStridedSlice S128x128 ![0, 128] d slices_S128x256_o0_128_S128x128

/-- A group's largest absolute values. -/
def gmxV (v : FVec Ideal S128x128 .f32) : FVec Ideal S128x1 .f32 :=
  shapeCast S128x1 (multiReduction .maximumf [1] S128 (absf v) 0xFF800000#32 reduces_S128x128_S128 (.inl rfl) rfl) shapeCasts_S128_S128x1

/-- The exponents from the maxima. -/
def expV (p : FVec Ideal S1x252 .f32) (m : FVec Ideal S128x1 .f32) : IVec S128x1 32 :=
  select (cmpf .oeq m (broadcast S128x1 (Scalar.ofBits .f32 0x00000000#32))) (broadcast S128x1 0#32)
    (subi (shapeCast S128x1 (multiReductionI .add [1] S128 (extui 32 (cmpf .oge
      (broadcastTo S128x252 (mulf m (broadcast S128x1 (Scalar.ofBits .f32 0x3B124925#32))) broadcasts_S128x1_S128x252)
      (broadcastTo S128x252 p broadcasts_S1x252_S128x252)) natLt_1_32) 0#32 reduces_S128x252_S128 rfl) shapeCasts_S128_S128x1) (broadcast S128x1 126#32))

/-- The scales stored, and the codes. -/
def nsV (e : IVec S128x1 32) : FVec Ideal S1x128x1 .f32 :=
  shapeCast S1x128x1 (bitcastToFloat (F := Ideal) .f32 (shli (addi e (broadcast S128x1 127#32)) (broadcast S128x1 23#32))) shapeCasts_S128x1_S1x128x1
def ncV (v : FVec Ideal S128x128 .f32) (e : IVec S128x1 32) : FVec Ideal S1x128x128 .fp8e4m3 :=
  shapeCast S1x128x128 (truncf .fp8e4m3 (minimumf (broadcast S128x128 (Scalar.ofBits .f32 0x43E00000#32))
    (maximumf (broadcast S128x128 (Scalar.ofBits .f32 0xC3E00000#32)) (mulf v (broadcastTo S128x128
      (bitcastToFloat (F := Ideal) .f32 (shli (subi (broadcast S128x1 127#32) e) (broadcast S128x1 23#32))) broadcasts_S128x1_S128x128)))) bitsLt_fp8e4m3_f32)
    shapeCasts_S128x128_S1x128x128

/-! ## Read at an index -/

theorem linV_at (v1 v3 w s) (r : Fin 128) (j : Fin 256) :
    linV v1 v3 w s (ix2 r j) = (∑ d : Fin 2304, v3 (ix2 r d) * w (ix2 d j)) * v1 (ix2 r 0) * s (ix2 0 j) := by
  pointwise [linV]

theorem actV_at (g u) (r : Fin 128) (j : Fin 256) :
    actV g u (ix2 r j) = g (ix2 r j) * Ideal.logistic (g (ix2 r j)) * u (ix2 r j) := by
  pointwise [actV]

theorem mxV_at (a v) (r : Fin 128) : mxV a v (ix2 r 0) = max (a (ix2 r 0)) (MlpRow.amax fun j : Fin 256 => v (ix2 r j)) := by
  unfold MlpRow.amax
  pointwise [mxV]

theorem ascV_at (a) (r : Fin 128) : ascV a (ix2 r 0) = MlpRow.scaleOf (a (ix2 r 0)) := by
  unfold MlpRow.scaleOf
  pointwise [ascV]

theorem codeV_at (asc a) (r : Fin 128) (j : Fin 256) :
    codeV asc a (ix3 0 r j) = MlpRow.clip (Ideal.div (a (ix2 r j)) (asc (ix2 r 0))) := by
  unfold MlpRow.clip
  pointwise [codeV]

theorem x2V_at (asc ac w x1 gm sd) (r : Fin 128) (j : Fin 256) :
    x2V asc ac w x1 gm sd (ix2 r j) = x1 (ix3 0 r j) + gm (ix3 0 0 j) * ((∑ k : Fin 6144, ac (ix3 0 r k) * w (ix2 k j)) * asc (ix2 r 0) * sd (ix2 0 j)) := by
  pointwise [x2V]

theorem yaV_at (x2) (r : Fin 128) (j : Fin 256) : yaV x2 (ix3 0 r j) = x2 (ix2 r j) := by
  pointwise [yaV]

theorem delV_at (x2 xa) (r : Fin 128) (j : Fin 256) : delV x2 xa (ix2 r j) = x2 (ix2 r j) - xa (ix3 0 r j) := by
  pointwise [delV]

theorem lowV_at (d) (r : Fin 128) (l : Fin 128) : lowV d (ix2 r l) = d (ix2 r ⟨l, by omega⟩) := by
  pointwise [lowV]

theorem highV_at (d) (r : Fin 128) (l : Fin 128) : highV d (ix2 r l) = d (ix2 r ⟨128 + l, by omega⟩) := by
  pointwise [highV]

theorem gmxV_at (v) (r : Fin 128) : gmxV v (ix2 r 0) = MlpRow.amax fun l : Fin 128 => v (ix2 r l) := by
  unfold MlpRow.amax
  pointwise [gmxV]

theorem expV_at (m) (r : Fin 128) : expV k0_pay4 m (ix2 r 0) = MlpScale.kexp (m (ix2 r 0)) := by
  unfold MlpScale.kexp
  pointwise [expV, k0_pay4]

theorem nsV_at (e) (r : Fin 128) :
    nsV e (ix3 0 r 0) = Ideal.ofBits .f32 (IntOp.shli ArithUnit.vector (IntOp.addi (e (ix2 r 0)) 127#32) 23#32) := by
  pointwise [nsV]

theorem ncV_at (v e) (r : Fin 128) (l : Fin 128) :
    ncV v e (ix3 0 r l) = MlpRow.clip (v (ix2 r l) * Ideal.ofBits .f32 (IntOp.shli ArithUnit.vector (IntOp.subi 127#32 (e (ix2 r 0))) 23#32)) := by
  unfold MlpRow.clip
  pointwise [ncV]

end Cert.MlpIdeal.Value
end
-- ==== Proof.Chunks.lean ====
module
public import proofs.«01_k».proof.Proof.Block
public import Idealize.ShloMosaic.Lib.Pipeline.ValueKit
@[expose] public section
set_option maxRecDepth 16384
noncomputable section
open Idealize.ShloMosaic Idealize.ShloMosaic.TcCoe Idealize.SL.Sem

/-! # The chunks of one block of rows

A grid point works on 128 rows. Its chunks of columns are read here as the row functions of those rows. -/

namespace Cert.MlpIdeal.Value
open Cert.MlpIdeal Cert.MlpIdeal.Gen

variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

/-- Row `r` of the blocks. -/
def rowB (r : Fin 128) : MlpRow.Row where
  h d := x0 (ix3 0 r d)
  hs := x1 (ix3 0 r 0)
  w d k := x2 (ix2 d k)
  s k := x3 (ix2 0 k)
  wd k n := x4 (ix2 k n)
  sd n := x5 (ix2 0 n)
  x1 n := x6 (ix3 0 r n)
  xa n := x7 (ix3 0 r n)
  gm n := x8 (ix3 0 0 n)

theorem pay2_at (r : Fin 128) : k0_pay2 x1 (ix2 r 0) = x1 (ix3 0 r 0) := by pointwise [k0_pay2]
theorem pay3_at (r : Fin 128) (d : Fin 2304) : k0_pay3 x0 (ix2 r d) = x0 (ix3 0 r d) := by pointwise [k0_pay3]

theorem ldw_at (o : ℕ) (inb) (d : Fin 2304) (j : Fin 256) (k : Fin 12288) (hk : (k : ℕ) = o + j) :
    View.ld x2 (Rect.unit ![0, o] ![2304, 256] inb) (ix2 d j) = x2 (ix2 d k) :=
  View.ld_unit_apply_of x2 _ _ inb _ _ (by intro a; fin_cases a <;> simp [hk])

theorem lds_at (o : ℕ) (inb) (j : Fin 256) (k : Fin 12288) (hk : (k : ℕ) = o + j) :
    View.ld x3 (Rect.unit ![0, o] ![1, 256] inb) (ix2 0 j) = x3 (ix2 0 k) :=
  View.ld_unit_apply_of x3 _ _ inb _ _ (by intro a; fin_cases a <;> simp [hk])

theorem ldd_at (o : ℕ) (inb) (d : Fin 6144) (j : Fin 256) (k : Fin 2304) (hk : (k : ℕ) = o + j) :
    View.ld x4 (Rect.unit ![0, o] ![6144, 256] inb) (ix2 d j) = x4 (ix2 d k) :=
  View.ld_unit_apply_of x4 _ _ inb _ _ (by intro a; fin_cases a <;> simp [hk])

theorem ldsd_at (o : ℕ) (inb) (j : Fin 256) (k : Fin 2304) (hk : (k : ℕ) = o + j) :
    View.ld x5 (Rect.unit ![0, o] ![1, 256] inb) (ix2 0 j) = x5 (ix2 0 k) :=
  View.ld_unit_apply_of x5 _ _ inb _ _ (by intro a; fin_cases a <;> simp [hk])

theorem ldx_at (o : ℕ) (inb) (r : Fin 128) (j : Fin 256) (k : Fin 2304) (hk : (k : ℕ) = o + j) :
    View.ld x6 (Rect.unit ![0, 0, o] ![1, 128, 256] inb) (ix3 0 r j) = x6 (ix3 0 r k) :=
  View.ld_unit_apply_of x6 _ _ inb _ _ (by intro a; fin_cases a <;> simp [hk])

theorem ldxa_at (o : ℕ) (inb) (r : Fin 128) (j : Fin 256) (k : Fin 2304) (hk : (k : ℕ) = o + j) :
    View.ld x7 (Rect.unit ![0, 0, o] ![1, 128, 256] inb) (ix3 0 r j) = x7 (ix3 0 r k) :=
  View.ld_unit_apply_of x7 _ _ inb _ _ (by intro a; fin_cases a <;> simp [hk])

theorem ldgm_at (o : ℕ) (inb) (j : Fin 256) (k : Fin 2304) (hk : (k : ℕ) = o + j) :
    View.ld x8 (Rect.unit ![0, 0, o] ![1, 1, 256] inb) (ix3 0 0 j) = x8 (ix3 0 0 k) :=
  View.ld_unit_apply_of x8 _ _ inb _ _ (by intro a; fin_cases a <;> simp [hk])

/-- A chunk of the projection. -/
theorem linC_at (o : ℕ) (inb inb') (r : Fin 128) (j : Fin 256) (k : Fin 12288) (hk : (k : ℕ) = o + j) :
    linV (k0_pay2 x1) (k0_pay3 x0) (View.ld x2 (Rect.unit ![0, o] ![2304, 256] inb)) (View.ld x3 (Rect.unit ![0, o] ![1, 256] inb')) (ix2 r j)
      = MlpRow.lin ((rowB x0 x1 x2 x3 x4 x5 x6 x7 x8) r) k := by
  rw [linV_at]
  simp only [pay2_at, pay3_at, ldw_at x2 o inb _ j k hk, lds_at x3 o inb' j k hk]
  rfl

/-- A chunk of the activation. -/
theorem actC_at (o p : ℕ) (hp : p = 6144 + o) (inb inb' inb'' inb''') (r : Fin 128) (j : Fin 256) (k : Fin 6144) (hk : (k : ℕ) = o + j) :
    actV (linV (k0_pay2 x1) (k0_pay3 x0) (View.ld x2 (Rect.unit ![0, o] ![2304, 256] inb)) (View.ld x3 (Rect.unit ![0, o] ![1, 256] inb')))
      (linV (k0_pay2 x1) (k0_pay3 x0) (View.ld x2 (Rect.unit ![0, p] ![2304, 256] inb'')) (View.ld x3 (Rect.unit ![0, p] ![1, 256] inb'''))) (ix2 r j)
      = MlpRow.act ((rowB x0 x1 x2 x3 x4 x5 x6 x7 x8) r) k := by
  rw [actV_at, linC_at x0 x1 x2 x3 x4 x5 x6 x7 x8 o inb inb' r j (MlpRow.gcol k) hk,
    linC_at x0 x1 x2 x3 x4 x5 x6 x7 x8 p inb'' inb''' r j (MlpRow.ucol k) (by simp [hk, hp, Nat.add_assoc])]
  rfl

/-- The running maximum after one more chunk. -/
theorem mx_step (n : ℕ) (hn : n + 256 ≤ 6144) (M : FVec Ideal S128x1 .f32) (V : FVec Ideal S128x256 .f32)
    (h : ∀ r, MlpRow.IsMx (MlpRow.act ((rowB x0 x1 x2 x3 x4 x5 x6 x7 x8) r)) n (M (ix2 r 0)))
    (hV : ∀ r (j : Fin 256) (k : Fin 6144), (k : ℕ) = n + j → V (ix2 r j) = MlpRow.act ((rowB x0 x1 x2 x3 x4 x5 x6 x7 x8) r) k) :
    ∀ r, MlpRow.IsMx (MlpRow.act ((rowB x0 x1 x2 x3 x4 x5 x6 x7 x8) r)) (n + 256) (mxV M V (ix2 r 0)) := fun r => by
  rw [mxV_at]
  exact (h r).step _ hn fun j => hV r j _ rfl

/-- The scale once every chunk is in. -/
theorem asc_of (M : FVec Ideal S128x1 .f32) (h : ∀ r, MlpRow.IsMx (MlpRow.act ((rowB x0 x1 x2 x3 x4 x5 x6 x7 x8) r)) 6144 (M (ix2 r 0))) (r : Fin 128) :
    ascV M (ix2 r 0) = MlpRow.asc ((rowB x0 x1 x2 x3 x4 x5 x6 x7 x8) r) := by
  rw [ascV_at, (h r).all]; rfl

/-- The scale as it is stored. -/
theorem asc3_of (M : FVec Ideal S128x1 .f32) (h : ∀ r, MlpRow.IsMx (MlpRow.act ((rowB x0 x1 x2 x3 x4 x5 x6 x7 x8) r)) 6144 (M (ix2 r 0))) (r : Fin 128) :
    shapeCast S1x128x1 (ascV M) shapeCasts_S128x1_S1x128x1 (ix3 0 r 0) = MlpRow.asc ((rowB x0 x1 x2 x3 x4 x5 x6 x7 x8) r) := by
  rw [← asc_of x0 x1 x2 x3 x4 x5 x6 x7 x8 M h r]
  pointwise

/-- A chunk of the codes. -/
theorem codeC_at (asc : FVec Ideal S128x1 .f32) (V : FVec Ideal S128x256 .f32) (r : Fin 128) (j : Fin 256) (k : Fin 6144)
    (hasc : asc (ix2 r 0) = MlpRow.asc ((rowB x0 x1 x2 x3 x4 x5 x6 x7 x8) r)) (hV : V (ix2 r j) = MlpRow.act ((rowB x0 x1 x2 x3 x4 x5 x6 x7 x8) r) k) :
    codeV asc V (ix3 0 r j) = MlpRow.code ((rowB x0 x1 x2 x3 x4 x5 x6 x7 x8) r) k := by
  rw [codeV_at, hasc, hV]; rfl

/-- A chunk of the rows after the down projection. -/
theorem x2C_at (o : ℕ) (asc : FVec Ideal S128x1 .f32) (AC : FVec Ideal S1x128x6144 .fp8e4m3) (i1 i2 i3 i4) (r : Fin 128)
    (hasc : asc (ix2 r 0) = MlpRow.asc ((rowB x0 x1 x2 x3 x4 x5 x6 x7 x8) r)) (hAC : ∀ k, AC (ix3 0 r k) = MlpRow.code ((rowB x0 x1 x2 x3 x4 x5 x6 x7 x8) r) k)
    (j : Fin 256) (n : Fin 2304) (hn : (n : ℕ) = o + j) :
    x2V asc AC (View.ld x4 (Rect.unit ![0, o] ![6144, 256] i1)) (View.ld x6 (Rect.unit ![0, 0, o] ![1, 128, 256] i2))
      (View.ld x8 (Rect.unit ![0, 0, o] ![1, 1, 256] i3)) (View.ld x5 (Rect.unit ![0, o] ![1, 256] i4)) (ix2 r j) = MlpRow.x2 ((rowB x0 x1 x2 x3 x4 x5 x6 x7 x8) r) n := by
  rw [x2V_at]
  simp only [hasc, hAC, ldx_at x6 o i2 r j n hn, ldgm_at x8 o i3 j n hn, ldd_at x4 o i1 _ j n hn, ldsd_at x5 o i4 j n hn]
  rfl

theorem yaC_at (o : ℕ) (asc : FVec Ideal S128x1 .f32) (AC : FVec Ideal S1x128x6144 .fp8e4m3) (i1 i2 i3 i4) (r : Fin 128)
    (hasc : asc (ix2 r 0) = MlpRow.asc ((rowB x0 x1 x2 x3 x4 x5 x6 x7 x8) r)) (hAC : ∀ k, AC (ix3 0 r k) = MlpRow.code ((rowB x0 x1 x2 x3 x4 x5 x6 x7 x8) r) k)
    (j : Fin 256) (n : Fin 2304) (hn : (n : ℕ) = o + j) :
    yaV (x2V asc AC (View.ld x4 (Rect.unit ![0, o] ![6144, 256] i1)) (View.ld x6 (Rect.unit ![0, 0, o] ![1, 128, 256] i2))
      (View.ld x8 (Rect.unit ![0, 0, o] ![1, 1, 256] i3)) (View.ld x5 (Rect.unit ![0, o] ![1, 256] i4))) (ix3 0 r j) = MlpRow.x2 ((rowB x0 x1 x2 x3 x4 x5 x6 x7 x8) r) n := by
  rw [yaV_at]
  exact x2C_at x0 x1 x2 x3 x4 x5 x6 x7 x8 o asc AC i1 i2 i3 i4 r hasc hAC j n hn

/-- A chunk of the differences. -/
theorem delC_at (o : ℕ) (asc : FVec Ideal S128x1 .f32) (AC : FVec Ideal S1x128x6144 .fp8e4m3) (i1 i2 i3 i4 i5) (r : Fin 128)
    (hasc : asc (ix2 r 0) = MlpRow.asc ((rowB x0 x1 x2 x3 x4 x5 x6 x7 x8) r)) (hAC : ∀ k, AC (ix3 0 r k) = MlpRow.code ((rowB x0 x1 x2 x3 x4 x5 x6 x7 x8) r) k)
    (j : Fin 256) (n : Fin 2304) (hn : (n : ℕ) = o + j) :
    delV (x2V asc AC (View.ld x4 (Rect.unit ![0, o] ![6144, 256] i1)) (View.ld x6 (Rect.unit ![0, 0, o] ![1, 128, 256] i2))
      (View.ld x8 (Rect.unit ![0, 0, o] ![1, 1, 256] i3)) (View.ld x5 (Rect.unit ![0, o] ![1, 256] i4))) (View.ld x7 (Rect.unit ![0, 0, o] ![1, 128, 256] i5))
      (ix2 r j) = MlpRow.delta ((rowB x0 x1 x2 x3 x4 x5 x6 x7 x8) r) n := by
  rw [delV_at, x2C_at x0 x1 x2 x3 x4 x5 x6 x7 x8 o asc AC i1 i2 i3 i4 r hasc hAC j n hn, ldxa_at x7 o i5 r j n hn]
  rfl

/-- A group's scale, from its differences. -/
theorem nsC_at (v : FVec Ideal S128x128 .f32) (r : Fin 128) (g : Fin 18)
    (hv : ∀ l, v (ix2 r l) = MlpRow.delta ((rowB x0 x1 x2 x3 x4 x5 x6 x7 x8) r) (MlpRow.lane g l)) :
    nsV (expV k0_pay4 (gmxV v)) (ix3 0 r 0) = MlpRow.nsc ((rowB x0 x1 x2 x3 x4 x5 x6 x7 x8) r) g := by
  rw [nsV_at, expV_at, gmxV_at]
  simp only [hv]
  exact MlpScale.up_eq _ (MlpRow.gmax_nonneg _ _)

/-- A group's codes. -/
theorem ncC_at (v : FVec Ideal S128x128 .f32) (r : Fin 128) (g : Fin 18) (l : Fin 128)
    (hv : ∀ l, v (ix2 r l) = MlpRow.delta ((rowB x0 x1 x2 x3 x4 x5 x6 x7 x8) r) (MlpRow.lane g l)) :
    ncV v (expV k0_pay4 (gmxV v)) (ix3 0 r l) = MlpRow.ncode ((rowB x0 x1 x2 x3 x4 x5 x6 x7 x8) r) g l := by
  rw [ncV_at, expV_at, gmxV_at]
  simp only [hv]
  exact congrArg (fun q => MlpRow.clip (_ * q)) (MlpScale.down_eq _ (MlpRow.gmax_nonneg ((rowB x0 x1 x2 x3 x4 x5 x6 x7 x8) r) g))

/-- The two groups of a chunk. -/
theorem low_del (o : ℕ) (asc : FVec Ideal S128x1 .f32) (AC : FVec Ideal S1x128x6144 .fp8e4m3) (i1 i2 i3 i4 i5) (r : Fin 128)
    (hasc : asc (ix2 r 0) = MlpRow.asc ((rowB x0 x1 x2 x3 x4 x5 x6 x7 x8) r)) (hAC : ∀ k, AC (ix3 0 r k) = MlpRow.code ((rowB x0 x1 x2 x3 x4 x5 x6 x7 x8) r) k) (g : Fin 18) (hg : (g : ℕ) * 128 = o) (l : Fin 128) :
    lowV (delV (x2V asc AC (View.ld x4 (Rect.unit ![0, o] ![6144, 256] i1)) (View.ld x6 (Rect.unit ![0, 0, o] ![1, 128, 256] i2))
      (View.ld x8 (Rect.unit ![0, 0, o] ![1, 1, 256] i3)) (View.ld x5 (Rect.unit ![0, o] ![1, 256] i4))) (View.ld x7 (Rect.unit ![0, 0, o] ![1, 128, 256] i5)))
      (ix2 r l) = MlpRow.delta ((rowB x0 x1 x2 x3 x4 x5 x6 x7 x8) r) (MlpRow.lane g l) := by
  rw [lowV_at]
  exact delC_at x0 x1 x2 x3 x4 x5 x6 x7 x8 o asc AC i1 i2 i3 i4 i5 r hasc hAC _ _ (by simp [hg])

theorem high_del (o : ℕ) (asc : FVec Ideal S128x1 .f32) (AC : FVec Ideal S1x128x6144 .fp8e4m3) (i1 i2 i3 i4 i5) (r : Fin 128)
    (hasc : asc (ix2 r 0) = MlpRow.asc ((rowB x0 x1 x2 x3 x4 x5 x6 x7 x8) r)) (hAC : ∀ k, AC (ix3 0 r k) = MlpRow.code ((rowB x0 x1 x2 x3 x4 x5 x6 x7 x8) r) k) (g : Fin 18) (hg : (g : ℕ) * 128 = o + 128) (l : Fin 128) :
    highV (delV (x2V asc AC (View.ld x4 (Rect.unit ![0, o] ![6144, 256] i1)) (View.ld x6 (Rect.unit ![0, 0, o] ![1, 128, 256] i2))
      (View.ld x8 (Rect.unit ![0, 0, o] ![1, 1, 256] i3)) (View.ld x5 (Rect.unit ![0, o] ![1, 256] i4))) (View.ld x7 (Rect.unit ![0, 0, o] ![1, 128, 256] i5)))
      (ix2 r l) = MlpRow.delta ((rowB x0 x1 x2 x3 x4 x5 x6 x7 x8) r) (MlpRow.lane g l) := by
  rw [highV_at]
  exact delC_at x0 x1 x2 x3 x4 x5 x6 x7 x8 o asc AC i1 i2 i3 i4 i5 r hasc hAC _ _ (by simp [hg, Nat.add_assoc])

end Cert.MlpIdeal.Value
end
-- ==== Proof.Parts.lean ====
module
public import proofs.«01_k».proof.Proof.Chunks
public import proofs.«01_k».proof.Proof.Gen.MlpIdeal.Value
@[expose] public section
set_option maxRecDepth 65536
noncomputable section
open Idealize.ShloMosaic Idealize.ShloMosaic.TcCoe Idealize.SL.Sem
open Idealize.ShloMosaic.Pipeline (Dat)

/-! # What a grid point keeps of the activation

The scale of the rows once all 24 chunks of the activation have been joined in, the activation as the chunks store
it, and the codes as the chunks store them, each named once with its value at an index. -/

namespace Cert.MlpIdeal.Value
open Cert.MlpIdeal Cert.MlpIdeal.Gen

/-- The scale. -/
def ascT (x0 : Vec Ideal S1x128x2304 .fp8e4m3) (x1 : Vec Ideal S1x128x1 .f32) (x2 : Vec Ideal S2304x12288 .fp8e4m3) (x3 : Vec Ideal S1x12288 .f32) : FVec Ideal S128x1 .f32 :=
    k0_pay84 (k0_pay2 x1) (k0_pay3 x0) (k0_pay81 (k0_pay2 x1) (k0_pay3 x0) (k0_pay74 (k0_pay2 x1) (k0_pay3 x0) (k0_pay68 (k0_pay2 x1) (k0_pay3 x0) (k0_pay64 (k0_pay2 x1)
    (k0_pay3 x0) (k0_pay59 (k0_pay2 x1) (k0_pay3 x0) (k0_pay55 (k0_pay2 x1) (k0_pay3 x0) (k0_pay48 (k0_pay2 x1) (k0_pay3 x0) (k0_pay45 (k0_pay2 x1) (k0_pay3 x0) (k0_pay37
    (k0_pay2 x1) (k0_pay3 x0) (k0_pay31 (k0_pay2 x1) (k0_pay3 x0) (k0_pay27 (k0_pay2 x1) (k0_pay3 x0) (k0_pay22 (k0_pay2 x1) (k0_pay3 x0) (k0_pay17 (k0_pay2 x1) (k0_pay3
    x0) (k0_pay10 (k0_pay2 x1) (k0_pay3 x0) (k0_pay7 x1 x0 (View.ld x2 (Rect.unit ![0, 0] ![2304, 256] inb_S2304x12288_S2304x256_0_0)) (View.ld x3 (Rect.unit ![0, 0] ![1,
    256] inb_S1x12288_S1x256_0_0)) (View.ld x2 (Rect.unit ![0, 6144] ![2304, 256] inb_S2304x12288_S2304x256_0_6144)) (View.ld x3 (Rect.unit ![0, 6144] ![1, 256]
    inb_S1x12288_S1x256_0_6144))) (View.ld x2 (Rect.unit ![0, 256] ![2304, 256] inb_S2304x12288_S2304x256_0_256)) (View.ld x3 (Rect.unit ![0, 256] ![1, 256]
    inb_S1x12288_S1x256_0_256)) (View.ld x2 (Rect.unit ![0, 6400] ![2304, 256] inb_S2304x12288_S2304x256_0_6400)) (View.ld x3 (Rect.unit ![0, 6400] ![1, 256]
    inb_S1x12288_S1x256_0_6400))) (k0_pay11 (k0_pay2 x1) (k0_pay3 x0) (View.ld x2 (Rect.unit ![0, 512] ![2304, 256] inb_S2304x12288_S2304x256_0_512)) (View.ld x3
    (Rect.unit ![0, 512] ![1, 256] inb_S1x12288_S1x256_0_512))) (k0_pay12 (k0_pay2 x1) (k0_pay3 x0) (View.ld x2 (Rect.unit ![0, 6656] ![2304, 256]
    inb_S2304x12288_S2304x256_0_6656))) (View.ld x3 (Rect.unit ![0, 6656] ![1, 256] inb_S1x12288_S1x256_0_6656)) (View.ld x2 (Rect.unit ![0, 768] ![2304, 256]
    inb_S2304x12288_S2304x256_0_768)) (View.ld x3 (Rect.unit ![0, 768] ![1, 256] inb_S1x12288_S1x256_0_768)) (View.ld x2 (Rect.unit ![0, 6912] ![2304, 256]
    inb_S2304x12288_S2304x256_0_6912)) (View.ld x3 (Rect.unit ![0, 6912] ![1, 256] inb_S1x12288_S1x256_0_6912))) (k0_pay18 (k0_pay3 x0) (View.ld x2 (Rect.unit ![0, 1024]
    ![2304, 256] inb_S2304x12288_S2304x256_0_1024))) (k0_pay19 (k0_pay2 x1)) (View.ld x3 (Rect.unit ![0, 1024] ![1, 256] inb_S1x12288_S1x256_0_1024)) (View.ld x2
    (Rect.unit ![0, 7168] ![2304, 256] inb_S2304x12288_S2304x256_0_7168)) (View.ld x3 (Rect.unit ![0, 7168] ![1, 256] inb_S1x12288_S1x256_0_7168))) (k0_pay23 (k0_pay2 x1)
    (k0_pay3 x0) (View.ld x2 (Rect.unit ![0, 1280] ![2304, 256] inb_S2304x12288_S2304x256_0_1280)) (View.ld x3 (Rect.unit ![0, 1280] ![1, 256]
    inb_S1x12288_S1x256_0_1280)) (View.ld x2 (Rect.unit ![0, 7424] ![2304, 256] inb_S2304x12288_S2304x256_0_7424)) (View.ld x3 (Rect.unit ![0, 7424] ![1, 256]
    inb_S1x12288_S1x256_0_7424))) (View.ld x2 (Rect.unit ![0, 1536] ![2304, 256] inb_S2304x12288_S2304x256_0_1536)) (View.ld x3 (Rect.unit ![0, 1536] ![1, 256]
    inb_S1x12288_S1x256_0_1536)) (View.ld x2 (Rect.unit ![0, 7680] ![2304, 256] inb_S2304x12288_S2304x256_0_7680)) (View.ld x3 (Rect.unit ![0, 7680] ![1, 256]
    inb_S1x12288_S1x256_0_7680))) (k0_pay28 (k0_pay2 x1) (k0_pay3 x0) (View.ld x2 (Rect.unit ![0, 1792] ![2304, 256] inb_S2304x12288_S2304x256_0_1792)) (View.ld x3
    (Rect.unit ![0, 1792] ![1, 256] inb_S1x12288_S1x256_0_1792))) (View.ld x2 (Rect.unit ![0, 7936] ![2304, 256] inb_S2304x12288_S2304x256_0_7936)) (View.ld x3 (Rect.unit
    ![0, 7936] ![1, 256] inb_S1x12288_S1x256_0_7936))) (k0_pay34 (k0_pay2 x1) (k0_pay3 x0) (View.ld x2 (Rect.unit ![0, 2048] ![2304, 256]
    inb_S2304x12288_S2304x256_0_2048)) (View.ld x3 (Rect.unit ![0, 2048] ![1, 256] inb_S1x12288_S1x256_0_2048)) (View.ld x2 (Rect.unit ![0, 8192] ![2304, 256]
    inb_S2304x12288_S2304x256_0_8192)) (View.ld x3 (Rect.unit ![0, 8192] ![1, 256] inb_S1x12288_S1x256_0_8192))) (View.ld x2 (Rect.unit ![0, 2304] ![2304, 256]
    inb_S2304x12288_S2304x256_0_2304)) (View.ld x3 (Rect.unit ![0, 2304] ![1, 256] inb_S1x12288_S1x256_0_2304)) (View.ld x2 (Rect.unit ![0, 8448] ![2304, 256]
    inb_S2304x12288_S2304x256_0_8448)) (View.ld x3 (Rect.unit ![0, 8448] ![1, 256] inb_S1x12288_S1x256_0_8448))) (k0_pay38 (k0_pay2 x1) (k0_pay3 x0) (View.ld x2
    (Rect.unit ![0, 2560] ![2304, 256] inb_S2304x12288_S2304x256_0_2560)) (View.ld x3 (Rect.unit ![0, 2560] ![1, 256] inb_S1x12288_S1x256_0_2560))) (k0_pay39 (k0_pay3 x0)
    (View.ld x2 (Rect.unit ![0, 8704] ![2304, 256] inb_S2304x12288_S2304x256_0_8704))) (k0_pay40 (k0_pay2 x1)) (View.ld x3 (Rect.unit ![0, 8704] ![1, 256]
    inb_S1x12288_S1x256_0_8704)) (View.ld x2 (Rect.unit ![0, 2816] ![2304, 256] inb_S2304x12288_S2304x256_0_2816)) (View.ld x3 (Rect.unit ![0, 2816] ![1, 256]
    inb_S1x12288_S1x256_0_2816)) (View.ld x2 (Rect.unit ![0, 8960] ![2304, 256] inb_S2304x12288_S2304x256_0_8960)) (View.ld x3 (Rect.unit ![0, 8960] ![1, 256]
    inb_S1x12288_S1x256_0_8960))) (View.ld x2 (Rect.unit ![0, 3072] ![2304, 256] inb_S2304x12288_S2304x256_0_3072)) (View.ld x3 (Rect.unit ![0, 3072] ![1, 256]
    inb_S1x12288_S1x256_0_3072)) (View.ld x2 (Rect.unit ![0, 9216] ![2304, 256] inb_S2304x12288_S2304x256_0_9216)) (View.ld x3 (Rect.unit ![0, 9216] ![1, 256]
    inb_S1x12288_S1x256_0_9216))) (k0_pay49 (k0_pay2 x1) (k0_pay3 x0) (View.ld x2 (Rect.unit ![0, 3328] ![2304, 256] inb_S2304x12288_S2304x256_0_3328)) (View.ld x3
    (Rect.unit ![0, 3328] ![1, 256] inb_S1x12288_S1x256_0_3328))) (k0_pay50 (k0_pay2 x1) (k0_pay3 x0) (View.ld x2 (Rect.unit ![0, 9472] ![2304, 256]
    inb_S2304x12288_S2304x256_0_9472)) (View.ld x3 (Rect.unit ![0, 9472] ![1, 256] inb_S1x12288_S1x256_0_9472))) (View.ld x2 (Rect.unit ![0, 3584] ![2304, 256]
    inb_S2304x12288_S2304x256_0_3584)) (View.ld x3 (Rect.unit ![0, 3584] ![1, 256] inb_S1x12288_S1x256_0_3584)) (View.ld x2 (Rect.unit ![0, 9728] ![2304, 256]
    inb_S2304x12288_S2304x256_0_9728)) (View.ld x3 (Rect.unit ![0, 9728] ![1, 256] inb_S1x12288_S1x256_0_9728))) (k0_pay56 (k0_pay2 x1) (k0_pay3 x0) (View.ld x2
    (Rect.unit ![0, 3840] ![2304, 256] inb_S2304x12288_S2304x256_0_3840))) (View.ld x3 (Rect.unit ![0, 3840] ![1, 256] inb_S1x12288_S1x256_0_3840)) (View.ld x2 (Rect.unit
    ![0, 9984] ![2304, 256] inb_S2304x12288_S2304x256_0_9984)) (View.ld x3 (Rect.unit ![0, 9984] ![1, 256] inb_S1x12288_S1x256_0_9984))) (k0_pay60 (k0_pay2 x1) (k0_pay3
    x0) (View.ld x2 (Rect.unit ![0, 4096] ![2304, 256] inb_S2304x12288_S2304x256_0_4096)) (View.ld x3 (Rect.unit ![0, 4096] ![1, 256] inb_S1x12288_S1x256_0_4096))
    (View.ld x2 (Rect.unit ![0, 10240] ![2304, 256] inb_S2304x12288_S2304x256_0_10240)) (View.ld x3 (Rect.unit ![0, 10240] ![1, 256] inb_S1x12288_S1x256_0_10240)))
    (View.ld x2 (Rect.unit ![0, 4352] ![2304, 256] inb_S2304x12288_S2304x256_0_4352)) (View.ld x3 (Rect.unit ![0, 4352] ![1, 256] inb_S1x12288_S1x256_0_4352)) (View.ld x2
    (Rect.unit ![0, 10496] ![2304, 256] inb_S2304x12288_S2304x256_0_10496)) (View.ld x3 (Rect.unit ![0, 10496] ![1, 256] inb_S1x12288_S1x256_0_10496))) (k0_pay65 (k0_pay2
    x1) (k0_pay3 x0) (View.ld x2 (Rect.unit ![0, 4608] ![2304, 256] inb_S2304x12288_S2304x256_0_4608)) (View.ld x3 (Rect.unit ![0, 4608] ![1, 256]
    inb_S1x12288_S1x256_0_4608))) (View.ld x2 (Rect.unit ![0, 10752] ![2304, 256] inb_S2304x12288_S2304x256_0_10752)) (View.ld x3 (Rect.unit ![0, 10752] ![1, 256]
    inb_S1x12288_S1x256_0_10752))) (k0_pay71 (k0_pay2 x1) (k0_pay3 x0) (View.ld x2 (Rect.unit ![0, 4864] ![2304, 256] inb_S2304x12288_S2304x256_0_4864)) (View.ld x3
    (Rect.unit ![0, 4864] ![1, 256] inb_S1x12288_S1x256_0_4864)) (View.ld x2 (Rect.unit ![0, 11008] ![2304, 256] inb_S2304x12288_S2304x256_0_11008)) (View.ld x3
    (Rect.unit ![0, 11008] ![1, 256] inb_S1x12288_S1x256_0_11008))) (View.ld x2 (Rect.unit ![0, 5120] ![2304, 256] inb_S2304x12288_S2304x256_0_5120)) (View.ld x3
    (Rect.unit ![0, 5120] ![1, 256] inb_S1x12288_S1x256_0_5120)) (View.ld x2 (Rect.unit ![0, 11264] ![2304, 256] inb_S2304x12288_S2304x256_0_11264)) (View.ld x3
    (Rect.unit ![0, 11264] ![1, 256] inb_S1x12288_S1x256_0_11264))) (k0_pay75 (k0_pay2 x1) (k0_pay3 x0) (View.ld x2 (Rect.unit ![0, 5376] ![2304, 256]
    inb_S2304x12288_S2304x256_0_5376)) (View.ld x3 (Rect.unit ![0, 5376] ![1, 256] inb_S1x12288_S1x256_0_5376))) (k0_pay76 (k0_pay2 x1) (k0_pay3 x0) (View.ld x2
    (Rect.unit ![0, 11520] ![2304, 256] inb_S2304x12288_S2304x256_0_11520))) (View.ld x3 (Rect.unit ![0, 11520] ![1, 256] inb_S1x12288_S1x256_0_11520)) (View.ld x2
    (Rect.unit ![0, 5632] ![2304, 256] inb_S2304x12288_S2304x256_0_5632)) (View.ld x3 (Rect.unit ![0, 5632] ![1, 256] inb_S1x12288_S1x256_0_5632)) (View.ld x2 (Rect.unit
    ![0, 11776] ![2304, 256] inb_S2304x12288_S2304x256_0_11776)) (View.ld x3 (Rect.unit ![0, 11776] ![1, 256] inb_S1x12288_S1x256_0_11776))) (View.ld x2 (Rect.unit ![0,
    5888] ![2304, 256] inb_S2304x12288_S2304x256_0_5888)) (constant S128x256 .f32 0#32) (View.ld x3 (Rect.unit ![0, 5888] ![1, 256] inb_S1x12288_S1x256_0_5888)) (View.ld
    x2 (Rect.unit ![0, 12032] ![2304, 256] inb_S2304x12288_S2304x256_0_12032)) (View.ld x3 (Rect.unit ![0, 12032] ![1, 256] inb_S1x12288_S1x256_0_12032))

/-- The pieces of the activation. -/
def actL (x0 : Vec Ideal S1x128x2304 .fp8e4m3) (x1 : Vec Ideal S1x128x1 .f32) (x2 : Vec Ideal S2304x12288 .fp8e4m3) (x3 : Vec Ideal S1x12288 .f32) : List (View.Piece (Elt Ideal) S128x6144 .f32) :=
    [⟨Rect.unit ![0, 5888] ![128, 256] inb_S128x6144_S128x256_0_5888, k0_pay83 (k0_pay2 x1) (k0_pay3 x0) (View.ld x2 (Rect.unit ![0, 5888] ![2304, 256]
    inb_S2304x12288_S2304x256_0_5888)) (constant S128x256 .f32 0#32) (View.ld x3 (Rect.unit ![0, 5888] ![1, 256] inb_S1x12288_S1x256_0_5888)) (View.ld x2 (Rect.unit ![0,
    12032] ![2304, 256] inb_S2304x12288_S2304x256_0_12032)) (View.ld x3 (Rect.unit ![0, 12032] ![1, 256] inb_S1x12288_S1x256_0_12032))⟩, ⟨Rect.unit ![0, 5632] ![128, 256]
    inb_S128x6144_S128x256_0_5632, k0_pay80 (k0_pay2 x1) (k0_pay3 x0) (View.ld x2 (Rect.unit ![0, 5632] ![2304, 256] inb_S2304x12288_S2304x256_0_5632)) (View.ld x3
    (Rect.unit ![0, 5632] ![1, 256] inb_S1x12288_S1x256_0_5632)) (View.ld x2 (Rect.unit ![0, 11776] ![2304, 256] inb_S2304x12288_S2304x256_0_11776)) (View.ld x3
    (Rect.unit ![0, 11776] ![1, 256] inb_S1x12288_S1x256_0_11776))⟩, ⟨Rect.unit ![0, 5376] ![128, 256] inb_S128x6144_S128x256_0_5376, k0_pay78 (k0_pay75 (k0_pay2 x1)
    (k0_pay3 x0) (View.ld x2 (Rect.unit ![0, 5376] ![2304, 256] inb_S2304x12288_S2304x256_0_5376)) (View.ld x3 (Rect.unit ![0, 5376] ![1, 256]
    inb_S1x12288_S1x256_0_5376))) (k0_pay76 (k0_pay2 x1) (k0_pay3 x0) (View.ld x2 (Rect.unit ![0, 11520] ![2304, 256] inb_S2304x12288_S2304x256_0_11520))) (View.ld x3
    (Rect.unit ![0, 11520] ![1, 256] inb_S1x12288_S1x256_0_11520))⟩, ⟨Rect.unit ![0, 5120] ![128, 256] inb_S128x6144_S128x256_0_5120, k0_pay73 (k0_pay2 x1) (k0_pay3 x0)
    (View.ld x2 (Rect.unit ![0, 5120] ![2304, 256] inb_S2304x12288_S2304x256_0_5120)) (View.ld x3 (Rect.unit ![0, 5120] ![1, 256] inb_S1x12288_S1x256_0_5120)) (View.ld x2
    (Rect.unit ![0, 11264] ![2304, 256] inb_S2304x12288_S2304x256_0_11264)) (View.ld x3 (Rect.unit ![0, 11264] ![1, 256] inb_S1x12288_S1x256_0_11264))⟩, ⟨Rect.unit ![0,
    4864] ![128, 256] inb_S128x6144_S128x256_0_4864, k0_pay70 (k0_pay2 x1) (k0_pay3 x0) (View.ld x2 (Rect.unit ![0, 4864] ![2304, 256] inb_S2304x12288_S2304x256_0_4864))
    (View.ld x3 (Rect.unit ![0, 4864] ![1, 256] inb_S1x12288_S1x256_0_4864)) (View.ld x2 (Rect.unit ![0, 11008] ![2304, 256] inb_S2304x12288_S2304x256_0_11008)) (View.ld
    x3 (Rect.unit ![0, 11008] ![1, 256] inb_S1x12288_S1x256_0_11008))⟩, ⟨Rect.unit ![0, 4608] ![128, 256] inb_S128x6144_S128x256_0_4608, k0_pay67 (k0_pay2 x1) (k0_pay3
    x0) (k0_pay65 (k0_pay2 x1) (k0_pay3 x0) (View.ld x2 (Rect.unit ![0, 4608] ![2304, 256] inb_S2304x12288_S2304x256_0_4608)) (View.ld x3 (Rect.unit ![0, 4608] ![1, 256]
    inb_S1x12288_S1x256_0_4608))) (View.ld x2 (Rect.unit ![0, 10752] ![2304, 256] inb_S2304x12288_S2304x256_0_10752)) (View.ld x3 (Rect.unit ![0, 10752] ![1, 256]
    inb_S1x12288_S1x256_0_10752))⟩, ⟨Rect.unit ![0, 4352] ![128, 256] inb_S128x6144_S128x256_0_4352, k0_pay63 (k0_pay2 x1) (k0_pay3 x0) (View.ld x2 (Rect.unit ![0, 4352]
    ![2304, 256] inb_S2304x12288_S2304x256_0_4352)) (View.ld x3 (Rect.unit ![0, 4352] ![1, 256] inb_S1x12288_S1x256_0_4352)) (View.ld x2 (Rect.unit ![0, 10496] ![2304,
    256] inb_S2304x12288_S2304x256_0_10496)) (View.ld x3 (Rect.unit ![0, 10496] ![1, 256] inb_S1x12288_S1x256_0_10496))⟩, ⟨Rect.unit ![0, 4096] ![128, 256]
    inb_S128x6144_S128x256_0_4096, k0_pay61 (k0_pay60 (k0_pay2 x1) (k0_pay3 x0) (View.ld x2 (Rect.unit ![0, 4096] ![2304, 256] inb_S2304x12288_S2304x256_0_4096)) (View.ld
    x3 (Rect.unit ![0, 4096] ![1, 256] inb_S1x12288_S1x256_0_4096)) (View.ld x2 (Rect.unit ![0, 10240] ![2304, 256] inb_S2304x12288_S2304x256_0_10240)) (View.ld x3
    (Rect.unit ![0, 10240] ![1, 256] inb_S1x12288_S1x256_0_10240)))⟩, ⟨Rect.unit ![0, 3840] ![128, 256] inb_S128x6144_S128x256_0_3840, k0_pay58 (k0_pay2 x1) (k0_pay3 x0)
    (k0_pay56 (k0_pay2 x1) (k0_pay3 x0) (View.ld x2 (Rect.unit ![0, 3840] ![2304, 256] inb_S2304x12288_S2304x256_0_3840))) (View.ld x3 (Rect.unit ![0, 3840] ![1, 256]
    inb_S1x12288_S1x256_0_3840)) (View.ld x2 (Rect.unit ![0, 9984] ![2304, 256] inb_S2304x12288_S2304x256_0_9984)) (View.ld x3 (Rect.unit ![0, 9984] ![1, 256]
    inb_S1x12288_S1x256_0_9984))⟩, ⟨Rect.unit ![0, 3584] ![128, 256] inb_S128x6144_S128x256_0_3584, k0_pay54 (k0_pay2 x1) (k0_pay3 x0) (View.ld x2 (Rect.unit ![0, 3584]
    ![2304, 256] inb_S2304x12288_S2304x256_0_3584)) (View.ld x3 (Rect.unit ![0, 3584] ![1, 256] inb_S1x12288_S1x256_0_3584)) (View.ld x2 (Rect.unit ![0, 9728] ![2304,
    256] inb_S2304x12288_S2304x256_0_9728)) (View.ld x3 (Rect.unit ![0, 9728] ![1, 256] inb_S1x12288_S1x256_0_9728))⟩, ⟨Rect.unit ![0, 3328] ![128, 256]
    inb_S128x6144_S128x256_0_3328, k0_pay52 (k0_pay49 (k0_pay2 x1) (k0_pay3 x0) (View.ld x2 (Rect.unit ![0, 3328] ![2304, 256] inb_S2304x12288_S2304x256_0_3328)) (View.ld
    x3 (Rect.unit ![0, 3328] ![1, 256] inb_S1x12288_S1x256_0_3328))) (k0_pay50 (k0_pay2 x1) (k0_pay3 x0) (View.ld x2 (Rect.unit ![0, 9472] ![2304, 256]
    inb_S2304x12288_S2304x256_0_9472)) (View.ld x3 (Rect.unit ![0, 9472] ![1, 256] inb_S1x12288_S1x256_0_9472)))⟩, ⟨Rect.unit ![0, 3072] ![128, 256]
    inb_S128x6144_S128x256_0_3072, k0_pay47 (k0_pay2 x1) (k0_pay3 x0) (View.ld x2 (Rect.unit ![0, 3072] ![2304, 256] inb_S2304x12288_S2304x256_0_3072)) (View.ld x3
    (Rect.unit ![0, 3072] ![1, 256] inb_S1x12288_S1x256_0_3072)) (View.ld x2 (Rect.unit ![0, 9216] ![2304, 256] inb_S2304x12288_S2304x256_0_9216)) (View.ld x3 (Rect.unit
    ![0, 9216] ![1, 256] inb_S1x12288_S1x256_0_9216))⟩, ⟨Rect.unit ![0, 2816] ![128, 256] inb_S128x6144_S128x256_0_2816, k0_pay44 (k0_pay2 x1) (k0_pay3 x0) (View.ld x2
    (Rect.unit ![0, 2816] ![2304, 256] inb_S2304x12288_S2304x256_0_2816)) (View.ld x3 (Rect.unit ![0, 2816] ![1, 256] inb_S1x12288_S1x256_0_2816)) (View.ld x2 (Rect.unit
    ![0, 8960] ![2304, 256] inb_S2304x12288_S2304x256_0_8960)) (View.ld x3 (Rect.unit ![0, 8960] ![1, 256] inb_S1x12288_S1x256_0_8960))⟩, ⟨Rect.unit ![0, 2560] ![128,
    256] inb_S128x6144_S128x256_0_2560, k0_pay42 (k0_pay38 (k0_pay2 x1) (k0_pay3 x0) (View.ld x2 (Rect.unit ![0, 2560] ![2304, 256] inb_S2304x12288_S2304x256_0_2560))
    (View.ld x3 (Rect.unit ![0, 2560] ![1, 256] inb_S1x12288_S1x256_0_2560))) (k0_pay39 (k0_pay3 x0) (View.ld x2 (Rect.unit ![0, 8704] ![2304, 256]
    inb_S2304x12288_S2304x256_0_8704))) (k0_pay40 (k0_pay2 x1)) (View.ld x3 (Rect.unit ![0, 8704] ![1, 256] inb_S1x12288_S1x256_0_8704))⟩, ⟨Rect.unit ![0, 2304] ![128,
    256] inb_S128x6144_S128x256_0_2304, k0_pay36 (k0_pay2 x1) (k0_pay3 x0) (View.ld x2 (Rect.unit ![0, 2304] ![2304, 256] inb_S2304x12288_S2304x256_0_2304)) (View.ld x3
    (Rect.unit ![0, 2304] ![1, 256] inb_S1x12288_S1x256_0_2304)) (View.ld x2 (Rect.unit ![0, 8448] ![2304, 256] inb_S2304x12288_S2304x256_0_8448)) (View.ld x3 (Rect.unit
    ![0, 8448] ![1, 256] inb_S1x12288_S1x256_0_8448))⟩, ⟨Rect.unit ![0, 2048] ![128, 256] inb_S128x6144_S128x256_0_2048, k0_pay33 (k0_pay2 x1) (k0_pay3 x0) (View.ld x2
    (Rect.unit ![0, 2048] ![2304, 256] inb_S2304x12288_S2304x256_0_2048)) (View.ld x3 (Rect.unit ![0, 2048] ![1, 256] inb_S1x12288_S1x256_0_2048)) (View.ld x2 (Rect.unit
    ![0, 8192] ![2304, 256] inb_S2304x12288_S2304x256_0_8192)) (View.ld x3 (Rect.unit ![0, 8192] ![1, 256] inb_S1x12288_S1x256_0_8192))⟩, ⟨Rect.unit ![0, 1792] ![128,
    256] inb_S128x6144_S128x256_0_1792, k0_pay30 (k0_pay2 x1) (k0_pay3 x0) (k0_pay28 (k0_pay2 x1) (k0_pay3 x0) (View.ld x2 (Rect.unit ![0, 1792] ![2304, 256]
    inb_S2304x12288_S2304x256_0_1792)) (View.ld x3 (Rect.unit ![0, 1792] ![1, 256] inb_S1x12288_S1x256_0_1792))) (View.ld x2 (Rect.unit ![0, 7936] ![2304, 256]
    inb_S2304x12288_S2304x256_0_7936)) (View.ld x3 (Rect.unit ![0, 7936] ![1, 256] inb_S1x12288_S1x256_0_7936))⟩, ⟨Rect.unit ![0, 1536] ![128, 256]
    inb_S128x6144_S128x256_0_1536, k0_pay26 (k0_pay2 x1) (k0_pay3 x0) (View.ld x2 (Rect.unit ![0, 1536] ![2304, 256] inb_S2304x12288_S2304x256_0_1536)) (View.ld x3
    (Rect.unit ![0, 1536] ![1, 256] inb_S1x12288_S1x256_0_1536)) (View.ld x2 (Rect.unit ![0, 7680] ![2304, 256] inb_S2304x12288_S2304x256_0_7680)) (View.ld x3 (Rect.unit
    ![0, 7680] ![1, 256] inb_S1x12288_S1x256_0_7680))⟩, ⟨Rect.unit ![0, 1280] ![128, 256] inb_S128x6144_S128x256_0_1280, k0_pay24 (k0_pay23 (k0_pay2 x1) (k0_pay3 x0)
    (View.ld x2 (Rect.unit ![0, 1280] ![2304, 256] inb_S2304x12288_S2304x256_0_1280)) (View.ld x3 (Rect.unit ![0, 1280] ![1, 256] inb_S1x12288_S1x256_0_1280)) (View.ld x2
    (Rect.unit ![0, 7424] ![2304, 256] inb_S2304x12288_S2304x256_0_7424)) (View.ld x3 (Rect.unit ![0, 7424] ![1, 256] inb_S1x12288_S1x256_0_7424)))⟩, ⟨Rect.unit ![0,
    1024] ![128, 256] inb_S128x6144_S128x256_0_1024, k0_pay21 (k0_pay2 x1) (k0_pay3 x0) (k0_pay18 (k0_pay3 x0) (View.ld x2 (Rect.unit ![0, 1024] ![2304, 256]
    inb_S2304x12288_S2304x256_0_1024))) (k0_pay19 (k0_pay2 x1)) (View.ld x3 (Rect.unit ![0, 1024] ![1, 256] inb_S1x12288_S1x256_0_1024)) (View.ld x2 (Rect.unit ![0, 7168]
    ![2304, 256] inb_S2304x12288_S2304x256_0_7168)) (View.ld x3 (Rect.unit ![0, 7168] ![1, 256] inb_S1x12288_S1x256_0_7168))⟩, ⟨Rect.unit ![0, 768] ![128, 256]
    inb_S128x6144_S128x256_0_768, k0_pay16 (k0_pay2 x1) (k0_pay3 x0) (View.ld x2 (Rect.unit ![0, 768] ![2304, 256] inb_S2304x12288_S2304x256_0_768)) (View.ld x3
    (Rect.unit ![0, 768] ![1, 256] inb_S1x12288_S1x256_0_768)) (View.ld x2 (Rect.unit ![0, 6912] ![2304, 256] inb_S2304x12288_S2304x256_0_6912)) (View.ld x3 (Rect.unit
    ![0, 6912] ![1, 256] inb_S1x12288_S1x256_0_6912))⟩, ⟨Rect.unit ![0, 512] ![128, 256] inb_S128x6144_S128x256_0_512, k0_pay14 (k0_pay11 (k0_pay2 x1) (k0_pay3 x0)
    (View.ld x2 (Rect.unit ![0, 512] ![2304, 256] inb_S2304x12288_S2304x256_0_512)) (View.ld x3 (Rect.unit ![0, 512] ![1, 256] inb_S1x12288_S1x256_0_512))) (k0_pay12
    (k0_pay2 x1) (k0_pay3 x0) (View.ld x2 (Rect.unit ![0, 6656] ![2304, 256] inb_S2304x12288_S2304x256_0_6656))) (View.ld x3 (Rect.unit ![0, 6656] ![1, 256]
    inb_S1x12288_S1x256_0_6656))⟩, ⟨Rect.unit ![0, 256] ![128, 256] inb_S128x6144_S128x256_0_256, k0_pay9 (k0_pay2 x1) (k0_pay3 x0) (View.ld x2 (Rect.unit ![0, 256]
    ![2304, 256] inb_S2304x12288_S2304x256_0_256)) (View.ld x3 (Rect.unit ![0, 256] ![1, 256] inb_S1x12288_S1x256_0_256)) (View.ld x2 (Rect.unit ![0, 6400] ![2304, 256]
    inb_S2304x12288_S2304x256_0_6400)) (View.ld x3 (Rect.unit ![0, 6400] ![1, 256] inb_S1x12288_S1x256_0_6400))⟩, ⟨Rect.unit ![0, 0] ![128, 256]
    inb_S128x6144_S128x256_0_0, k0_pay6 x1 x0 (View.ld x2 (Rect.unit ![0, 0] ![2304, 256] inb_S2304x12288_S2304x256_0_0)) (View.ld x3 (Rect.unit ![0, 0] ![1, 256]
    inb_S1x12288_S1x256_0_0)) (View.ld x2 (Rect.unit ![0, 6144] ![2304, 256] inb_S2304x12288_S2304x256_0_6144)) (View.ld x3 (Rect.unit ![0, 6144] ![1, 256]
    inb_S1x12288_S1x256_0_6144))⟩]

/-- The chunk of the activation with these gate and up columns. -/
def chunkV (x0 : Vec Ideal S1x128x2304 .fp8e4m3) (x1 : Vec Ideal S1x128x1 .f32) (wg : FVec Ideal S2304x256 .fp8e4m3) (sg : FVec Ideal S1x256 .f32)
    (wu : FVec Ideal S2304x256 .fp8e4m3) (su : FVec Ideal S1x256 .f32) : FVec Ideal S128x256 .f32 :=
  actV (linV (k0_pay2 x1) (k0_pay3 x0) wg sg) (linV (k0_pay2 x1) (k0_pay3 x0) wu su)

/-- A chunk cast to its own shape, as it is stored. -/
def castV (v : FVec Ideal S128x256 .f32) : FVec Ideal S128x256 .f32 := shapeCast S128x256 v shapeCasts_S128x256_S128x256

theorem castV_eq (v : FVec Ideal S128x256 .f32) : castV v = v := shapeCast_self _ _

/-- The pieces of the activation, each as its chunk. -/
def actC (x0 : Vec Ideal S1x128x2304 .fp8e4m3) (x1 : Vec Ideal S1x128x1 .f32) (x2 : Vec Ideal S2304x12288 .fp8e4m3) (x3 : Vec Ideal S1x12288 .f32) : List (View.Piece (Elt Ideal) S128x6144 .f32) :=
    [⟨Rect.unit ![0, 5888] ![128, 256] inb_S128x6144_S128x256_0_5888, castV <| chunkV x0 x1 (View.ld x2 (Rect.unit ![0, 5888] ![2304, 256] inb_S2304x12288_S2304x256_0_5888)) (View.ld x3 (Rect.unit ![0, 5888] ![1, 256] inb_S1x12288_S1x256_0_5888)) (View.ld x2 (Rect.unit ![0, 12032] ![2304, 256] inb_S2304x12288_S2304x256_0_12032)) (View.ld x3 (Rect.unit ![0, 12032] ![1, 256] inb_S1x12288_S1x256_0_12032))⟩,
    ⟨Rect.unit ![0, 5632] ![128, 256] inb_S128x6144_S128x256_0_5632, castV <| chunkV x0 x1 (View.ld x2 (Rect.unit ![0, 5632] ![2304, 256] inb_S2304x12288_S2304x256_0_5632)) (View.ld x3 (Rect.unit ![0, 5632] ![1, 256] inb_S1x12288_S1x256_0_5632)) (View.ld x2 (Rect.unit ![0, 11776] ![2304, 256] inb_S2304x12288_S2304x256_0_11776)) (View.ld x3 (Rect.unit ![0, 11776] ![1, 256] inb_S1x12288_S1x256_0_11776))⟩,
    ⟨Rect.unit ![0, 5376] ![128, 256] inb_S128x6144_S128x256_0_5376, castV <| chunkV x0 x1 (View.ld x2 (Rect.unit ![0, 5376] ![2304, 256] inb_S2304x12288_S2304x256_0_5376)) (View.ld x3 (Rect.unit ![0, 5376] ![1, 256] inb_S1x12288_S1x256_0_5376)) (View.ld x2 (Rect.unit ![0, 11520] ![2304, 256] inb_S2304x12288_S2304x256_0_11520)) (View.ld x3 (Rect.unit ![0, 11520] ![1, 256] inb_S1x12288_S1x256_0_11520))⟩,
    ⟨Rect.unit ![0, 5120] ![128, 256] inb_S128x6144_S128x256_0_5120, castV <| chunkV x0 x1 (View.ld x2 (Rect.unit ![0, 5120] ![2304, 256] inb_S2304x12288_S2304x256_0_5120)) (View.ld x3 (Rect.unit ![0, 5120] ![1, 256] inb_S1x12288_S1x256_0_5120)) (View.ld x2 (Rect.unit ![0, 11264] ![2304, 256] inb_S2304x12288_S2304x256_0_11264)) (View.ld x3 (Rect.unit ![0, 11264] ![1, 256] inb_S1x12288_S1x256_0_11264))⟩,
    ⟨Rect.unit ![0, 4864] ![128, 256] inb_S128x6144_S128x256_0_4864, castV <| chunkV x0 x1 (View.ld x2 (Rect.unit ![0, 4864] ![2304, 256] inb_S2304x12288_S2304x256_0_4864)) (View.ld x3 (Rect.unit ![0, 4864] ![1, 256] inb_S1x12288_S1x256_0_4864)) (View.ld x2 (Rect.unit ![0, 11008] ![2304, 256] inb_S2304x12288_S2304x256_0_11008)) (View.ld x3 (Rect.unit ![0, 11008] ![1, 256] inb_S1x12288_S1x256_0_11008))⟩,
    ⟨Rect.unit ![0, 4608] ![128, 256] inb_S128x6144_S128x256_0_4608, castV <| chunkV x0 x1 (View.ld x2 (Rect.unit ![0, 4608] ![2304, 256] inb_S2304x12288_S2304x256_0_4608)) (View.ld x3 (Rect.unit ![0, 4608] ![1, 256] inb_S1x12288_S1x256_0_4608)) (View.ld x2 (Rect.unit ![0, 10752] ![2304, 256] inb_S2304x12288_S2304x256_0_10752)) (View.ld x3 (Rect.unit ![0, 10752] ![1, 256] inb_S1x12288_S1x256_0_10752))⟩,
    ⟨Rect.unit ![0, 4352] ![128, 256] inb_S128x6144_S128x256_0_4352, castV <| chunkV x0 x1 (View.ld x2 (Rect.unit ![0, 4352] ![2304, 256] inb_S2304x12288_S2304x256_0_4352)) (View.ld x3 (Rect.unit ![0, 4352] ![1, 256] inb_S1x12288_S1x256_0_4352)) (View.ld x2 (Rect.unit ![0, 10496] ![2304, 256] inb_S2304x12288_S2304x256_0_10496)) (View.ld x3 (Rect.unit ![0, 10496] ![1, 256] inb_S1x12288_S1x256_0_10496))⟩,
    ⟨Rect.unit ![0, 4096] ![128, 256] inb_S128x6144_S128x256_0_4096, castV <| chunkV x0 x1 (View.ld x2 (Rect.unit ![0, 4096] ![2304, 256] inb_S2304x12288_S2304x256_0_4096)) (View.ld x3 (Rect.unit ![0, 4096] ![1, 256] inb_S1x12288_S1x256_0_4096)) (View.ld x2 (Rect.unit ![0, 10240] ![2304, 256] inb_S2304x12288_S2304x256_0_10240)) (View.ld x3 (Rect.unit ![0, 10240] ![1, 256] inb_S1x12288_S1x256_0_10240))⟩,
    ⟨Rect.unit ![0, 3840] ![128, 256] inb_S128x6144_S128x256_0_3840, castV <| chunkV x0 x1 (View.ld x2 (Rect.unit ![0, 3840] ![2304, 256] inb_S2304x12288_S2304x256_0_3840)) (View.ld x3 (Rect.unit ![0, 3840] ![1, 256] inb_S1x12288_S1x256_0_3840)) (View.ld x2 (Rect.unit ![0, 9984] ![2304, 256] inb_S2304x12288_S2304x256_0_9984)) (View.ld x3 (Rect.unit ![0, 9984] ![1, 256] inb_S1x12288_S1x256_0_9984))⟩,
    ⟨Rect.unit ![0, 3584] ![128, 256] inb_S128x6144_S128x256_0_3584, castV <| chunkV x0 x1 (View.ld x2 (Rect.unit ![0, 3584] ![2304, 256] inb_S2304x12288_S2304x256_0_3584)) (View.ld x3 (Rect.unit ![0, 3584] ![1, 256] inb_S1x12288_S1x256_0_3584)) (View.ld x2 (Rect.unit ![0, 9728] ![2304, 256] inb_S2304x12288_S2304x256_0_9728)) (View.ld x3 (Rect.unit ![0, 9728] ![1, 256] inb_S1x12288_S1x256_0_9728))⟩,
    ⟨Rect.unit ![0, 3328] ![128, 256] inb_S128x6144_S128x256_0_3328, castV <| chunkV x0 x1 (View.ld x2 (Rect.unit ![0, 3328] ![2304, 256] inb_S2304x12288_S2304x256_0_3328)) (View.ld x3 (Rect.unit ![0, 3328] ![1, 256] inb_S1x12288_S1x256_0_3328)) (View.ld x2 (Rect.unit ![0, 9472] ![2304, 256] inb_S2304x12288_S2304x256_0_9472)) (View.ld x3 (Rect.unit ![0, 9472] ![1, 256] inb_S1x12288_S1x256_0_9472))⟩,
    ⟨Rect.unit ![0, 3072] ![128, 256] inb_S128x6144_S128x256_0_3072, castV <| chunkV x0 x1 (View.ld x2 (Rect.unit ![0, 3072] ![2304, 256] inb_S2304x12288_S2304x256_0_3072)) (View.ld x3 (Rect.unit ![0, 3072] ![1, 256] inb_S1x12288_S1x256_0_3072)) (View.ld x2 (Rect.unit ![0, 9216] ![2304, 256] inb_S2304x12288_S2304x256_0_9216)) (View.ld x3 (Rect.unit ![0, 9216] ![1, 256] inb_S1x12288_S1x256_0_9216))⟩,
    ⟨Rect.unit ![0, 2816] ![128, 256] inb_S128x6144_S128x256_0_2816, castV <| chunkV x0 x1 (View.ld x2 (Rect.unit ![0, 2816] ![2304, 256] inb_S2304x12288_S2304x256_0_2816)) (View.ld x3 (Rect.unit ![0, 2816] ![1, 256] inb_S1x12288_S1x256_0_2816)) (View.ld x2 (Rect.unit ![0, 8960] ![2304, 256] inb_S2304x12288_S2304x256_0_8960)) (View.ld x3 (Rect.unit ![0, 8960] ![1, 256] inb_S1x12288_S1x256_0_8960))⟩,
    ⟨Rect.unit ![0, 2560] ![128, 256] inb_S128x6144_S128x256_0_2560, castV <| chunkV x0 x1 (View.ld x2 (Rect.unit ![0, 2560] ![2304, 256] inb_S2304x12288_S2304x256_0_2560)) (View.ld x3 (Rect.unit ![0, 2560] ![1, 256] inb_S1x12288_S1x256_0_2560)) (View.ld x2 (Rect.unit ![0, 8704] ![2304, 256] inb_S2304x12288_S2304x256_0_8704)) (View.ld x3 (Rect.unit ![0, 8704] ![1, 256] inb_S1x12288_S1x256_0_8704))⟩,
    ⟨Rect.unit ![0, 2304] ![128, 256] inb_S128x6144_S128x256_0_2304, castV <| chunkV x0 x1 (View.ld x2 (Rect.unit ![0, 2304] ![2304, 256] inb_S2304x12288_S2304x256_0_2304)) (View.ld x3 (Rect.unit ![0, 2304] ![1, 256] inb_S1x12288_S1x256_0_2304)) (View.ld x2 (Rect.unit ![0, 8448] ![2304, 256] inb_S2304x12288_S2304x256_0_8448)) (View.ld x3 (Rect.unit ![0, 8448] ![1, 256] inb_S1x12288_S1x256_0_8448))⟩,
    ⟨Rect.unit ![0, 2048] ![128, 256] inb_S128x6144_S128x256_0_2048, castV <| chunkV x0 x1 (View.ld x2 (Rect.unit ![0, 2048] ![2304, 256] inb_S2304x12288_S2304x256_0_2048)) (View.ld x3 (Rect.unit ![0, 2048] ![1, 256] inb_S1x12288_S1x256_0_2048)) (View.ld x2 (Rect.unit ![0, 8192] ![2304, 256] inb_S2304x12288_S2304x256_0_8192)) (View.ld x3 (Rect.unit ![0, 8192] ![1, 256] inb_S1x12288_S1x256_0_8192))⟩,
    ⟨Rect.unit ![0, 1792] ![128, 256] inb_S128x6144_S128x256_0_1792, castV <| chunkV x0 x1 (View.ld x2 (Rect.unit ![0, 1792] ![2304, 256] inb_S2304x12288_S2304x256_0_1792)) (View.ld x3 (Rect.unit ![0, 1792] ![1, 256] inb_S1x12288_S1x256_0_1792)) (View.ld x2 (Rect.unit ![0, 7936] ![2304, 256] inb_S2304x12288_S2304x256_0_7936)) (View.ld x3 (Rect.unit ![0, 7936] ![1, 256] inb_S1x12288_S1x256_0_7936))⟩,
    ⟨Rect.unit ![0, 1536] ![128, 256] inb_S128x6144_S128x256_0_1536, castV <| chunkV x0 x1 (View.ld x2 (Rect.unit ![0, 1536] ![2304, 256] inb_S2304x12288_S2304x256_0_1536)) (View.ld x3 (Rect.unit ![0, 1536] ![1, 256] inb_S1x12288_S1x256_0_1536)) (View.ld x2 (Rect.unit ![0, 7680] ![2304, 256] inb_S2304x12288_S2304x256_0_7680)) (View.ld x3 (Rect.unit ![0, 7680] ![1, 256] inb_S1x12288_S1x256_0_7680))⟩,
    ⟨Rect.unit ![0, 1280] ![128, 256] inb_S128x6144_S128x256_0_1280, castV <| chunkV x0 x1 (View.ld x2 (Rect.unit ![0, 1280] ![2304, 256] inb_S2304x12288_S2304x256_0_1280)) (View.ld x3 (Rect.unit ![0, 1280] ![1, 256] inb_S1x12288_S1x256_0_1280)) (View.ld x2 (Rect.unit ![0, 7424] ![2304, 256] inb_S2304x12288_S2304x256_0_7424)) (View.ld x3 (Rect.unit ![0, 7424] ![1, 256] inb_S1x12288_S1x256_0_7424))⟩,
    ⟨Rect.unit ![0, 1024] ![128, 256] inb_S128x6144_S128x256_0_1024, castV <| chunkV x0 x1 (View.ld x2 (Rect.unit ![0, 1024] ![2304, 256] inb_S2304x12288_S2304x256_0_1024)) (View.ld x3 (Rect.unit ![0, 1024] ![1, 256] inb_S1x12288_S1x256_0_1024)) (View.ld x2 (Rect.unit ![0, 7168] ![2304, 256] inb_S2304x12288_S2304x256_0_7168)) (View.ld x3 (Rect.unit ![0, 7168] ![1, 256] inb_S1x12288_S1x256_0_7168))⟩,
    ⟨Rect.unit ![0, 768] ![128, 256] inb_S128x6144_S128x256_0_768, castV <| chunkV x0 x1 (View.ld x2 (Rect.unit ![0, 768] ![2304, 256] inb_S2304x12288_S2304x256_0_768)) (View.ld x3 (Rect.unit ![0, 768] ![1, 256] inb_S1x12288_S1x256_0_768)) (View.ld x2 (Rect.unit ![0, 6912] ![2304, 256] inb_S2304x12288_S2304x256_0_6912)) (View.ld x3 (Rect.unit ![0, 6912] ![1, 256] inb_S1x12288_S1x256_0_6912))⟩,
    ⟨Rect.unit ![0, 512] ![128, 256] inb_S128x6144_S128x256_0_512, castV <| chunkV x0 x1 (View.ld x2 (Rect.unit ![0, 512] ![2304, 256] inb_S2304x12288_S2304x256_0_512)) (View.ld x3 (Rect.unit ![0, 512] ![1, 256] inb_S1x12288_S1x256_0_512)) (View.ld x2 (Rect.unit ![0, 6656] ![2304, 256] inb_S2304x12288_S2304x256_0_6656)) (View.ld x3 (Rect.unit ![0, 6656] ![1, 256] inb_S1x12288_S1x256_0_6656))⟩,
    ⟨Rect.unit ![0, 256] ![128, 256] inb_S128x6144_S128x256_0_256, castV <| chunkV x0 x1 (View.ld x2 (Rect.unit ![0, 256] ![2304, 256] inb_S2304x12288_S2304x256_0_256)) (View.ld x3 (Rect.unit ![0, 256] ![1, 256] inb_S1x12288_S1x256_0_256)) (View.ld x2 (Rect.unit ![0, 6400] ![2304, 256] inb_S2304x12288_S2304x256_0_6400)) (View.ld x3 (Rect.unit ![0, 6400] ![1, 256] inb_S1x12288_S1x256_0_6400))⟩,
    ⟨Rect.unit ![0, 0] ![128, 256] inb_S128x6144_S128x256_0_0, castV <| chunkV x0 x1 (View.ld x2 (Rect.unit ![0, 0] ![2304, 256] inb_S2304x12288_S2304x256_0_0)) (View.ld x3 (Rect.unit ![0, 0] ![1, 256] inb_S1x12288_S1x256_0_0)) (View.ld x2 (Rect.unit ![0, 6144] ![2304, 256] inb_S2304x12288_S2304x256_0_6144)) (View.ld x3 (Rect.unit ![0, 6144] ![1, 256] inb_S1x12288_S1x256_0_6144))⟩]

variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem ascT_at (r : Fin 128) : ascT x0 x1 x2 x3 (ix2 r 0) = MlpRow.asc (rowB x0 x1 x2 x3 x4 x5 x6 x7 x8 r) := by
  refine asc_of x0 x1 x2 x3 x4 x5 x6 x7 x8 _ ?_ r
  refine mx_step x0 x1 x2 x3 x4 x5 x6 x7 x8 5888 (by decide) _ _ ?_ (fun r j k hk => actC_at x0 x1 x2 x3 x4 x5 x6 x7 x8 5888 12032 rfl _ _ _ _ r j k hk)
  refine mx_step x0 x1 x2 x3 x4 x5 x6 x7 x8 5632 (by decide) _ _ ?_ (fun r j k hk => actC_at x0 x1 x2 x3 x4 x5 x6 x7 x8 5632 11776 rfl _ _ _ _ r j k hk)
  refine mx_step x0 x1 x2 x3 x4 x5 x6 x7 x8 5376 (by decide) _ _ ?_ (fun r j k hk => actC_at x0 x1 x2 x3 x4 x5 x6 x7 x8 5376 11520 rfl _ _ _ _ r j k hk)
  refine mx_step x0 x1 x2 x3 x4 x5 x6 x7 x8 5120 (by decide) _ _ ?_ (fun r j k hk => actC_at x0 x1 x2 x3 x4 x5 x6 x7 x8 5120 11264 rfl _ _ _ _ r j k hk)
  refine mx_step x0 x1 x2 x3 x4 x5 x6 x7 x8 4864 (by decide) _ _ ?_ (fun r j k hk => actC_at x0 x1 x2 x3 x4 x5 x6 x7 x8 4864 11008 rfl _ _ _ _ r j k hk)
  refine mx_step x0 x1 x2 x3 x4 x5 x6 x7 x8 4608 (by decide) _ _ ?_ (fun r j k hk => actC_at x0 x1 x2 x3 x4 x5 x6 x7 x8 4608 10752 rfl _ _ _ _ r j k hk)
  refine mx_step x0 x1 x2 x3 x4 x5 x6 x7 x8 4352 (by decide) _ _ ?_ (fun r j k hk => actC_at x0 x1 x2 x3 x4 x5 x6 x7 x8 4352 10496 rfl _ _ _ _ r j k hk)
  refine mx_step x0 x1 x2 x3 x4 x5 x6 x7 x8 4096 (by decide) _ _ ?_ (fun r j k hk => actC_at x0 x1 x2 x3 x4 x5 x6 x7 x8 4096 10240 rfl _ _ _ _ r j k hk)
  refine mx_step x0 x1 x2 x3 x4 x5 x6 x7 x8 3840 (by decide) _ _ ?_ (fun r j k hk => actC_at x0 x1 x2 x3 x4 x5 x6 x7 x8 3840 9984 rfl _ _ _ _ r j k hk)
  refine mx_step x0 x1 x2 x3 x4 x5 x6 x7 x8 3584 (by decide) _ _ ?_ (fun r j k hk => actC_at x0 x1 x2 x3 x4 x5 x6 x7 x8 3584 9728 rfl _ _ _ _ r j k hk)
  refine mx_step x0 x1 x2 x3 x4 x5 x6 x7 x8 3328 (by decide) _ _ ?_ (fun r j k hk => actC_at x0 x1 x2 x3 x4 x5 x6 x7 x8 3328 9472 rfl _ _ _ _ r j k hk)
  refine mx_step x0 x1 x2 x3 x4 x5 x6 x7 x8 3072 (by decide) _ _ ?_ (fun r j k hk => actC_at x0 x1 x2 x3 x4 x5 x6 x7 x8 3072 9216 rfl _ _ _ _ r j k hk)
  refine mx_step x0 x1 x2 x3 x4 x5 x6 x7 x8 2816 (by decide) _ _ ?_ (fun r j k hk => actC_at x0 x1 x2 x3 x4 x5 x6 x7 x8 2816 8960 rfl _ _ _ _ r j k hk)
  refine mx_step x0 x1 x2 x3 x4 x5 x6 x7 x8 2560 (by decide) _ _ ?_ (fun r j k hk => actC_at x0 x1 x2 x3 x4 x5 x6 x7 x8 2560 8704 rfl _ _ _ _ r j k hk)
  refine mx_step x0 x1 x2 x3 x4 x5 x6 x7 x8 2304 (by decide) _ _ ?_ (fun r j k hk => actC_at x0 x1 x2 x3 x4 x5 x6 x7 x8 2304 8448 rfl _ _ _ _ r j k hk)
  refine mx_step x0 x1 x2 x3 x4 x5 x6 x7 x8 2048 (by decide) _ _ ?_ (fun r j k hk => actC_at x0 x1 x2 x3 x4 x5 x6 x7 x8 2048 8192 rfl _ _ _ _ r j k hk)
  refine mx_step x0 x1 x2 x3 x4 x5 x6 x7 x8 1792 (by decide) _ _ ?_ (fun r j k hk => actC_at x0 x1 x2 x3 x4 x5 x6 x7 x8 1792 7936 rfl _ _ _ _ r j k hk)
  refine mx_step x0 x1 x2 x3 x4 x5 x6 x7 x8 1536 (by decide) _ _ ?_ (fun r j k hk => actC_at x0 x1 x2 x3 x4 x5 x6 x7 x8 1536 7680 rfl _ _ _ _ r j k hk)
  refine mx_step x0 x1 x2 x3 x4 x5 x6 x7 x8 1280 (by decide) _ _ ?_ (fun r j k hk => actC_at x0 x1 x2 x3 x4 x5 x6 x7 x8 1280 7424 rfl _ _ _ _ r j k hk)
  refine mx_step x0 x1 x2 x3 x4 x5 x6 x7 x8 1024 (by decide) _ _ ?_ (fun r j k hk => actC_at x0 x1 x2 x3 x4 x5 x6 x7 x8 1024 7168 rfl _ _ _ _ r j k hk)
  refine mx_step x0 x1 x2 x3 x4 x5 x6 x7 x8 768 (by decide) _ _ ?_ (fun r j k hk => actC_at x0 x1 x2 x3 x4 x5 x6 x7 x8 768 6912 rfl _ _ _ _ r j k hk)
  refine mx_step x0 x1 x2 x3 x4 x5 x6 x7 x8 512 (by decide) _ _ ?_ (fun r j k hk => actC_at x0 x1 x2 x3 x4 x5 x6 x7 x8 512 6656 rfl _ _ _ _ r j k hk)
  refine mx_step x0 x1 x2 x3 x4 x5 x6 x7 x8 256 (by decide) _ _ ?_ (fun r j k hk => actC_at x0 x1 x2 x3 x4 x5 x6 x7 x8 256 6400 rfl _ _ _ _ r j k hk)
  refine mx_step x0 x1 x2 x3 x4 x5 x6 x7 x8 0 (by decide) _ _ ?_ (fun r j k hk => actC_at x0 x1 x2 x3 x4 x5 x6 x7 x8 0 6144 rfl _ _ _ _ r j k hk)
  intro r
  have h0 : broadcast S128x1 (Scalar.ofBits (F := Ideal) .f32 0x00000000#32) (ix2 r 0) = (0 : EReal) := by pointwise
  exact h0 ▸ MlpRow.IsMx.zero _

/-- A piece of the activation at its index. -/
theorem act_piece (o : ℕ) (V : FVec Ideal S128x256 .f32)
    (hV : ∀ r (j : Fin 256) (k : Fin 6144), (k : ℕ) = o + j → V (ix2 r j) = MlpRow.act (rowB x0 x1 x2 x3 x4 x5 x6 x7 x8 r) k)
    (x : S128x256.Idx) (y : S128x6144.Idx) (h0 : (y 0 : ℕ) = x 0) (h1 : (y 1 : ℕ) = o + x 1) :
    V x = MlpRow.act (rowB x0 x1 x2 x3 x4 x5 x6 x7 x8 (y 0)) (y 1) := by
  have hx : x = ix2 (y 0) (x 1) := by
    funext a; fin_cases a
    · exact Fin.ext h0.symm
    · rfl
  rw [hx]
  exact hV _ _ _ h1

theorem chunk_at (o p : ℕ) (hp : p = 6144 + o) (i1 i2 i3 i4) (r : Fin 128) (j : Fin 256) (k : Fin 6144) (hk : (k : ℕ) = o + j) :
    chunkV x0 x1 (View.ld x2 (Rect.unit ![0, o] ![2304, 256] i1)) (View.ld x3 (Rect.unit ![0, o] ![1, 256] i2))
      (View.ld x2 (Rect.unit ![0, p] ![2304, 256] i3)) (View.ld x3 (Rect.unit ![0, p] ![1, 256] i4)) (ix2 r j) = MlpRow.act (rowB x0 x1 x2 x3 x4 x5 x6 x7 x8 r) k :=
  actC_at x0 x1 x2 x3 x4 x5 x6 x7 x8 o p hp _ _ _ _ r j k hk

theorem actL_eq : actL x0 x1 x2 x3 = actC x0 x1 x2 x3 := rfl

theorem act_canon (y : S128x6144.Idx) : View.canon (actL x0 x1 x2 x3) y = MlpRow.act (rowB x0 x1 x2 x3 x4 x5 x6 x7 x8 (y 0)) (y 1) := by
  rw [actL_eq]
  unfold actC
  simp only [castV_eq]
  canon_tiles x h
  · exact act_piece x0 x1 x2 x3 x4 x5 x6 x7 x8 5888 _ (chunk_at x0 x1 x2 x3 x4 x5 x6 x7 x8 5888 12032 (by decide) _ _ _ _) x y (by omega) (by omega)
  · exact act_piece x0 x1 x2 x3 x4 x5 x6 x7 x8 5632 _ (chunk_at x0 x1 x2 x3 x4 x5 x6 x7 x8 5632 11776 (by decide) _ _ _ _) x y (by omega) (by omega)
  · exact act_piece x0 x1 x2 x3 x4 x5 x6 x7 x8 5376 _ (chunk_at x0 x1 x2 x3 x4 x5 x6 x7 x8 5376 11520 (by decide) _ _ _ _) x y (by omega) (by omega)
  · exact act_piece x0 x1 x2 x3 x4 x5 x6 x7 x8 5120 _ (chunk_at x0 x1 x2 x3 x4 x5 x6 x7 x8 5120 11264 (by decide) _ _ _ _) x y (by omega) (by omega)
  · exact act_piece x0 x1 x2 x3 x4 x5 x6 x7 x8 4864 _ (chunk_at x0 x1 x2 x3 x4 x5 x6 x7 x8 4864 11008 (by decide) _ _ _ _) x y (by omega) (by omega)
  · exact act_piece x0 x1 x2 x3 x4 x5 x6 x7 x8 4608 _ (chunk_at x0 x1 x2 x3 x4 x5 x6 x7 x8 4608 10752 (by decide) _ _ _ _) x y (by omega) (by omega)
  · exact act_piece x0 x1 x2 x3 x4 x5 x6 x7 x8 4352 _ (chunk_at x0 x1 x2 x3 x4 x5 x6 x7 x8 4352 10496 (by decide) _ _ _ _) x y (by omega) (by omega)
  · exact act_piece x0 x1 x2 x3 x4 x5 x6 x7 x8 4096 _ (chunk_at x0 x1 x2 x3 x4 x5 x6 x7 x8 4096 10240 (by decide) _ _ _ _) x y (by omega) (by omega)
  · exact act_piece x0 x1 x2 x3 x4 x5 x6 x7 x8 3840 _ (chunk_at x0 x1 x2 x3 x4 x5 x6 x7 x8 3840 9984 (by decide) _ _ _ _) x y (by omega) (by omega)
  · exact act_piece x0 x1 x2 x3 x4 x5 x6 x7 x8 3584 _ (chunk_at x0 x1 x2 x3 x4 x5 x6 x7 x8 3584 9728 (by decide) _ _ _ _) x y (by omega) (by omega)
  · exact act_piece x0 x1 x2 x3 x4 x5 x6 x7 x8 3328 _ (chunk_at x0 x1 x2 x3 x4 x5 x6 x7 x8 3328 9472 (by decide) _ _ _ _) x y (by omega) (by omega)
  · exact act_piece x0 x1 x2 x3 x4 x5 x6 x7 x8 3072 _ (chunk_at x0 x1 x2 x3 x4 x5 x6 x7 x8 3072 9216 (by decide) _ _ _ _) x y (by omega) (by omega)
  · exact act_piece x0 x1 x2 x3 x4 x5 x6 x7 x8 2816 _ (chunk_at x0 x1 x2 x3 x4 x5 x6 x7 x8 2816 8960 (by decide) _ _ _ _) x y (by omega) (by omega)
  · exact act_piece x0 x1 x2 x3 x4 x5 x6 x7 x8 2560 _ (chunk_at x0 x1 x2 x3 x4 x5 x6 x7 x8 2560 8704 (by decide) _ _ _ _) x y (by omega) (by omega)
  · exact act_piece x0 x1 x2 x3 x4 x5 x6 x7 x8 2304 _ (chunk_at x0 x1 x2 x3 x4 x5 x6 x7 x8 2304 8448 (by decide) _ _ _ _) x y (by omega) (by omega)
  · exact act_piece x0 x1 x2 x3 x4 x5 x6 x7 x8 2048 _ (chunk_at x0 x1 x2 x3 x4 x5 x6 x7 x8 2048 8192 (by decide) _ _ _ _) x y (by omega) (by omega)
  · exact act_piece x0 x1 x2 x3 x4 x5 x6 x7 x8 1792 _ (chunk_at x0 x1 x2 x3 x4 x5 x6 x7 x8 1792 7936 (by decide) _ _ _ _) x y (by omega) (by omega)
  · exact act_piece x0 x1 x2 x3 x4 x5 x6 x7 x8 1536 _ (chunk_at x0 x1 x2 x3 x4 x5 x6 x7 x8 1536 7680 (by decide) _ _ _ _) x y (by omega) (by omega)
  · exact act_piece x0 x1 x2 x3 x4 x5 x6 x7 x8 1280 _ (chunk_at x0 x1 x2 x3 x4 x5 x6 x7 x8 1280 7424 (by decide) _ _ _ _) x y (by omega) (by omega)
  · exact act_piece x0 x1 x2 x3 x4 x5 x6 x7 x8 1024 _ (chunk_at x0 x1 x2 x3 x4 x5 x6 x7 x8 1024 7168 (by decide) _ _ _ _) x y (by omega) (by omega)
  · exact act_piece x0 x1 x2 x3 x4 x5 x6 x7 x8 768 _ (chunk_at x0 x1 x2 x3 x4 x5 x6 x7 x8 768 6912 (by decide) _ _ _ _) x y (by omega) (by omega)
  · exact act_piece x0 x1 x2 x3 x4 x5 x6 x7 x8 512 _ (chunk_at x0 x1 x2 x3 x4 x5 x6 x7 x8 512 6656 (by decide) _ _ _ _) x y (by omega) (by omega)
  · exact act_piece x0 x1 x2 x3 x4 x5 x6 x7 x8 256 _ (chunk_at x0 x1 x2 x3 x4 x5 x6 x7 x8 256 6400 (by decide) _ _ _ _) x y (by omega) (by omega)
  · exact act_piece x0 x1 x2 x3 x4 x5 x6 x7 x8 0 _ (chunk_at x0 x1 x2 x3 x4 x5 x6 x7 x8 0 6144 (by decide) _ _ _ _) x y (by omega) (by omega)

/-- A chunk of the activation read back. -/
def actRd (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32)
    (o : ℕ) (inb : ∀ a, (![0, o] : Fin 2 → ℕ) a + (![128, 256] : Fin 2 → ℕ) a ≤ S128x6144.size a) : FVec Ideal S128x256 .f32 :=
  arg16.view.readCov (actL x0 x1 x2 x3) (Rect.unit (s := S128x6144) ![0, o] ![128, 256] inb).toLoadRect

theorem act_read (arg16 : Memref sig .tc .vmem S128x6144 .f32) (o : ℕ) (inb) (r : Fin 128) (j : Fin 256) (k : Fin 6144) (hk : (k : ℕ) = o + j) :
    actRd arg16 x0 x1 x2 x3 o inb (ix2 r j) = MlpRow.act (rowB x0 x1 x2 x3 x4 x5 x6 x7 x8 r) k := by
  unfold actRd
  rw [View.readCov_eq_canon']
  have hx : (Rect.unit (s := S128x6144) ![0, o] ![128, 256] inb).toLoadRect.idx (ix2 r j) = ix2 r k := by
    funext a; fin_cases a <;> exact Fin.ext (by simp [hk])
  exact (congrArg (View.canon (actL x0 x1 x2 x3)) hx).trans (act_canon x0 x1 x2 x3 x4 x5 x6 x7 x8 _)

end Cert.MlpIdeal.Value
end
-- ==== Proof.Codes.lean ====
module
public import proofs.«01_k».proof.Proof.Parts
@[expose] public section
set_option maxRecDepth 65536
noncomputable section
open Idealize.ShloMosaic Idealize.ShloMosaic.TcCoe Idealize.SL.Sem
open Idealize.ShloMosaic.Pipeline (Dat)

/-! # What a grid point keeps of the codes

The codes as the chunks store them, named once with their value at an index, and the whole row of them as the down
projection reads it back. -/

namespace Cert.MlpIdeal.Value
open Cert.MlpIdeal Cert.MlpIdeal.Gen

variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

/-- The pieces of the codes. -/
def codeC (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32) : List (View.Piece (Elt Ideal) S1x128x6144 .fp8e4m3) :=
    [⟨Rect.unit ![0, 0, 5888] ![1, 128, 256] inb_S1x128x6144_S1x128x256_0_0_5888, codeV (ascT x0 x1 x2 x3) (actRd arg16 x0 x1 x2 x3 5888 inb_S128x6144_S128x256_0_5888)⟩,
    ⟨Rect.unit ![0, 0, 5632] ![1, 128, 256] inb_S1x128x6144_S1x128x256_0_0_5632, codeV (ascT x0 x1 x2 x3) (actRd arg16 x0 x1 x2 x3 5632 inb_S128x6144_S128x256_0_5632)⟩,
    ⟨Rect.unit ![0, 0, 5376] ![1, 128, 256] inb_S1x128x6144_S1x128x256_0_0_5376, codeV (ascT x0 x1 x2 x3) (actRd arg16 x0 x1 x2 x3 5376 inb_S128x6144_S128x256_0_5376)⟩,
    ⟨Rect.unit ![0, 0, 5120] ![1, 128, 256] inb_S1x128x6144_S1x128x256_0_0_5120, codeV (ascT x0 x1 x2 x3) (actRd arg16 x0 x1 x2 x3 5120 inb_S128x6144_S128x256_0_5120)⟩,
    ⟨Rect.unit ![0, 0, 4864] ![1, 128, 256] inb_S1x128x6144_S1x128x256_0_0_4864, codeV (ascT x0 x1 x2 x3) (actRd arg16 x0 x1 x2 x3 4864 inb_S128x6144_S128x256_0_4864)⟩,
    ⟨Rect.unit ![0, 0, 4608] ![1, 128, 256] inb_S1x128x6144_S1x128x256_0_0_4608, codeV (ascT x0 x1 x2 x3) (actRd arg16 x0 x1 x2 x3 4608 inb_S128x6144_S128x256_0_4608)⟩,
    ⟨Rect.unit ![0, 0, 4352] ![1, 128, 256] inb_S1x128x6144_S1x128x256_0_0_4352, codeV (ascT x0 x1 x2 x3) (actRd arg16 x0 x1 x2 x3 4352 inb_S128x6144_S128x256_0_4352)⟩,
    ⟨Rect.unit ![0, 0, 4096] ![1, 128, 256] inb_S1x128x6144_S1x128x256_0_0_4096, codeV (ascT x0 x1 x2 x3) (actRd arg16 x0 x1 x2 x3 4096 inb_S128x6144_S128x256_0_4096)⟩,
    ⟨Rect.unit ![0, 0, 3840] ![1, 128, 256] inb_S1x128x6144_S1x128x256_0_0_3840, codeV (ascT x0 x1 x2 x3) (actRd arg16 x0 x1 x2 x3 3840 inb_S128x6144_S128x256_0_3840)⟩,
    ⟨Rect.unit ![0, 0, 3584] ![1, 128, 256] inb_S1x128x6144_S1x128x256_0_0_3584, codeV (ascT x0 x1 x2 x3) (actRd arg16 x0 x1 x2 x3 3584 inb_S128x6144_S128x256_0_3584)⟩,
    ⟨Rect.unit ![0, 0, 3328] ![1, 128, 256] inb_S1x128x6144_S1x128x256_0_0_3328, codeV (ascT x0 x1 x2 x3) (actRd arg16 x0 x1 x2 x3 3328 inb_S128x6144_S128x256_0_3328)⟩,
    ⟨Rect.unit ![0, 0, 3072] ![1, 128, 256] inb_S1x128x6144_S1x128x256_0_0_3072, codeV (ascT x0 x1 x2 x3) (actRd arg16 x0 x1 x2 x3 3072 inb_S128x6144_S128x256_0_3072)⟩,
    ⟨Rect.unit ![0, 0, 2816] ![1, 128, 256] inb_S1x128x6144_S1x128x256_0_0_2816, codeV (ascT x0 x1 x2 x3) (actRd arg16 x0 x1 x2 x3 2816 inb_S128x6144_S128x256_0_2816)⟩,
    ⟨Rect.unit ![0, 0, 2560] ![1, 128, 256] inb_S1x128x6144_S1x128x256_0_0_2560, codeV (ascT x0 x1 x2 x3) (actRd arg16 x0 x1 x2 x3 2560 inb_S128x6144_S128x256_0_2560)⟩,
    ⟨Rect.unit ![0, 0, 2304] ![1, 128, 256] inb_S1x128x6144_S1x128x256_0_0_2304, codeV (ascT x0 x1 x2 x3) (actRd arg16 x0 x1 x2 x3 2304 inb_S128x6144_S128x256_0_2304)⟩,
    ⟨Rect.unit ![0, 0, 2048] ![1, 128, 256] inb_S1x128x6144_S1x128x256_0_0_2048, codeV (ascT x0 x1 x2 x3) (actRd arg16 x0 x1 x2 x3 2048 inb_S128x6144_S128x256_0_2048)⟩,
    ⟨Rect.unit ![0, 0, 1792] ![1, 128, 256] inb_S1x128x6144_S1x128x256_0_0_1792, codeV (ascT x0 x1 x2 x3) (actRd arg16 x0 x1 x2 x3 1792 inb_S128x6144_S128x256_0_1792)⟩,
    ⟨Rect.unit ![0, 0, 1536] ![1, 128, 256] inb_S1x128x6144_S1x128x256_0_0_1536, codeV (ascT x0 x1 x2 x3) (actRd arg16 x0 x1 x2 x3 1536 inb_S128x6144_S128x256_0_1536)⟩,
    ⟨Rect.unit ![0, 0, 1280] ![1, 128, 256] inb_S1x128x6144_S1x128x256_0_0_1280, codeV (ascT x0 x1 x2 x3) (actRd arg16 x0 x1 x2 x3 1280 inb_S128x6144_S128x256_0_1280)⟩,
    ⟨Rect.unit ![0, 0, 1024] ![1, 128, 256] inb_S1x128x6144_S1x128x256_0_0_1024, codeV (ascT x0 x1 x2 x3) (actRd arg16 x0 x1 x2 x3 1024 inb_S128x6144_S128x256_0_1024)⟩,
    ⟨Rect.unit ![0, 0, 768] ![1, 128, 256] inb_S1x128x6144_S1x128x256_0_0_768, codeV (ascT x0 x1 x2 x3) (actRd arg16 x0 x1 x2 x3 768 inb_S128x6144_S128x256_0_768)⟩,
    ⟨Rect.unit ![0, 0, 512] ![1, 128, 256] inb_S1x128x6144_S1x128x256_0_0_512, codeV (ascT x0 x1 x2 x3) (actRd arg16 x0 x1 x2 x3 512 inb_S128x6144_S128x256_0_512)⟩,
    ⟨Rect.unit ![0, 0, 256] ![1, 128, 256] inb_S1x128x6144_S1x128x256_0_0_256, codeV (ascT x0 x1 x2 x3) (actRd arg16 x0 x1 x2 x3 256 inb_S128x6144_S128x256_0_256)⟩,
    ⟨Rect.unit ![0, 0, 0] ![1, 128, 256] inb_S1x128x6144_S1x128x256_0_0_0, codeV (ascT x0 x1 x2 x3) (actRd arg16 x0 x1 x2 x3 0 inb_S128x6144_S128x256_0_0)⟩]

/-- A piece of the codes at its index. -/
theorem code_piece (o : ℕ) (asc : FVec Ideal S128x1 .f32) (V : FVec Ideal S128x256 .f32)
    (hasc : ∀ r, asc (ix2 r 0) = MlpRow.asc (rowB x0 x1 x2 x3 x4 x5 x6 x7 x8 r))
    (hV : ∀ r (j : Fin 256) (k : Fin 6144), (k : ℕ) = o + j → V (ix2 r j) = MlpRow.act (rowB x0 x1 x2 x3 x4 x5 x6 x7 x8 r) k)
    (x : S1x128x256.Idx) (y : S1x128x6144.Idx) (h1 : (y 1 : ℕ) = x 1) (h2 : (y 2 : ℕ) = o + x 2) :
    codeV asc V x = MlpRow.code (rowB x0 x1 x2 x3 x4 x5 x6 x7 x8 (y 1)) (y 2) := by
  have hx : x = ix3 0 (y 1) (x 2) := by
    funext a; fin_cases a
    · exact Subsingleton.elim (α := Fin 1) _ _
    · exact Fin.ext h1.symm
    · rfl
  rw [hx]
  exact codeC_at x0 x1 x2 x3 x4 x5 x6 x7 x8 asc V _ _ _ (hasc _) (hV _ _ _ h2)

theorem code_canon (arg16 : Memref sig .tc .vmem S128x6144 .f32) (y : S1x128x6144.Idx) :
    View.canon (codeC arg16 x0 x1 x2 x3) y = MlpRow.code (rowB x0 x1 x2 x3 x4 x5 x6 x7 x8 (y 1)) (y 2) := by
  unfold codeC
  canon_tiles x h
  · exact code_piece x0 x1 x2 x3 x4 x5 x6 x7 x8 5888 (ascT x0 x1 x2 x3) (actRd arg16 x0 x1 x2 x3 5888 inb_S128x6144_S128x256_0_5888) (ascT_at x0 x1 x2 x3 x4 x5 x6 x7 x8) (act_read x0 x1 x2 x3 x4 x5 x6 x7 x8 arg16 _ _) x y (by omega) (by omega)
  · exact code_piece x0 x1 x2 x3 x4 x5 x6 x7 x8 5632 (ascT x0 x1 x2 x3) (actRd arg16 x0 x1 x2 x3 5632 inb_S128x6144_S128x256_0_5632) (ascT_at x0 x1 x2 x3 x4 x5 x6 x7 x8) (act_read x0 x1 x2 x3 x4 x5 x6 x7 x8 arg16 _ _) x y (by omega) (by omega)
  · exact code_piece x0 x1 x2 x3 x4 x5 x6 x7 x8 5376 (ascT x0 x1 x2 x3) (actRd arg16 x0 x1 x2 x3 5376 inb_S128x6144_S128x256_0_5376) (ascT_at x0 x1 x2 x3 x4 x5 x6 x7 x8) (act_read x0 x1 x2 x3 x4 x5 x6 x7 x8 arg16 _ _) x y (by omega) (by omega)
  · exact code_piece x0 x1 x2 x3 x4 x5 x6 x7 x8 5120 (ascT x0 x1 x2 x3) (actRd arg16 x0 x1 x2 x3 5120 inb_S128x6144_S128x256_0_5120) (ascT_at x0 x1 x2 x3 x4 x5 x6 x7 x8) (act_read x0 x1 x2 x3 x4 x5 x6 x7 x8 arg16 _ _) x y (by omega) (by omega)
  · exact code_piece x0 x1 x2 x3 x4 x5 x6 x7 x8 4864 (ascT x0 x1 x2 x3) (actRd arg16 x0 x1 x2 x3 4864 inb_S128x6144_S128x256_0_4864) (ascT_at x0 x1 x2 x3 x4 x5 x6 x7 x8) (act_read x0 x1 x2 x3 x4 x5 x6 x7 x8 arg16 _ _) x y (by omega) (by omega)
  · exact code_piece x0 x1 x2 x3 x4 x5 x6 x7 x8 4608 (ascT x0 x1 x2 x3) (actRd arg16 x0 x1 x2 x3 4608 inb_S128x6144_S128x256_0_4608) (ascT_at x0 x1 x2 x3 x4 x5 x6 x7 x8) (act_read x0 x1 x2 x3 x4 x5 x6 x7 x8 arg16 _ _) x y (by omega) (by omega)
  · exact code_piece x0 x1 x2 x3 x4 x5 x6 x7 x8 4352 (ascT x0 x1 x2 x3) (actRd arg16 x0 x1 x2 x3 4352 inb_S128x6144_S128x256_0_4352) (ascT_at x0 x1 x2 x3 x4 x5 x6 x7 x8) (act_read x0 x1 x2 x3 x4 x5 x6 x7 x8 arg16 _ _) x y (by omega) (by omega)
  · exact code_piece x0 x1 x2 x3 x4 x5 x6 x7 x8 4096 (ascT x0 x1 x2 x3) (actRd arg16 x0 x1 x2 x3 4096 inb_S128x6144_S128x256_0_4096) (ascT_at x0 x1 x2 x3 x4 x5 x6 x7 x8) (act_read x0 x1 x2 x3 x4 x5 x6 x7 x8 arg16 _ _) x y (by omega) (by omega)
  · exact code_piece x0 x1 x2 x3 x4 x5 x6 x7 x8 3840 (ascT x0 x1 x2 x3) (actRd arg16 x0 x1 x2 x3 3840 inb_S128x6144_S128x256_0_3840) (ascT_at x0 x1 x2 x3 x4 x5 x6 x7 x8) (act_read x0 x1 x2 x3 x4 x5 x6 x7 x8 arg16 _ _) x y (by omega) (by omega)
  · exact code_piece x0 x1 x2 x3 x4 x5 x6 x7 x8 3584 (ascT x0 x1 x2 x3) (actRd arg16 x0 x1 x2 x3 3584 inb_S128x6144_S128x256_0_3584) (ascT_at x0 x1 x2 x3 x4 x5 x6 x7 x8) (act_read x0 x1 x2 x3 x4 x5 x6 x7 x8 arg16 _ _) x y (by omega) (by omega)
  · exact code_piece x0 x1 x2 x3 x4 x5 x6 x7 x8 3328 (ascT x0 x1 x2 x3) (actRd arg16 x0 x1 x2 x3 3328 inb_S128x6144_S128x256_0_3328) (ascT_at x0 x1 x2 x3 x4 x5 x6 x7 x8) (act_read x0 x1 x2 x3 x4 x5 x6 x7 x8 arg16 _ _) x y (by omega) (by omega)
  · exact code_piece x0 x1 x2 x3 x4 x5 x6 x7 x8 3072 (ascT x0 x1 x2 x3) (actRd arg16 x0 x1 x2 x3 3072 inb_S128x6144_S128x256_0_3072) (ascT_at x0 x1 x2 x3 x4 x5 x6 x7 x8) (act_read x0 x1 x2 x3 x4 x5 x6 x7 x8 arg16 _ _) x y (by omega) (by omega)
  · exact code_piece x0 x1 x2 x3 x4 x5 x6 x7 x8 2816 (ascT x0 x1 x2 x3) (actRd arg16 x0 x1 x2 x3 2816 inb_S128x6144_S128x256_0_2816) (ascT_at x0 x1 x2 x3 x4 x5 x6 x7 x8) (act_read x0 x1 x2 x3 x4 x5 x6 x7 x8 arg16 _ _) x y (by omega) (by omega)
  · exact code_piece x0 x1 x2 x3 x4 x5 x6 x7 x8 2560 (ascT x0 x1 x2 x3) (actRd arg16 x0 x1 x2 x3 2560 inb_S128x6144_S128x256_0_2560) (ascT_at x0 x1 x2 x3 x4 x5 x6 x7 x8) (act_read x0 x1 x2 x3 x4 x5 x6 x7 x8 arg16 _ _) x y (by omega) (by omega)
  · exact code_piece x0 x1 x2 x3 x4 x5 x6 x7 x8 2304 (ascT x0 x1 x2 x3) (actRd arg16 x0 x1 x2 x3 2304 inb_S128x6144_S128x256_0_2304) (ascT_at x0 x1 x2 x3 x4 x5 x6 x7 x8) (act_read x0 x1 x2 x3 x4 x5 x6 x7 x8 arg16 _ _) x y (by omega) (by omega)
  · exact code_piece x0 x1 x2 x3 x4 x5 x6 x7 x8 2048 (ascT x0 x1 x2 x3) (actRd arg16 x0 x1 x2 x3 2048 inb_S128x6144_S128x256_0_2048) (ascT_at x0 x1 x2 x3 x4 x5 x6 x7 x8) (act_read x0 x1 x2 x3 x4 x5 x6 x7 x8 arg16 _ _) x y (by omega) (by omega)
  · exact code_piece x0 x1 x2 x3 x4 x5 x6 x7 x8 1792 (ascT x0 x1 x2 x3) (actRd arg16 x0 x1 x2 x3 1792 inb_S128x6144_S128x256_0_1792) (ascT_at x0 x1 x2 x3 x4 x5 x6 x7 x8) (act_read x0 x1 x2 x3 x4 x5 x6 x7 x8 arg16 _ _) x y (by omega) (by omega)
  · exact code_piece x0 x1 x2 x3 x4 x5 x6 x7 x8 1536 (ascT x0 x1 x2 x3) (actRd arg16 x0 x1 x2 x3 1536 inb_S128x6144_S128x256_0_1536) (ascT_at x0 x1 x2 x3 x4 x5 x6 x7 x8) (act_read x0 x1 x2 x3 x4 x5 x6 x7 x8 arg16 _ _) x y (by omega) (by omega)
  · exact code_piece x0 x1 x2 x3 x4 x5 x6 x7 x8 1280 (ascT x0 x1 x2 x3) (actRd arg16 x0 x1 x2 x3 1280 inb_S128x6144_S128x256_0_1280) (ascT_at x0 x1 x2 x3 x4 x5 x6 x7 x8) (act_read x0 x1 x2 x3 x4 x5 x6 x7 x8 arg16 _ _) x y (by omega) (by omega)
  · exact code_piece x0 x1 x2 x3 x4 x5 x6 x7 x8 1024 (ascT x0 x1 x2 x3) (actRd arg16 x0 x1 x2 x3 1024 inb_S128x6144_S128x256_0_1024) (ascT_at x0 x1 x2 x3 x4 x5 x6 x7 x8) (act_read x0 x1 x2 x3 x4 x5 x6 x7 x8 arg16 _ _) x y (by omega) (by omega)
  · exact code_piece x0 x1 x2 x3 x4 x5 x6 x7 x8 768 (ascT x0 x1 x2 x3) (actRd arg16 x0 x1 x2 x3 768 inb_S128x6144_S128x256_0_768) (ascT_at x0 x1 x2 x3 x4 x5 x6 x7 x8) (act_read x0 x1 x2 x3 x4 x5 x6 x7 x8 arg16 _ _) x y (by omega) (by omega)
  · exact code_piece x0 x1 x2 x3 x4 x5 x6 x7 x8 512 (ascT x0 x1 x2 x3) (actRd arg16 x0 x1 x2 x3 512 inb_S128x6144_S128x256_0_512) (ascT_at x0 x1 x2 x3 x4 x5 x6 x7 x8) (act_read x0 x1 x2 x3 x4 x5 x6 x7 x8 arg16 _ _) x y (by omega) (by omega)
  · exact code_piece x0 x1 x2 x3 x4 x5 x6 x7 x8 256 (ascT x0 x1 x2 x3) (actRd arg16 x0 x1 x2 x3 256 inb_S128x6144_S128x256_0_256) (ascT_at x0 x1 x2 x3 x4 x5 x6 x7 x8) (act_read x0 x1 x2 x3 x4 x5 x6 x7 x8 arg16 _ _) x y (by omega) (by omega)
  · exact code_piece x0 x1 x2 x3 x4 x5 x6 x7 x8 0 (ascT x0 x1 x2 x3) (actRd arg16 x0 x1 x2 x3 0 inb_S128x6144_S128x256_0_0) (ascT_at x0 x1 x2 x3 x4 x5 x6 x7 x8) (act_read x0 x1 x2 x3 x4 x5 x6 x7 x8 arg16 _ _) x y (by omega) (by omega)

/-- The whole row of codes read back. -/
def acRd (arg12 : Memref sig .tc .vmem S1x128x6144 .fp8e4m3) (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32) : FVec Ideal S1x128x6144 .fp8e4m3 :=
  arg12.view.readCov (codeC arg16 x0 x1 x2 x3) (Rect.unit (s := S1x128x6144) ![0, 0, 0] ![1, 128, 6144] inb_S1x128x6144_S1x128x6144_0_0_0).toLoadRect

theorem acRd_at (arg12 : Memref sig .tc .vmem S1x128x6144 .fp8e4m3) (arg16 : Memref sig .tc .vmem S128x6144 .f32) (r : Fin 128) (k : Fin 6144) :
    acRd arg12 arg16 x0 x1 x2 x3 (ix3 0 r k) = MlpRow.code (rowB x0 x1 x2 x3 x4 x5 x6 x7 x8 r) k := by
  unfold acRd
  rw [View.readCov_eq_canon']
  have hx : (Rect.unit (s := S1x128x6144) ![0, 0, 0] ![1, 128, 6144] inb_S1x128x6144_S1x128x6144_0_0_0).toLoadRect.idx (ix3 0 r k) = ix3 0 r k := by
    funext a; fin_cases a <;> exact Fin.ext (by simp)
  exact (congrArg (View.canon (codeC arg16 x0 x1 x2 x3)) hx).trans (code_canon x0 x1 x2 x3 x4 x5 x6 x7 x8 arg16 _)

end Cert.MlpIdeal.Value
end
-- ==== Proof.Out9.lean ====
module
public import proofs.«01_k».proof.Proof.Codes
@[expose] public section
set_option maxRecDepth 65536
noncomputable section
open Idealize.ShloMosaic Idealize.ShloMosaic.TcCoe Idealize.SL.Sem
open Idealize.ShloMosaic.Pipeline (Dat)

/-! # The rows a grid point stores

Nine chunks of 256 columns of the rows after the down projection. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

/-- The pieces. -/
def yaC (arg12 : Memref sig .tc .vmem S1x128x6144 .fp8e4m3) (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32) : List (View.Piece (Elt Ideal) S1x128x2304 .bf16) :=
    [⟨Rect.unit ![0, 0, 2048] ![1, 128, 256] inb_S1x128x2304_S1x128x256_0_0_2048, yaV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048)))⟩,
    ⟨Rect.unit ![0, 0, 1792] ![1, 128, 256] inb_S1x128x2304_S1x128x256_0_0_1792, yaV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792)))⟩,
    ⟨Rect.unit ![0, 0, 1536] ![1, 128, 256] inb_S1x128x2304_S1x128x256_0_0_1536, yaV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536)))⟩,
    ⟨Rect.unit ![0, 0, 1280] ![1, 128, 256] inb_S1x128x2304_S1x128x256_0_0_1280, yaV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280)))⟩,
    ⟨Rect.unit ![0, 0, 1024] ![1, 128, 256] inb_S1x128x2304_S1x128x256_0_0_1024, yaV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024)))⟩,
    ⟨Rect.unit ![0, 0, 768] ![1, 128, 256] inb_S1x128x2304_S1x128x256_0_0_768, yaV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768)))⟩,
    ⟨Rect.unit ![0, 0, 512] ![1, 128, 256] inb_S1x128x2304_S1x128x256_0_0_512, yaV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512)))⟩,
    ⟨Rect.unit ![0, 0, 256] ![1, 128, 256] inb_S1x128x2304_S1x128x256_0_0_256, yaV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256)))⟩,
    ⟨Rect.unit ![0, 0, 0] ![1, 128, 256] inb_S1x128x2304_S1x128x256_0_0_0, yaV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0)))⟩]

theorem ya_piece (o : ℕ) (V : FVec Ideal S1x128x256 .bf16)
    (hV : ∀ r (j : Fin 256) (n : Fin 2304), (n : ℕ) = o + j → V (ix3 0 r j) = MlpRow.x2 (rowB x0 x1 x2 x3 x4 x5 x6 x7 x8 r) n)
    (x : S1x128x256.Idx) (y : S1x128x2304.Idx) (h1 : (y 1 : ℕ) = x 1) (h2 : (y 2 : ℕ) = o + x 2) :
    V x = MlpRow.x2 (rowB x0 x1 x2 x3 x4 x5 x6 x7 x8 (y 1)) (y 2) := by
  have hx : x = ix3 0 (y 1) (x 2) := by
    funext a; fin_cases a
    · exact Subsingleton.elim (α := Fin 1) _ _
    · exact Fin.ext h1.symm
    · rfl
  rw [hx]
  exact hV _ _ _ h2

theorem ya_canon (y : S1x128x2304.Idx) : View.canon (yaC arg12 arg16 x0 x1 x2 x3 x4 x5 x6 x7 x8) y = MlpRow.x2 (rowB x0 x1 x2 x3 x4 x5 x6 x7 x8 (y 1)) (y 2) := by
  unfold yaC
  canon_tiles x h
  · exact ya_piece x0 x1 x2 x3 x4 x5 x6 x7 x8 2048 _ (fun r j n hn => yaC_at x0 x1 x2 x3 x4 x5 x6 x7 x8 2048 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 1792 _ (fun r j n hn => yaC_at x0 x1 x2 x3 x4 x5 x6 x7 x8 1792 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 1536 _ (fun r j n hn => yaC_at x0 x1 x2 x3 x4 x5 x6 x7 x8 1536 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 1280 _ (fun r j n hn => yaC_at x0 x1 x2 x3 x4 x5 x6 x7 x8 1280 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 1024 _ (fun r j n hn => yaC_at x0 x1 x2 x3 x4 x5 x6 x7 x8 1024 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 768 _ (fun r j n hn => yaC_at x0 x1 x2 x3 x4 x5 x6 x7 x8 768 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 512 _ (fun r j n hn => yaC_at x0 x1 x2 x3 x4 x5 x6 x7 x8 512 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 256 _ (fun r j n hn => yaC_at x0 x1 x2 x3 x4 x5 x6 x7 x8 256 _ _ _ _ _ _ r (ascT_at x0 x1 x2 x3 x4 x5 x6 x7 x8 r) (acRd_at x0 x1 x2 x3 x4 x5 x6 x7 x8 arg12 arg16 r) j n hn) x y (by omega) (by omega)
  · exact ya_piece x0 x1 x2 x3 x4 x5 x6 x7 x8 0 _ (fun r j n hn => yaC_at x0 x1 x2 x3 x4 x5 x6 x7 x8 0 _ _ _ _ _ _ r (ascT_at x0 x1 x2 x3 x4 x5 x6 x7 x8 r) (acRd_at x0 x1 x2 x3 x4 x5 x6 x7 x8 arg12 arg16 r) j n hn) x y (by omega) (by omega)

theorem out9_at (y : S1x128x2304.Idx) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y = MlpRow.x2 (rowB x0 x1 x2 x3 x4 x5 x6 x7 x8 (y 1)) (y 2) := by
  frame_out
  exact ya_canon arg12 arg16 x0 x1 x2 x3 x4 x5 x6 x7 x8 y

end Cert.MlpIdeal.Value
end
-- ==== Proof.Out10.lean ====
module
public import proofs.«01_k».proof.Proof.Codes
@[expose] public section
set_option maxRecDepth 65536
noncomputable section
open Idealize.ShloMosaic Idealize.ShloMosaic.TcCoe Idealize.SL.Sem
open Idealize.ShloMosaic.Pipeline (Dat)

/-! # The codes a grid point stores

The stored codes are the pieces named before. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem out10_at (y : S1x128x6144.Idx) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y = MlpRow.code (rowB x0 x1 x2 x3 x4 x5 x6 x7 x8 (y 1)) (y 2) := by
  frame_out
  exact code_canon x0 x1 x2 x3 x4 x5 x6 x7 x8 arg16 y

end Cert.MlpIdeal.Value
end
-- ==== Proof.Out11.lean ====
module
public import proofs.«01_k».proof.Proof.Chunks
public import proofs.«01_k».proof.Proof.Gen.MlpIdeal.Value
@[expose] public section
set_option maxRecDepth 65536
noncomputable section
open Idealize.ShloMosaic Idealize.ShloMosaic.TcCoe Idealize.SL.Sem
open Idealize.ShloMosaic.Pipeline (Dat)

/-! # The scale a grid point stores

The 24 chunks of the activation are joined in one after another. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem out11_at (r : Fin 128) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r 0) = MlpRow.asc (rowB x0 x1 x2 x3 x4 x5 x6 x7 x8 r) := by
  frame_out
  refine asc3_of x0 x1 x2 x3 x4 x5 x6 x7 x8 _ ?_ r
  refine mx_step x0 x1 x2 x3 x4 x5 x6 x7 x8 5888 (by decide) _ _ ?_ (fun r j k hk => actC_at x0 x1 x2 x3 x4 x5 x6 x7 x8 5888 12032 rfl _ _ _ _ r j k hk)
  refine mx_step x0 x1 x2 x3 x4 x5 x6 x7 x8 5632 (by decide) _ _ ?_ (fun r j k hk => actC_at x0 x1 x2 x3 x4 x5 x6 x7 x8 5632 11776 rfl _ _ _ _ r j k hk)
  refine mx_step x0 x1 x2 x3 x4 x5 x6 x7 x8 5376 (by decide) _ _ ?_ (fun r j k hk => actC_at x0 x1 x2 x3 x4 x5 x6 x7 x8 5376 11520 rfl _ _ _ _ r j k hk)
  refine mx_step x0 x1 x2 x3 x4 x5 x6 x7 x8 5120 (by decide) _ _ ?_ (fun r j k hk => actC_at x0 x1 x2 x3 x4 x5 x6 x7 x8 5120 11264 rfl _ _ _ _ r j k hk)
  refine mx_step x0 x1 x2 x3 x4 x5 x6 x7 x8 4864 (by decide) _ _ ?_ (fun r j k hk => actC_at x0 x1 x2 x3 x4 x5 x6 x7 x8 4864 11008 rfl _ _ _ _ r j k hk)
  refine mx_step x0 x1 x2 x3 x4 x5 x6 x7 x8 4608 (by decide) _ _ ?_ (fun r j k hk => actC_at x0 x1 x2 x3 x4 x5 x6 x7 x8 4608 10752 rfl _ _ _ _ r j k hk)
  refine mx_step x0 x1 x2 x3 x4 x5 x6 x7 x8 4352 (by decide) _ _ ?_ (fun r j k hk => actC_at x0 x1 x2 x3 x4 x5 x6 x7 x8 4352 10496 rfl _ _ _ _ r j k hk)
  refine mx_step x0 x1 x2 x3 x4 x5 x6 x7 x8 4096 (by decide) _ _ ?_ (fun r j k hk => actC_at x0 x1 x2 x3 x4 x5 x6 x7 x8 4096 10240 rfl _ _ _ _ r j k hk)
  refine mx_step x0 x1 x2 x3 x4 x5 x6 x7 x8 3840 (by decide) _ _ ?_ (fun r j k hk => actC_at x0 x1 x2 x3 x4 x5 x6 x7 x8 3840 9984 rfl _ _ _ _ r j k hk)
  refine mx_step x0 x1 x2 x3 x4 x5 x6 x7 x8 3584 (by decide) _ _ ?_ (fun r j k hk => actC_at x0 x1 x2 x3 x4 x5 x6 x7 x8 3584 9728 rfl _ _ _ _ r j k hk)
  refine mx_step x0 x1 x2 x3 x4 x5 x6 x7 x8 3328 (by decide) _ _ ?_ (fun r j k hk => actC_at x0 x1 x2 x3 x4 x5 x6 x7 x8 3328 9472 rfl _ _ _ _ r j k hk)
  refine mx_step x0 x1 x2 x3 x4 x5 x6 x7 x8 3072 (by decide) _ _ ?_ (fun r j k hk => actC_at x0 x1 x2 x3 x4 x5 x6 x7 x8 3072 9216 rfl _ _ _ _ r j k hk)
  refine mx_step x0 x1 x2 x3 x4 x5 x6 x7 x8 2816 (by decide) _ _ ?_ (fun r j k hk => actC_at x0 x1 x2 x3 x4 x5 x6 x7 x8 2816 8960 rfl _ _ _ _ r j k hk)
  refine mx_step x0 x1 x2 x3 x4 x5 x6 x7 x8 2560 (by decide) _ _ ?_ (fun r j k hk => actC_at x0 x1 x2 x3 x4 x5 x6 x7 x8 2560 8704 rfl _ _ _ _ r j k hk)
  refine mx_step x0 x1 x2 x3 x4 x5 x6 x7 x8 2304 (by decide) _ _ ?_ (fun r j k hk => actC_at x0 x1 x2 x3 x4 x5 x6 x7 x8 2304 8448 rfl _ _ _ _ r j k hk)
  refine mx_step x0 x1 x2 x3 x4 x5 x6 x7 x8 2048 (by decide) _ _ ?_ (fun r j k hk => actC_at x0 x1 x2 x3 x4 x5 x6 x7 x8 2048 8192 rfl _ _ _ _ r j k hk)
  refine mx_step x0 x1 x2 x3 x4 x5 x6 x7 x8 1792 (by decide) _ _ ?_ (fun r j k hk => actC_at x0 x1 x2 x3 x4 x5 x6 x7 x8 1792 7936 rfl _ _ _ _ r j k hk)
  refine mx_step x0 x1 x2 x3 x4 x5 x6 x7 x8 1536 (by decide) _ _ ?_ (fun r j k hk => actC_at x0 x1 x2 x3 x4 x5 x6 x7 x8 1536 7680 rfl _ _ _ _ r j k hk)
  refine mx_step x0 x1 x2 x3 x4 x5 x6 x7 x8 1280 (by decide) _ _ ?_ (fun r j k hk => actC_at x0 x1 x2 x3 x4 x5 x6 x7 x8 1280 7424 rfl _ _ _ _ r j k hk)
  refine mx_step x0 x1 x2 x3 x4 x5 x6 x7 x8 1024 (by decide) _ _ ?_ (fun r j k hk => actC_at x0 x1 x2 x3 x4 x5 x6 x7 x8 1024 7168 rfl _ _ _ _ r j k hk)
  refine mx_step x0 x1 x2 x3 x4 x5 x6 x7 x8 768 (by decide) _ _ ?_ (fun r j k hk => actC_at x0 x1 x2 x3 x4 x5 x6 x7 x8 768 6912 rfl _ _ _ _ r j k hk)
  refine mx_step x0 x1 x2 x3 x4 x5 x6 x7 x8 512 (by decide) _ _ ?_ (fun r j k hk => actC_at x0 x1 x2 x3 x4 x5 x6 x7 x8 512 6656 rfl _ _ _ _ r j k hk)
  refine mx_step x0 x1 x2 x3 x4 x5 x6 x7 x8 256 (by decide) _ _ ?_ (fun r j k hk => actC_at x0 x1 x2 x3 x4 x5 x6 x7 x8 256 6400 rfl _ _ _ _ r j k hk)
  refine mx_step x0 x1 x2 x3 x4 x5 x6 x7 x8 0 (by decide) _ _ ?_ (fun r j k hk => actC_at x0 x1 x2 x3 x4 x5 x6 x7 x8 0 6144 rfl _ _ _ _ r j k hk)
  intro r
  have h0 : broadcast S128x1 (Scalar.ofBits (F := Ideal) .f32 0x00000000#32) (ix2 r 0) = (0 : EReal) := by pointwise
  exact h0 ▸ MlpRow.IsMx.zero _

end Cert.MlpIdeal.Value
end
-- ==== Proof.Groups.lean ====
module
public import proofs.«01_k».proof.Proof.Codes
@[expose] public section
set_option maxRecDepth 65536
noncomputable section
open Idealize.ShloMosaic Idealize.ShloMosaic.TcCoe Idealize.SL.Sem
open Idealize.ShloMosaic.Pipeline (Dat)

/-! # The differences a grid point codes

Eighteen groups of 128 columns: their codes and their scales, as the pieces that store them. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

/-- The pieces of the codes. -/
def ncC (arg12 : Memref sig .tc .vmem S1x128x6144 .fp8e4m3) (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32) : List (View.Piece (Elt Ideal) S1x128x2304 .fp8e4m3) :=
    [⟨Rect.unit ![0, 0, 2176] ![1, 128, 128] inb_S1x128x2304_S1x128x128_0_0_2176, ncV (highV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048)))) (expV k0_pay4 (gmxV (highV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048))))))⟩,
    ⟨Rect.unit ![0, 0, 2048] ![1, 128, 128] inb_S1x128x2304_S1x128x128_0_0_2048, ncV (lowV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048)))) (expV k0_pay4 (gmxV (lowV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048))))))⟩,
    ⟨Rect.unit ![0, 0, 1920] ![1, 128, 128] inb_S1x128x2304_S1x128x128_0_0_1920, ncV (highV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792)))) (expV k0_pay4 (gmxV (highV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792))))))⟩,
    ⟨Rect.unit ![0, 0, 1792] ![1, 128, 128] inb_S1x128x2304_S1x128x128_0_0_1792, ncV (lowV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792)))) (expV k0_pay4 (gmxV (lowV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792))))))⟩,
    ⟨Rect.unit ![0, 0, 1664] ![1, 128, 128] inb_S1x128x2304_S1x128x128_0_0_1664, ncV (highV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536)))) (expV k0_pay4 (gmxV (highV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536))))))⟩,
    ⟨Rect.unit ![0, 0, 1536] ![1, 128, 128] inb_S1x128x2304_S1x128x128_0_0_1536, ncV (lowV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536)))) (expV k0_pay4 (gmxV (lowV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536))))))⟩,
    ⟨Rect.unit ![0, 0, 1408] ![1, 128, 128] inb_S1x128x2304_S1x128x128_0_0_1408, ncV (highV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280)))) (expV k0_pay4 (gmxV (highV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280))))))⟩,
    ⟨Rect.unit ![0, 0, 1280] ![1, 128, 128] inb_S1x128x2304_S1x128x128_0_0_1280, ncV (lowV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280)))) (expV k0_pay4 (gmxV (lowV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280))))))⟩,
    ⟨Rect.unit ![0, 0, 1152] ![1, 128, 128] inb_S1x128x2304_S1x128x128_0_0_1152, ncV (highV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024)))) (expV k0_pay4 (gmxV (highV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024))))))⟩,
    ⟨Rect.unit ![0, 0, 1024] ![1, 128, 128] inb_S1x128x2304_S1x128x128_0_0_1024, ncV (lowV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024)))) (expV k0_pay4 (gmxV (lowV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024))))))⟩,
    ⟨Rect.unit ![0, 0, 896] ![1, 128, 128] inb_S1x128x2304_S1x128x128_0_0_896, ncV (highV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768)))) (expV k0_pay4 (gmxV (highV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768))))))⟩,
    ⟨Rect.unit ![0, 0, 768] ![1, 128, 128] inb_S1x128x2304_S1x128x128_0_0_768, ncV (lowV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768)))) (expV k0_pay4 (gmxV (lowV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768))))))⟩,
    ⟨Rect.unit ![0, 0, 640] ![1, 128, 128] inb_S1x128x2304_S1x128x128_0_0_640, ncV (highV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512)))) (expV k0_pay4 (gmxV (highV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512))))))⟩,
    ⟨Rect.unit ![0, 0, 512] ![1, 128, 128] inb_S1x128x2304_S1x128x128_0_0_512, ncV (lowV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512)))) (expV k0_pay4 (gmxV (lowV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512))))))⟩,
    ⟨Rect.unit ![0, 0, 384] ![1, 128, 128] inb_S1x128x2304_S1x128x128_0_0_384, ncV (highV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256)))) (expV k0_pay4 (gmxV (highV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256))))))⟩,
    ⟨Rect.unit ![0, 0, 256] ![1, 128, 128] inb_S1x128x2304_S1x128x128_0_0_256, ncV (lowV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256)))) (expV k0_pay4 (gmxV (lowV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256))))))⟩,
    ⟨Rect.unit ![0, 0, 128] ![1, 128, 128] inb_S1x128x2304_S1x128x128_0_0_128, ncV (highV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0)))) (expV k0_pay4 (gmxV (highV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0))))))⟩,
    ⟨Rect.unit ![0, 0, 0] ![1, 128, 128] inb_S1x128x2304_S1x128x128_0_0_0, ncV (lowV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0)))) (expV k0_pay4 (gmxV (lowV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0))))))⟩]

/-- The pieces of the scales. -/
def nsC (arg12 : Memref sig .tc .vmem S1x128x6144 .fp8e4m3) (arg16 : Memref sig .tc .vmem S128x6144 .f32) (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32) : List (View.Piece (Elt Ideal) S1x128x18 .f32) :=
    [⟨Rect.unit ![0, 0, 17] ![1, 128, 1] inb_S1x128x18_S1x128x1_0_0_17, nsV (expV k0_pay4 (gmxV (highV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048))))))⟩,
    ⟨Rect.unit ![0, 0, 16] ![1, 128, 1] inb_S1x128x18_S1x128x1_0_0_16, nsV (expV k0_pay4 (gmxV (lowV (delV (x2V (ascT x0 x1 x2 x3) (acRd arg12 arg16 x0 x1 x2 x3) (View.ld x4 (Rect.unit ![0, 2048] ![6144, 256] inb_S6144x2304_S6144x256_0_2048)) (View.ld x6 (Rect.unit ![0, 0, 2048] ![1, 128, 256] inb_S1x128x2304_S1x128x256_0_0_2048)) (View.ld x8 (Rect.unit ![0, 0, 2048] ![1, 1, 256] inb_S1x1x2304_S1x1x256_0_0_2048)) (View.ld x5 (Rect.unit ![0, 2048] ![1, 256] inb_S1x2304_S1x256_0_2048))) (View.ld x7 (Rect.unit ![0, 0, 2048] ![1, 128, 256] inb_S1x128x2304_S1x128x256_0_0_2048))))))⟩,
    ⟨Rect.unit ![0, 0, 15] ![1, 128, 1] inb_S1x128x18_S1x128x1_0_0_15, nsV (expV k0_pay4 (gmxV (highV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792))))))⟩,
    ⟨Rect.unit ![0, 0, 14] ![1, 128, 1] inb_S1x128x18_S1x128x1_0_0_14, nsV (expV k0_pay4 (gmxV (lowV (delV (x2V (ascT x0 x1 x2 x3) (acRd arg12 arg16 x0 x1 x2 x3) (View.ld x4 (Rect.unit ![0, 1792] ![6144, 256] inb_S6144x2304_S6144x256_0_1792)) (View.ld x6 (Rect.unit ![0, 0, 1792] ![1, 128, 256] inb_S1x128x2304_S1x128x256_0_0_1792)) (View.ld x8 (Rect.unit ![0, 0, 1792] ![1, 1, 256] inb_S1x1x2304_S1x1x256_0_0_1792)) (View.ld x5 (Rect.unit ![0, 1792] ![1, 256] inb_S1x2304_S1x256_0_1792))) (View.ld x7 (Rect.unit ![0, 0, 1792] ![1, 128, 256] inb_S1x128x2304_S1x128x256_0_0_1792))))))⟩,
    ⟨Rect.unit ![0, 0, 13] ![1, 128, 1] inb_S1x128x18_S1x128x1_0_0_13, nsV (expV k0_pay4 (gmxV (highV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536))))))⟩,
    ⟨Rect.unit ![0, 0, 12] ![1, 128, 1] inb_S1x128x18_S1x128x1_0_0_12, nsV (expV k0_pay4 (gmxV (lowV (delV (x2V (ascT x0 x1 x2 x3) (acRd arg12 arg16 x0 x1 x2 x3) (View.ld x4 (Rect.unit ![0, 1536] ![6144, 256] inb_S6144x2304_S6144x256_0_1536)) (View.ld x6 (Rect.unit ![0, 0, 1536] ![1, 128, 256] inb_S1x128x2304_S1x128x256_0_0_1536)) (View.ld x8 (Rect.unit ![0, 0, 1536] ![1, 1, 256] inb_S1x1x2304_S1x1x256_0_0_1536)) (View.ld x5 (Rect.unit ![0, 1536] ![1, 256] inb_S1x2304_S1x256_0_1536))) (View.ld x7 (Rect.unit ![0, 0, 1536] ![1, 128, 256] inb_S1x128x2304_S1x128x256_0_0_1536))))))⟩,
    ⟨Rect.unit ![0, 0, 11] ![1, 128, 1] inb_S1x128x18_S1x128x1_0_0_11, nsV (expV k0_pay4 (gmxV (highV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280))))))⟩,
    ⟨Rect.unit ![0, 0, 10] ![1, 128, 1] inb_S1x128x18_S1x128x1_0_0_10, nsV (expV k0_pay4 (gmxV (lowV (delV (x2V (ascT x0 x1 x2 x3) (acRd arg12 arg16 x0 x1 x2 x3) (View.ld x4 (Rect.unit ![0, 1280] ![6144, 256] inb_S6144x2304_S6144x256_0_1280)) (View.ld x6 (Rect.unit ![0, 0, 1280] ![1, 128, 256] inb_S1x128x2304_S1x128x256_0_0_1280)) (View.ld x8 (Rect.unit ![0, 0, 1280] ![1, 1, 256] inb_S1x1x2304_S1x1x256_0_0_1280)) (View.ld x5 (Rect.unit ![0, 1280] ![1, 256] inb_S1x2304_S1x256_0_1280))) (View.ld x7 (Rect.unit ![0, 0, 1280] ![1, 128, 256] inb_S1x128x2304_S1x128x256_0_0_1280))))))⟩,
    ⟨Rect.unit ![0, 0, 9] ![1, 128, 1] inb_S1x128x18_S1x128x1_0_0_9, nsV (expV k0_pay4 (gmxV (highV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024))))))⟩,
    ⟨Rect.unit ![0, 0, 8] ![1, 128, 1] inb_S1x128x18_S1x128x1_0_0_8, nsV (expV k0_pay4 (gmxV (lowV (delV (x2V (ascT x0 x1 x2 x3) (acRd arg12 arg16 x0 x1 x2 x3) (View.ld x4 (Rect.unit ![0, 1024] ![6144, 256] inb_S6144x2304_S6144x256_0_1024)) (View.ld x6 (Rect.unit ![0, 0, 1024] ![1, 128, 256] inb_S1x128x2304_S1x128x256_0_0_1024)) (View.ld x8 (Rect.unit ![0, 0, 1024] ![1, 1, 256] inb_S1x1x2304_S1x1x256_0_0_1024)) (View.ld x5 (Rect.unit ![0, 1024] ![1, 256] inb_S1x2304_S1x256_0_1024))) (View.ld x7 (Rect.unit ![0, 0, 1024] ![1, 128, 256] inb_S1x128x2304_S1x128x256_0_0_1024))))))⟩,
    ⟨Rect.unit ![0, 0, 7] ![1, 128, 1] inb_S1x128x18_S1x128x1_0_0_7, nsV (expV k0_pay4 (gmxV (highV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768))))))⟩,
    ⟨Rect.unit ![0, 0, 6] ![1, 128, 1] inb_S1x128x18_S1x128x1_0_0_6, nsV (expV k0_pay4 (gmxV (lowV (delV (x2V (ascT x0 x1 x2 x3) (acRd arg12 arg16 x0 x1 x2 x3) (View.ld x4 (Rect.unit ![0, 768] ![6144, 256] inb_S6144x2304_S6144x256_0_768)) (View.ld x6 (Rect.unit ![0, 0, 768] ![1, 128, 256] inb_S1x128x2304_S1x128x256_0_0_768)) (View.ld x8 (Rect.unit ![0, 0, 768] ![1, 1, 256] inb_S1x1x2304_S1x1x256_0_0_768)) (View.ld x5 (Rect.unit ![0, 768] ![1, 256] inb_S1x2304_S1x256_0_768))) (View.ld x7 (Rect.unit ![0, 0, 768] ![1, 128, 256] inb_S1x128x2304_S1x128x256_0_0_768))))))⟩,
    ⟨Rect.unit ![0, 0, 5] ![1, 128, 1] inb_S1x128x18_S1x128x1_0_0_5, nsV (expV k0_pay4 (gmxV (highV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512))))))⟩,
    ⟨Rect.unit ![0, 0, 4] ![1, 128, 1] inb_S1x128x18_S1x128x1_0_0_4, nsV (expV k0_pay4 (gmxV (lowV (delV (x2V (ascT x0 x1 x2 x3) (acRd arg12 arg16 x0 x1 x2 x3) (View.ld x4 (Rect.unit ![0, 512] ![6144, 256] inb_S6144x2304_S6144x256_0_512)) (View.ld x6 (Rect.unit ![0, 0, 512] ![1, 128, 256] inb_S1x128x2304_S1x128x256_0_0_512)) (View.ld x8 (Rect.unit ![0, 0, 512] ![1, 1, 256] inb_S1x1x2304_S1x1x256_0_0_512)) (View.ld x5 (Rect.unit ![0, 512] ![1, 256] inb_S1x2304_S1x256_0_512))) (View.ld x7 (Rect.unit ![0, 0, 512] ![1, 128, 256] inb_S1x128x2304_S1x128x256_0_0_512))))))⟩,
    ⟨Rect.unit ![0, 0, 3] ![1, 128, 1] inb_S1x128x18_S1x128x1_0_0_3, nsV (expV k0_pay4 (gmxV (highV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256))))))⟩,
    ⟨Rect.unit ![0, 0, 2] ![1, 128, 1] inb_S1x128x18_S1x128x1_0_0_2, nsV (expV k0_pay4 (gmxV (lowV (delV (x2V (ascT x0 x1 x2 x3) (acRd arg12 arg16 x0 x1 x2 x3) (View.ld x4 (Rect.unit ![0, 256] ![6144, 256] inb_S6144x2304_S6144x256_0_256)) (View.ld x6 (Rect.unit ![0, 0, 256] ![1, 128, 256] inb_S1x128x2304_S1x128x256_0_0_256)) (View.ld x8 (Rect.unit ![0, 0, 256] ![1, 1, 256] inb_S1x1x2304_S1x1x256_0_0_256)) (View.ld x5 (Rect.unit ![0, 256] ![1, 256] inb_S1x2304_S1x256_0_256))) (View.ld x7 (Rect.unit ![0, 0, 256] ![1, 128, 256] inb_S1x128x2304_S1x128x256_0_0_256))))))⟩,
    ⟨Rect.unit ![0, 0, 1] ![1, 128, 1] inb_S1x128x18_S1x128x1_0_0_1, nsV (expV k0_pay4 (gmxV (highV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0))))))⟩,
    ⟨Rect.unit ![0, 0, 0] ![1, 128, 1] inb_S1x128x18_S1x128x1_0_0_0, nsV (expV k0_pay4 (gmxV (lowV (delV (x2V (ascT x0 x1 x2 x3) (acRd arg12 arg16 x0 x1 x2 x3) (View.ld x4 (Rect.unit ![0, 0] ![6144, 256] inb_S6144x2304_S6144x256_0_0)) (View.ld x6 (Rect.unit ![0, 0, 0] ![1, 128, 256] inb_S1x128x2304_S1x128x256_0_0_0)) (View.ld x8 (Rect.unit ![0, 0, 0] ![1, 1, 256] inb_S1x1x2304_S1x1x256_0_0_0)) (View.ld x5 (Rect.unit ![0, 0] ![1, 256] inb_S1x2304_S1x256_0_0))) (View.ld x7 (Rect.unit ![0, 0, 0] ![1, 128, 256] inb_S1x128x2304_S1x128x256_0_0_0))))))⟩]

/-- The group of a column, and its lane there. -/
abbrev grp (n : Fin 2304) : Fin 18 := ⟨n / 128, by omega⟩
abbrev lan (n : Fin 2304) : Fin 128 := ⟨n % 128, by omega⟩

theorem nc_piece (g : Fin 18) (o : ℕ) (ho : o = (g : ℕ) * 128) (v : FVec Ideal S128x128 .f32)
    (hv : ∀ r l, v (ix2 r l) = MlpRow.delta (rowB x0 x1 x2 x3 x4 x5 x6 x7 x8 r) (MlpRow.lane g l))
    (x : S1x128x128.Idx) (y : S1x128x2304.Idx) (h1 : (y 1 : ℕ) = x 1) (h2 : (y 2 : ℕ) = o + x 2) :
    ncV v (expV k0_pay4 (gmxV v)) x = MlpRow.ncode (rowB x0 x1 x2 x3 x4 x5 x6 x7 x8 (y 1)) (grp (y 2)) (lan (y 2)) := by
  have hx : x = ix3 0 (y 1) (x 2) := by
    funext a; fin_cases a
    · exact Subsingleton.elim (α := Fin 1) _ _
    · exact Fin.ext h1.symm
    · rfl
  have hl : ((x 2 : Fin 128) : ℕ) < 128 := (x 2).isLt
  have eg : grp (y 2) = g := Fin.ext (by show (y 2 : ℕ) / 128 = g; omega)
  have el : lan (y 2) = x 2 := Fin.ext (by show (y 2 : ℕ) % 128 = (x 2 : ℕ); omega)
  rw [hx, eg, el]
  exact ncC_at x0 x1 x2 x3 x4 x5 x6 x7 x8 v _ g _ (hv _)

theorem ns_piece (g : Fin 18) (v : FVec Ideal S128x128 .f32)
    (hv : ∀ r l, v (ix2 r l) = MlpRow.delta (rowB x0 x1 x2 x3 x4 x5 x6 x7 x8 r) (MlpRow.lane g l))
    (x : S1x128x1.Idx) (y : S1x128x18.Idx) (h1 : (y 1 : ℕ) = x 1) (h2 : (y 2 : ℕ) = (g : ℕ) + x 2) :
    nsV (expV k0_pay4 (gmxV v)) x = MlpRow.nsc (rowB x0 x1 x2 x3 x4 x5 x6 x7 x8 (y 1)) (y 2) := by
  have hx : x = ix3 0 (y 1) 0 := by
    funext a; fin_cases a
    · exact Subsingleton.elim (α := Fin 1) _ _
    · exact Fin.ext h1.symm
    · exact Subsingleton.elim (α := Fin 1) _ _
  have hl : ((x 2 : Fin 1) : ℕ) < 1 := (x 2).isLt
  have eg : (y 2 : Fin 18) = g := Fin.ext (by show (y 2 : ℕ) = g; omega)
  rw [hx, eg]
  exact nsC_at x0 x1 x2 x3 x4 x5 x6 x7 x8 v _ g (hv _)

theorem nc_canon (y : S1x128x2304.Idx) :
    View.canon (ncC arg12 arg16 x0 x1 x2 x3 x4 x5 x6 x7 x8) y = MlpRow.ncode (rowB x0 x1 x2 x3 x4 x5 x6 x7 x8 (y 1)) (grp (y 2)) (lan (y 2)) := by
  unfold ncC
  canon_tiles x h
  · exact nc_piece x0 x1 x2 x3 x4 x5 x6 x7 x8 17 2176 (by decide) _ (fun r l => high_del x0 x1 x2 x3 x4 x5 x6 x7 x8 2048 _ _ _ _ _ _ _ r (ascT_at x0 x1 x2 x3 x4 x5 x6 x7 x8 r) (acRd_at x0 x1 x2 x3 x4 x5 x6 x7 x8 arg12 arg16 r) 17 (by decide) l) x y (by omega) (by omega)
  · exact nc_piece x0 x1 x2 x3 x4 x5 x6 x7 x8 16 2048 (by decide) _ (fun r l => low_del x0 x1 x2 x3 x4 x5 x6 x7 x8 2048 _ _ _ _ _ _ _ r (ascT_at x0 x1 x2 x3 x4 x5 x6 x7 x8 r) (acRd_at x0 x1 x2 x3 x4 x5 x6 x7 x8 arg12 arg16 r) 16 (by decide) l) x y (by omega) (by omega)
  · exact nc_piece x0 x1 x2 x3 x4 x5 x6 x7 x8 15 1920 (by decide) _ (fun r l => high_del x0 x1 x2 x3 x4 x5 x6 x7 x8 1792 _ _ _ _ _ _ _ r (ascT_at x0 x1 x2 x3 x4 x5 x6 x7 x8 r) (acRd_at x0 x1 x2 x3 x4 x5 x6 x7 x8 arg12 arg16 r) 15 (by decide) l) x y (by omega) (by omega)
  · exact nc_piece x0 x1 x2 x3 x4 x5 x6 x7 x8 14 1792 (by decide) _ (fun r l => low_del x0 x1 x2 x3 x4 x5 x6 x7 x8 1792 _ _ _ _ _ _ _ r (ascT_at x0 x1 x2 x3 x4 x5 x6 x7 x8 r) (acRd_at x0 x1 x2 x3 x4 x5 x6 x7 x8 arg12 arg16 r) 14 (by decide) l) x y (by omega) (by omega)
  · exact nc_piece x0 x1 x2 x3 x4 x5 x6 x7 x8 13 1664 (by decide) _ (fun r l => high_del x0 x1 x2 x3 x4 x5 x6 x7 x8 1536 _ _ _ _ _ _ _ r (ascT_at x0 x1 x2 x3 x4 x5 x6 x7 x8 r) (acRd_at x0 x1 x2 x3 x4 x5 x6 x7 x8 arg12 arg16 r) 13 (by decide) l) x y (by omega) (by omega)
  · exact nc_piece x0 x1 x2 x3 x4 x5 x6 x7 x8 12 1536 (by decide) _ (fun r l => low_del x0 x1 x2 x3 x4 x5 x6 x7 x8 1536 _ _ _ _ _ _ _ r (ascT_at x0 x1 x2 x3 x4 x5 x6 x7 x8 r) (acRd_at x0 x1 x2 x3 x4 x5 x6 x7 x8 arg12 arg16 r) 12 (by decide) l) x y (by omega) (by omega)
  · exact nc_piece x0 x1 x2 x3 x4 x5 x6 x7 x8 11 1408 (by decide) _ (fun r l => high_del x0 x1 x2 x3 x4 x5 x6 x7 x8 1280 _ _ _ _ _ _ _ r (ascT_at x0 x1 x2 x3 x4 x5 x6 x7 x8 r) (acRd_at x0 x1 x2 x3 x4 x5 x6 x7 x8 arg12 arg16 r) 11 (by decide) l) x y (by omega) (by omega)
  · exact nc_piece x0 x1 x2 x3 x4 x5 x6 x7 x8 10 1280 (by decide) _ (fun r l => low_del x0 x1 x2 x3 x4 x5 x6 x7 x8 1280 _ _ _ _ _ _ _ r (ascT_at x0 x1 x2 x3 x4 x5 x6 x7 x8 r) (acRd_at x0 x1 x2 x3 x4 x5 x6 x7 x8 arg12 arg16 r) 10 (by decide) l) x y (by omega) (by omega)
  · exact nc_piece x0 x1 x2 x3 x4 x5 x6 x7 x8 9 1152 (by decide) _ (fun r l => high_del x0 x1 x2 x3 x4 x5 x6 x7 x8 1024 _ _ _ _ _ _ _ r (ascT_at x0 x1 x2 x3 x4 x5 x6 x7 x8 r) (acRd_at x0 x1 x2 x3 x4 x5 x6 x7 x8 arg12 arg16 r) 9 (by decide) l) x y (by omega) (by omega)
  · exact nc_piece x0 x1 x2 x3 x4 x5 x6 x7 x8 8 1024 (by decide) _ (fun r l => low_del x0 x1 x2 x3 x4 x5 x6 x7 x8 1024 _ _ _ _ _ _ _ r (ascT_at x0 x1 x2 x3 x4 x5 x6 x7 x8 r) (acRd_at x0 x1 x2 x3 x4 x5 x6 x7 x8 arg12 arg16 r) 8 (by decide) l) x y (by omega) (by omega)
  · exact nc_piece x0 x1 x2 x3 x4 x5 x6 x7 x8 7 896 (by decide) _ (fun r l => high_del x0 x1 x2 x3 x4 x5 x6 x7 x8 768 _ _ _ _ _ _ _ r (ascT_at x0 x1 x2 x3 x4 x5 x6 x7 x8 r) (acRd_at x0 x1 x2 x3 x4 x5 x6 x7 x8 arg12 arg16 r) 7 (by decide) l) x y (by omega) (by omega)
  · exact nc_piece x0 x1 x2 x3 x4 x5 x6 x7 x8 6 768 (by decide) _ (fun r l => low_del x0 x1 x2 x3 x4 x5 x6 x7 x8 768 _ _ _ _ _ _ _ r (ascT_at x0 x1 x2 x3 x4 x5 x6 x7 x8 r) (acRd_at x0 x1 x2 x3 x4 x5 x6 x7 x8 arg12 arg16 r) 6 (by decide) l) x y (by omega) (by omega)
  · exact nc_piece x0 x1 x2 x3 x4 x5 x6 x7 x8 5 640 (by decide) _ (fun r l => high_del x0 x1 x2 x3 x4 x5 x6 x7 x8 512 _ _ _ _ _ _ _ r (ascT_at x0 x1 x2 x3 x4 x5 x6 x7 x8 r) (acRd_at x0 x1 x2 x3 x4 x5 x6 x7 x8 arg12 arg16 r) 5 (by decide) l) x y (by omega) (by omega)
  · exact nc_piece x0 x1 x2 x3 x4 x5 x6 x7 x8 4 512 (by decide) _ (fun r l => low_del x0 x1 x2 x3 x4 x5 x6 x7 x8 512 _ _ _ _ _ _ _ r (ascT_at x0 x1 x2 x3 x4 x5 x6 x7 x8 r) (acRd_at x0 x1 x2 x3 x4 x5 x6 x7 x8 arg12 arg16 r) 4 (by decide) l) x y (by omega) (by omega)
  · exact nc_piece x0 x1 x2 x3 x4 x5 x6 x7 x8 3 384 (by decide) _ (fun r l => high_del x0 x1 x2 x3 x4 x5 x6 x7 x8 256 _ _ _ _ _ _ _ r (ascT_at x0 x1 x2 x3 x4 x5 x6 x7 x8 r) (acRd_at x0 x1 x2 x3 x4 x5 x6 x7 x8 arg12 arg16 r) 3 (by decide) l) x y (by omega) (by omega)
  · exact nc_piece x0 x1 x2 x3 x4 x5 x6 x7 x8 2 256 (by decide) _ (fun r l => low_del x0 x1 x2 x3 x4 x5 x6 x7 x8 256 _ _ _ _ _ _ _ r (ascT_at x0 x1 x2 x3 x4 x5 x6 x7 x8 r) (acRd_at x0 x1 x2 x3 x4 x5 x6 x7 x8 arg12 arg16 r) 2 (by decide) l) x y (by omega) (by omega)
  · exact nc_piece x0 x1 x2 x3 x4 x5 x6 x7 x8 1 128 (by decide) _ (fun r l => high_del x0 x1 x2 x3 x4 x5 x6 x7 x8 0 _ _ _ _ _ _ _ r (ascT_at x0 x1 x2 x3 x4 x5 x6 x7 x8 r) (acRd_at x0 x1 x2 x3 x4 x5 x6 x7 x8 arg12 arg16 r) 1 (by decide) l) x y (by omega) (by omega)
  · exact nc_piece x0 x1 x2 x3 x4 x5 x6 x7 x8 0 0 (by decide) _ (fun r l => low_del x0 x1 x2 x3 x4 x5 x6 x7 x8 0 _ _ _ _ _ _ _ r (ascT_at x0 x1 x2 x3 x4 x5 x6 x7 x8 r) (acRd_at x0 x1 x2 x3 x4 x5 x6 x7 x8 arg12 arg16 r) 0 (by decide) l) x y (by omega) (by omega)

theorem ns_canon (y : S1x128x18.Idx) :
    View.canon (nsC arg12 arg16 x0 x1 x2 x3 x4 x5 x6 x7 x8) y = MlpRow.nsc (rowB x0 x1 x2 x3 x4 x5 x6 x7 x8 (y 1)) (y 2) := by
  unfold nsC
  canon_tiles x h
  · exact ns_piece x0 x1 x2 x3 x4 x5 x6 x7 x8 17 _ (fun r l => high_del x0 x1 x2 x3 x4 x5 x6 x7 x8 2048 _ _ _ _ _ _ _ r (ascT_at x0 x1 x2 x3 x4 x5 x6 x7 x8 r) (acRd_at x0 x1 x2 x3 x4 x5 x6 x7 x8 arg12 arg16 r) 17 (by decide) l) x y (by omega) (by show (y 2 : ℕ) = 17 + (x 2 : ℕ); omega)
  · exact ns_piece x0 x1 x2 x3 x4 x5 x6 x7 x8 16 _ (fun r l => low_del x0 x1 x2 x3 x4 x5 x6 x7 x8 2048 _ _ _ _ _ _ _ r (ascT_at x0 x1 x2 x3 x4 x5 x6 x7 x8 r) (acRd_at x0 x1 x2 x3 x4 x5 x6 x7 x8 arg12 arg16 r) 16 (by decide) l) x y (by omega) (by show (y 2 : ℕ) = 16 + (x 2 : ℕ); omega)
  · exact ns_piece x0 x1 x2 x3 x4 x5 x6 x7 x8 15 _ (fun r l => high_del x0 x1 x2 x3 x4 x5 x6 x7 x8 1792 _ _ _ _ _ _ _ r (ascT_at x0 x1 x2 x3 x4 x5 x6 x7 x8 r) (acRd_at x0 x1 x2 x3 x4 x5 x6 x7 x8 arg12 arg16 r) 15 (by decide) l) x y (by omega) (by show (y 2 : ℕ) = 15 + (x 2 : ℕ); omega)
  · exact ns_piece x0 x1 x2 x3 x4 x5 x6 x7 x8 14 _ (fun r l => low_del x0 x1 x2 x3 x4 x5 x6 x7 x8 1792 _ _ _ _ _ _ _ r (ascT_at x0 x1 x2 x3 x4 x5 x6 x7 x8 r) (acRd_at x0 x1 x2 x3 x4 x5 x6 x7 x8 arg12 arg16 r) 14 (by decide) l) x y (by omega) (by show (y 2 : ℕ) = 14 + (x 2 : ℕ); omega)
  · exact ns_piece x0 x1 x2 x3 x4 x5 x6 x7 x8 13 _ (fun r l => high_del x0 x1 x2 x3 x4 x5 x6 x7 x8 1536 _ _ _ _ _ _ _ r (ascT_at x0 x1 x2 x3 x4 x5 x6 x7 x8 r) (acRd_at x0 x1 x2 x3 x4 x5 x6 x7 x8 arg12 arg16 r) 13 (by decide) l) x y (by omega) (by show (y 2 : ℕ) = 13 + (x 2 : ℕ); omega)
  · exact ns_piece x0 x1 x2 x3 x4 x5 x6 x7 x8 12 _ (fun r l => low_del x0 x1 x2 x3 x4 x5 x6 x7 x8 1536 _ _ _ _ _ _ _ r (ascT_at x0 x1 x2 x3 x4 x5 x6 x7 x8 r) (acRd_at x0 x1 x2 x3 x4 x5 x6 x7 x8 arg12 arg16 r) 12 (by decide) l) x y (by omega) (by show (y 2 : ℕ) = 12 + (x 2 : ℕ); omega)
  · exact ns_piece x0 x1 x2 x3 x4 x5 x6 x7 x8 11 _ (fun r l => high_del x0 x1 x2 x3 x4 x5 x6 x7 x8 1280 _ _ _ _ _ _ _ r (ascT_at x0 x1 x2 x3 x4 x5 x6 x7 x8 r) (acRd_at x0 x1 x2 x3 x4 x5 x6 x7 x8 arg12 arg16 r) 11 (by decide) l) x y (by omega) (by show (y 2 : ℕ) = 11 + (x 2 : ℕ); omega)
  · exact ns_piece x0 x1 x2 x3 x4 x5 x6 x7 x8 10 _ (fun r l => low_del x0 x1 x2 x3 x4 x5 x6 x7 x8 1280 _ _ _ _ _ _ _ r (ascT_at x0 x1 x2 x3 x4 x5 x6 x7 x8 r) (acRd_at x0 x1 x2 x3 x4 x5 x6 x7 x8 arg12 arg16 r) 10 (by decide) l) x y (by omega) (by show (y 2 : ℕ) = 10 + (x 2 : ℕ); omega)
  · exact ns_piece x0 x1 x2 x3 x4 x5 x6 x7 x8 9 _ (fun r l => high_del x0 x1 x2 x3 x4 x5 x6 x7 x8 1024 _ _ _ _ _ _ _ r (ascT_at x0 x1 x2 x3 x4 x5 x6 x7 x8 r) (acRd_at x0 x1 x2 x3 x4 x5 x6 x7 x8 arg12 arg16 r) 9 (by decide) l) x y (by omega) (by show (y 2 : ℕ) = 9 + (x 2 : ℕ); omega)
  · exact ns_piece x0 x1 x2 x3 x4 x5 x6 x7 x8 8 _ (fun r l => low_del x0 x1 x2 x3 x4 x5 x6 x7 x8 1024 _ _ _ _ _ _ _ r (ascT_at x0 x1 x2 x3 x4 x5 x6 x7 x8 r) (acRd_at x0 x1 x2 x3 x4 x5 x6 x7 x8 arg12 arg16 r) 8 (by decide) l) x y (by omega) (by show (y 2 : ℕ) = 8 + (x 2 : ℕ); omega)
  · exact ns_piece x0 x1 x2 x3 x4 x5 x6 x7 x8 7 _ (fun r l => high_del x0 x1 x2 x3 x4 x5 x6 x7 x8 768 _ _ _ _ _ _ _ r (ascT_at x0 x1 x2 x3 x4 x5 x6 x7 x8 r) (acRd_at x0 x1 x2 x3 x4 x5 x6 x7 x8 arg12 arg16 r) 7 (by decide) l) x y (by omega) (by show (y 2 : ℕ) = 7 + (x 2 : ℕ); omega)
  · exact ns_piece x0 x1 x2 x3 x4 x5 x6 x7 x8 6 _ (fun r l => low_del x0 x1 x2 x3 x4 x5 x6 x7 x8 768 _ _ _ _ _ _ _ r (ascT_at x0 x1 x2 x3 x4 x5 x6 x7 x8 r) (acRd_at x0 x1 x2 x3 x4 x5 x6 x7 x8 arg12 arg16 r) 6 (by decide) l) x y (by omega) (by show (y 2 : ℕ) = 6 + (x 2 : ℕ); omega)
  · exact ns_piece x0 x1 x2 x3 x4 x5 x6 x7 x8 5 _ (fun r l => high_del x0 x1 x2 x3 x4 x5 x6 x7 x8 512 _ _ _ _ _ _ _ r (ascT_at x0 x1 x2 x3 x4 x5 x6 x7 x8 r) (acRd_at x0 x1 x2 x3 x4 x5 x6 x7 x8 arg12 arg16 r) 5 (by decide) l) x y (by omega) (by show (y 2 : ℕ) = 5 + (x 2 : ℕ); omega)
  · exact ns_piece x0 x1 x2 x3 x4 x5 x6 x7 x8 4 _ (fun r l => low_del x0 x1 x2 x3 x4 x5 x6 x7 x8 512 _ _ _ _ _ _ _ r (ascT_at x0 x1 x2 x3 x4 x5 x6 x7 x8 r) (acRd_at x0 x1 x2 x3 x4 x5 x6 x7 x8 arg12 arg16 r) 4 (by decide) l) x y (by omega) (by show (y 2 : ℕ) = 4 + (x 2 : ℕ); omega)
  · exact ns_piece x0 x1 x2 x3 x4 x5 x6 x7 x8 3 _ (fun r l => high_del x0 x1 x2 x3 x4 x5 x6 x7 x8 256 _ _ _ _ _ _ _ r (ascT_at x0 x1 x2 x3 x4 x5 x6 x7 x8 r) (acRd_at x0 x1 x2 x3 x4 x5 x6 x7 x8 arg12 arg16 r) 3 (by decide) l) x y (by omega) (by show (y 2 : ℕ) = 3 + (x 2 : ℕ); omega)
  · exact ns_piece x0 x1 x2 x3 x4 x5 x6 x7 x8 2 _ (fun r l => low_del x0 x1 x2 x3 x4 x5 x6 x7 x8 256 _ _ _ _ _ _ _ r (ascT_at x0 x1 x2 x3 x4 x5 x6 x7 x8 r) (acRd_at x0 x1 x2 x3 x4 x5 x6 x7 x8 arg12 arg16 r) 2 (by decide) l) x y (by omega) (by show (y 2 : ℕ) = 2 + (x 2 : ℕ); omega)
  · exact ns_piece x0 x1 x2 x3 x4 x5 x6 x7 x8 1 _ (fun r l => high_del x0 x1 x2 x3 x4 x5 x6 x7 x8 0 _ _ _ _ _ _ _ r (ascT_at x0 x1 x2 x3 x4 x5 x6 x7 x8 r) (acRd_at x0 x1 x2 x3 x4 x5 x6 x7 x8 arg12 arg16 r) 1 (by decide) l) x y (by omega) (by show (y 2 : ℕ) = 1 + (x 2 : ℕ); omega)
  · exact ns_piece x0 x1 x2 x3 x4 x5 x6 x7 x8 0 _ (fun r l => low_del x0 x1 x2 x3 x4 x5 x6 x7 x8 0 _ _ _ _ _ _ _ r (ascT_at x0 x1 x2 x3 x4 x5 x6 x7 x8 r) (acRd_at x0 x1 x2 x3 x4 x5 x6 x7 x8 arg12 arg16 r) 0 (by decide) l) x y (by omega) (by show (y 2 : ℕ) = 0 + (x 2 : ℕ); omega)

end Cert.MlpIdeal.Value
end
-- ==== Proof.Out12.lean ====
module
public import proofs.«01_k».proof.Proof.Groups
@[expose] public section
set_option maxRecDepth 65536
noncomputable section
open Idealize.ShloMosaic Idealize.ShloMosaic.TcCoe Idealize.SL.Sem
open Idealize.ShloMosaic.Pipeline (Dat)

/-! # The differences' codes a grid point stores

The stored codes are the pieces named before. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem out12_at (y : S1x128x2304.Idx) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y = MlpRow.ncode (rowB x0 x1 x2 x3 x4 x5 x6 x7 x8 (y 1)) (grp (y 2)) (lan (y 2)) := by
  frame_out
  exact nc_canon arg12 arg16 x0 x1 x2 x3 x4 x5 x6 x7 x8 y

end Cert.MlpIdeal.Value
end
-- ==== Proof.Out13.lean ====
module
public import proofs.«01_k».proof.Proof.Groups
@[expose] public section
set_option maxRecDepth 65536
noncomputable section
open Idealize.ShloMosaic Idealize.ShloMosaic.TcCoe Idealize.SL.Sem
open Idealize.ShloMosaic.Pipeline (Dat)

/-! # The differences' scales a grid point stores

The stored scales are the pieces named before. -/

namespace Cert.MlpIdeal.Value
open Cert.MlpIdeal Cert.MlpIdeal.Gen

variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem out13_at (y : S1x128x18.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y = MlpRow.nsc (rowB x0 x1 x2 x3 x4 x5 x6 x7 x8 (y 1)) (y 2) := by
  frame_out
  exact ns_canon arg12 arg16 x0 x1 x2 x3 x4 x5 x6 x7 x8 y

end Cert.MlpIdeal.Value
end
-- ==== Proof.Ref.lean ====
module
public import proofs.«01_k».proof.Proof.Rows
public import proofs.«01_k».proof.Proof.Gen.MlpRefIdeal.Value
@[expose] public section
set_option maxRecDepth 16384
noncomputable section
open Idealize.ShloMosaic Idealize.ShloMosaic.TcCoe Idealize.SL.Sem

/-! # The reference, read

Each result of the reference at an index is the row function of the token the index names. -/

namespace Cert.MlpRefIdeal.Value
open Cert.MlpRefIdeal Cert.MlpRefIdeal.Gen

variable (a0 : Vec Ideal S3x1024x2304 .fp8e4m3) (a1 : Vec Ideal S3x1024x1 .f32) (a2 : Vec Ideal S2304x12288 .fp8e4m3) (a3 : Vec Ideal S1x12288 .f32) (a4 : Vec Ideal S6144x2304 .fp8e4m3) (a5 : Vec Ideal S1x2304 .f32) (a6 : Vec Ideal S3x1024x2304 .f32) (a7 : Vec Ideal S3x1024x2304 .bf16) (a8 : Vec Ideal S3x1x2304 .f32)

/-- Token `t` of batch `b`. -/
def tok (b : Fin 3) (t : Fin 1024) : MlpRow.Row where
  h d := a0 (ix3 b t d)
  hs := a1 (ix3 b t 0)
  w d k := a2 (ix2 d k)
  s k := a3 (ix2 0 k)
  wd k n := a4 (ix2 k n)
  sd n := a5 (ix2 0 n)
  x1 n := a6 (ix3 b t n)
  xa n := a7 (ix3 b t n)
  gm n := a8 (ix3 b 0 n)

/-- The dequantised projection. -/
def linR (a0 : FVec Ideal S3x1024x2304 .fp8e4m3) (a1 : FVec Ideal S3x1024x1 .f32) (a2 : FVec Ideal S2304x12288 .fp8e4m3) (a3 : FVec Ideal S1x12288 .f32) : FVec Ideal S3x1024x12288 .f32 :=
  mulf (mulf (shapeCast S3x1024x12288 (matmul dot_S3072x2304_S2304x12288_S3072x12288_1_0_0_1_n_n none (shapeCast S3072x2304 a0 shapeCasts_S3x1024x2304_S3072x2304) a2
    (constant S3072x12288 .f32 0x00000000#32)) shapeCasts_S3072x12288_S3x1024x12288) (broadcastTo S3x1024x12288 a1 broadcasts_S3x1024x1_S3x1024x12288))
    (broadcastTo S3x1024x12288 (shapeCast S1x1x12288 a3 shapeCasts_S1x12288_S1x1x12288) broadcasts_S1x1x12288_S3x1024x12288)

theorem linR_at (b : Fin 3) (t : Fin 1024) (k : Fin 12288) :
    linR a0 a1 a2 a3 (ix3 b t k) = (∑ d : Fin 2304, a0 (ix3 b t d) * a2 (ix2 d k)) * a1 (ix3 b t 0) * a3 (ix2 0 k) := by
  pointwise [linR]

/-- The activation from the projection. -/
def actR (v : FVec Ideal S3x1024x12288 .f32) : FVec Ideal S3x1024x6144 .f32 :=
  mulf (mulf (extractStridedSlice S3x1024x6144 ![0, 0, 0] v slices_S3x1024x12288_o0_0_0_S3x1024x6144)
    (logistic (extractStridedSlice S3x1024x6144 ![0, 0, 0] v slices_S3x1024x12288_o0_0_0_S3x1024x6144)))
    (extractStridedSlice S3x1024x6144 ![0, 0, 6144] v slices_S3x1024x12288_o0_0_6144_S3x1024x6144)

theorem actR_at (v) (b : Fin 3) (t : Fin 1024) (k : Fin 6144) :
    actR v (ix3 b t k) = v (ix3 b t (MlpRow.gcol k)) * Ideal.logistic (v (ix3 b t (MlpRow.gcol k))) * v (ix3 b t (MlpRow.ucol k)) := by
  pointwise [actR]

theorem maxR_at (v : FVec Ideal S3x1024x6144 .f32) (b : Fin 3) (t : Fin 1024) :
    multiReduction .maximumf [2] S3x1024 v 0xFF800000#32 reduces_S3x1024x6144_S3x1024 (.inl rfl) rfl (ix2 b t)
      = Finset.fold max (Ideal.ofBits .f32 4286578688#32) (fun k : Fin 6144 => v (ix3 b t k)) Finset.univ := by
  pointwise

/-- The scale from the maxima. -/
def scR (a : FVec Ideal S3x1024 .f32) : FVec Ideal S3x1024x1 .f32 :=
  select (cmpf .oeq (shapeCast S3x1024x1 a shapeCasts_S3x1024_S3x1024x1) (broadcast S3x1024x1 (Scalar.ofBits .f32 0x00000000#32))) (broadcast S3x1024x1 (Scalar.ofBits .f32 0x3F800000#32))
    (divf (shapeCast S3x1024x1 a shapeCasts_S3x1024_S3x1024x1) (broadcast S3x1024x1 (Scalar.ofBits .f32 0x43E00000#32)))

theorem scR_at (v) (b : Fin 3) (t : Fin 1024) : scR v (ix3 b t 0) = MlpRow.scaleOf (v (ix2 b t)) := by
  unfold MlpRow.scaleOf
  pointwise [scR]

/-- The codes from the activation and its scale. -/
def codeR (v : FVec Ideal S3x1024x6144 .f32) (a : FVec Ideal S3x1024x1 .f32) : FVec Ideal S3x1024x6144 .fp8e4m3 :=
  truncf .fp8e4m3 (minimumf (broadcast S3x1024x6144 (Scalar.ofBits .f32 0x43E00000#32)) (maximumf (broadcast S3x1024x6144 (Scalar.ofBits .f32 0xC3E00000#32))
    (divf v (broadcastTo S3x1024x6144 a broadcasts_S3x1024x1_S3x1024x6144)))) bitsLt_fp8e4m3_f32

theorem codeR_at (v a) (b : Fin 3) (t : Fin 1024) (k : Fin 6144) :
    codeR v a (ix3 b t k) = MlpRow.clip (Ideal.div (v (ix3 b t k)) (a (ix3 b t 0))) := by
  unfold MlpRow.clip
  pointwise [codeR]

theorem pay4_eq : k0_pay4 a0 a1 a2 a3 = actR (linR a0 a1 a2 a3) := rfl
theorem pay5_eq : k0_pay5 a0 a1 a2 a3 = scR (multiReduction .maximumf [2] S3x1024 (absf (k0_pay4 a0 a1 a2 a3)) 0xFF800000#32 reduces_S3x1024x6144_S3x1024 (.inl rfl) rfl) := rfl
theorem pay6_eq : k0_pay6 a0 a1 a2 a3 = codeR (k0_pay4 a0 a1 a2 a3) (k0_pay5 a0 a1 a2 a3) := rfl

theorem act_at (b : Fin 3) (t : Fin 1024) (k : Fin 6144) : k0_pay4 a0 a1 a2 a3 (ix3 b t k) = MlpRow.act ((tok a0 a1 a2 a3 a4 a5 a6 a7 a8) b t) k := by
  rw [pay4_eq, actR_at, linR_at, linR_at]
  rfl

theorem asc_at (b : Fin 3) (t : Fin 1024) : k0_pay5 a0 a1 a2 a3 (ix3 b t 0) = MlpRow.asc ((tok a0 a1 a2 a3 a4 a5 a6 a7 a8) b t) := by
  rw [pay5_eq, scR_at, maxR_at]
  unfold MlpRow.asc MlpRow.amax
  simp only [← act_at a0 a1 a2 a3 a4 a5 a6 a7 a8]
  rfl

theorem code_at (b : Fin 3) (t : Fin 1024) (k : Fin 6144) : k0_pay6 a0 a1 a2 a3 (ix3 b t k) = MlpRow.code ((tok a0 a1 a2 a3 a4 a5 a6 a7 a8) b t) k := by
  rw [pay6_eq, codeR_at, act_at a0 a1 a2 a3 a4 a5 a6 a7 a8, asc_at a0 a1 a2 a3 a4 a5 a6 a7 a8]
  rfl

theorem pay7_at (v : FVec Ideal S3x1024x1 .f32) (q : FVec Ideal S3x1024x6144 .fp8e4m3) (x : FVec Ideal S3x1024x2304 .f32) (g : FVec Ideal S3x1x2304 .f32) (w : FVec Ideal S6144x2304 .fp8e4m3) (sd : FVec Ideal S1x2304 .f32) (b : Fin 3) (t : Fin 1024) (n : Fin 2304) :
    k0_pay7 v q x g w sd (ix3 b t n) = x (ix3 b t n) + g (ix3 b 0 n) * ((∑ k : Fin 6144, q (ix3 b t k) * w (ix2 k n)) * v (ix3 b t 0) * sd (ix2 0 n)) := by
  pointwise [k0_pay7]

/-- The differences in their groups, from the two arrays. -/
def grpR (x2 : FVec Ideal S3x1024x2304 .f32) (xa : FVec Ideal S3x1024x2304 .bf16) : FVec Ideal S3x1024x18x128 .f32 :=
  shapeCast S3x1024x18x128 (subf x2 (extf .f32 xa bitsLt_bf16_f32)) shapeCasts_S3x1024x2304_S3x1024x18x128

theorem grpR_at (x2 xa) (b : Fin 3) (t : Fin 1024) (g : Fin 18) (l : Fin 128) :
    grpR x2 xa (ix4 b t g l) = x2 (ix3 b t (MlpRow.lane g l)) - xa (ix3 b t (MlpRow.lane g l)) := by
  pointwise [grpR]

theorem gmxR_at (v : FVec Ideal S3x1024x18x128 .f32) (b : Fin 3) (t : Fin 1024) (g : Fin 18) :
    multiReduction .maximumf [3] S3x1024x18 (absf v) 0xFF800000#32 reduces_S3x1024x18x128_S3x1024x18 (.inl rfl) rfl (ix3 b t g)
      = MlpRow.amax fun l : Fin 128 => v (ix4 b t g l) := by
  unfold MlpRow.amax
  pointwise

/-- The exponent, and the test for an all-zero group, from the maxima. -/
def exR (m : FVec Ideal S3x1024x18 .f32) : FVec Ideal S3x1024x18 .f32 :=
  addf (floor (divf (log (mulf m (broadcast S3x1024x18 (Scalar.ofBits .f32 0x3B124925#32)))) (log (broadcast S3x1024x18 (Scalar.ofBits .f32 0x40000000#32)))))
    (broadcast S3x1024x18 (Scalar.ofBits .f32 0x3F800000#32))
def zrR (m : FVec Ideal S3x1024x18 .f32) : IVec S3x1024x18 1 := cmpf .oeq m (broadcast S3x1024x18 (Scalar.ofBits .f32 0x00000000#32))

theorem exR_at (m) (b : Fin 3) (t : Fin 1024) (g : Fin 18) :
    exR m (ix3 b t g) = Ideal.liftRound Int.floor (Ideal.div (Ideal.log (m (ix3 b t g) * MlpScale.c448)) (Ideal.log (Ideal.ofBits .f32 0x40000000#32))) + 1 := by
  pointwise [exR]
theorem zrR_at (m) (b : Fin 3) (t : Fin 1024) (g : Fin 18) : zrR m (ix3 b t g) = BitVec.ofBool (decide (m (ix3 b t g) = 0)) := by
  pointwise [zrR]
theorem pay13_at (b : Fin 3) (t : Fin 1024) (g : Fin 18) : k0_pay13 (F := Ideal) (ix3 b t g) = Ideal.ofBits .f32 0xC2FC0000#32 := by
  pointwise [k0_pay13]

theorem pay1_at (v66 v68 v69) (b : Fin 3) (t : Fin 1024) (g : Fin 18) (m : EReal)
    (h66 : v66 (ix3 b t g) = Ideal.liftRound Int.floor (Ideal.div (Ideal.log (m * MlpScale.c448)) (Ideal.log (Ideal.ofBits .f32 0x40000000#32))) + 1)
    (h68 : v68 (ix3 b t g) = BitVec.ofBool (decide (m = 0))) (h69 : v69 (ix3 b t g) = Ideal.ofBits .f32 0xC2FC0000#32) :
    k0_pay1 (F := Ideal) v66 v68 (Scalar.ofBits .f32 0x42FC0000#32) v69 (ix3 b t g) = MlpScale.rexp m := by
  unfold MlpScale.rexp
  rw [← h66, ← h69]
  pointwise [k0_pay1]
  rw [h68]
  by_cases h : m = 0 <;> simp [h, Scalar.select]

/-- The exponents' scales and the codes, from the exponents. -/
def ncR (v : FVec Ideal S3x1024x18x128 .f32) (e : FVec Ideal S3x1024x18 .f32) : FVec Ideal S3x1024x2304 .fp8e4m3 :=
  truncf .fp8e4m3 (shapeCast S3x1024x2304 (minimumf (broadcast S3x1024x18x128 (Scalar.ofBits .f32 0x43E00000#32))
    (maximumf (broadcast S3x1024x18x128 (Scalar.ofBits .f32 0xC3E00000#32)) (mulf v (broadcastTo S3x1024x18x128
      (shapeCast S3x1024x18x1 (exp2 (subf (broadcast S3x1024x18 (Scalar.ofBits .f32 0x00000000#32)) e)) shapeCasts_S3x1024x18_S3x1024x18x1)
      broadcasts_S3x1024x18x1_S3x1024x18x128)))) shapeCasts_S3x1024x18x128_S3x1024x2304) bitsLt_fp8e4m3_f32

theorem ncR_at (v e) (b : Fin 3) (t : Fin 1024) (g : Fin 18) (l : Fin 128) :
    ncR v e (ix3 b t (MlpRow.lane g l)) = MlpRow.clip (v (ix4 b t g l) * Ideal.exp2 (0 - e (ix3 b t g))) := by
  unfold MlpRow.clip
  pointwise [ncR]
  have e1 : ((g : ℕ) * 128 + l) / 128 = g := by omega
  have e2 : ((g : ℕ) * 128 + l) % 128 = l := by omega
  simp only [e1, e2, Fin.eta]
  rfl

theorem pay9_eq (v q x g w sd xa) : k0_pay9 (F := Ideal) v q x g w sd xa = grpR (k0_pay7 v q x g w sd) xa := rfl
theorem pay10_eq (v q x g w sd xa) : k0_pay10 (F := Ideal) v q x g w sd xa
    = multiReduction .maximumf [3] S3x1024x18 (absf (k0_pay9 v q x g w sd xa)) 0xFF800000#32 reduces_S3x1024x18x128_S3x1024x18 (.inl rfl) rfl := rfl
theorem pay11_eq (v q x g w sd xa) : k0_pay11 (F := Ideal) v q x g w sd xa = exR (k0_pay10 v q x g w sd xa) := rfl
theorem pay12_eq (v q x g w sd xa) : k0_pay12 (F := Ideal) v q x g w sd xa = zrR (k0_pay10 v q x g w sd xa) := rfl
theorem pay2_eq (v55 v66 v68 c v69) : k0_pay2 (F := Ideal) v55 v66 v68 c v69 = ncR v55 (k0_pay1 v66 v68 c v69) := rfl
theorem pay3_eq (v66 v68 c v69) (i) : k0_pay3 (F := Ideal) v66 v68 c v69 i = Ideal.exp2 (k0_pay1 v66 v68 c v69 i) := rfl
theorem pay8_eq (v q x g w sd) (i) : k0_pay8 (F := Ideal) v q x g w sd i = k0_pay7 v q x g w sd i := rfl

theorem x2_at (b : Fin 3) (t : Fin 1024) (n : Fin 2304) : k0_pay7 (k0_pay5 a0 a1 a2 a3) (k0_pay6 a0 a1 a2 a3) a6 a8 a4 a5 (ix3 b t n) = MlpRow.x2 ((tok a0 a1 a2 a3 a4 a5 a6 a7 a8) b t) n := by
  rw [pay7_at, asc_at a0 a1 a2 a3 a4 a5 a6 a7 a8]
  simp only [code_at a0 a1 a2 a3 a4 a5 a6 a7 a8]
  rfl

theorem group_at (b : Fin 3) (t : Fin 1024) (g : Fin 18) (l : Fin 128) : k0_pay9 (k0_pay5 a0 a1 a2 a3) (k0_pay6 a0 a1 a2 a3) a6 a8 a4 a5 a7 (ix4 b t g l) = MlpRow.delta ((tok a0 a1 a2 a3 a4 a5 a6 a7 a8) b t) (MlpRow.lane g l) := by
  rw [pay9_eq, grpR_at, x2_at a0 a1 a2 a3 a4 a5 a6 a7 a8]
  rfl

theorem gmax_at (b : Fin 3) (t : Fin 1024) (g : Fin 18) : k0_pay10 (k0_pay5 a0 a1 a2 a3) (k0_pay6 a0 a1 a2 a3) a6 a8 a4 a5 a7 (ix3 b t g) = MlpRow.gmax ((tok a0 a1 a2 a3 a4 a5 a6 a7 a8) b t) g := by
  rw [pay10_eq, gmxR_at]
  unfold MlpRow.gmax
  simp only [group_at a0 a1 a2 a3 a4 a5 a6 a7 a8]

theorem exp_at (b : Fin 3) (t : Fin 1024) (g : Fin 18) :
    k0_pay1 (F := Ideal) (k0_pay11 (k0_pay5 a0 a1 a2 a3) (k0_pay6 a0 a1 a2 a3) a6 a8 a4 a5 a7) (k0_pay12 (k0_pay5 a0 a1 a2 a3) (k0_pay6 a0 a1 a2 a3) a6 a8 a4 a5 a7) (Scalar.ofBits .f32 0x42FC0000#32) k0_pay13 (ix3 b t g) = MlpScale.rexp (MlpRow.gmax ((tok a0 a1 a2 a3 a4 a5 a6 a7 a8) b t) g) :=
  pay1_at _ _ _ b t g _ (by rw [pay11_eq, exR_at, gmax_at a0 a1 a2 a3 a4 a5 a6 a7 a8]) (by rw [pay12_eq, zrR_at, gmax_at a0 a1 a2 a3 a4 a5 a6 a7 a8]) (pay13_at b t g)

/-! ## The five results -/

theorem pay14_eq : k0_pay14 a0 a1 a2 a3 a4 a5 a6 a7 a8 = k0_pay5 a0 a1 a2 a3 := by
  unfold k0_pay14
  rw [View.ld_unit_zero (S := S3x1024x2304) hz0 _ a0, View.ld_unit_zero (S := S3x1024x1) hz1 _ a1, View.ld_unit_zero (S := S2304x12288) hz2 _ a2, View.ld_unit_zero (S := S1x12288) hz3 _ a3]

theorem pay15_eq : k0_pay15 a0 a1 a2 a3 a4 a5 a6 a7 a8 = k0_pay6 a0 a1 a2 a3 := by
  unfold k0_pay15
  rw [View.ld_unit_zero (S := S3x1024x2304) hz0 _ a0, View.ld_unit_zero (S := S3x1024x1) hz1 _ a1, View.ld_unit_zero (S := S2304x12288) hz2 _ a2, View.ld_unit_zero (S := S1x12288) hz3 _ a3]

theorem pay16_eq : k0_pay16 a0 a1 a2 a3 a4 a5 a6 a7 a8 = k0_pay11 (k0_pay5 a0 a1 a2 a3) (k0_pay6 a0 a1 a2 a3) a6 a8 a4 a5 a7 := by
  unfold k0_pay16
  rw [pay14_eq, pay15_eq, View.ld_unit_zero (S := S3x1024x2304) hz6 _ a6, View.ld_unit_zero (S := S3x1x2304) hz8 _ a8, View.ld_unit_zero (S := S6144x2304) hz4 _ a4, View.ld_unit_zero (S := S1x2304) hz5 _ a5, View.ld_unit_zero (S := S3x1024x2304) hz7 _ a7]

theorem pay17_eq : k0_pay17 a0 a1 a2 a3 a4 a5 a6 a7 a8 = k0_pay12 (k0_pay5 a0 a1 a2 a3) (k0_pay6 a0 a1 a2 a3) a6 a8 a4 a5 a7 := by
  unfold k0_pay17
  rw [pay14_eq, pay15_eq, View.ld_unit_zero (S := S3x1024x2304) hz6 _ a6, View.ld_unit_zero (S := S3x1x2304) hz8 _ a8, View.ld_unit_zero (S := S6144x2304) hz4 _ a4, View.ld_unit_zero (S := S1x2304) hz5 _ a5, View.ld_unit_zero (S := S3x1024x2304) hz7 _ a7]

theorem G9_at (b : Fin 3) (t : Fin 1024) (n : Fin 2304) : G9 a0 a1 a2 a3 a4 a5 a6 a7 a8 (ix3 b t n) = MlpRow.x2 ((tok a0 a1 a2 a3 a4 a5 a6 a7 a8) b t) n := by
  show k0_pay8 (k0_pay14 a0 a1 a2 a3 a4 a5 a6 a7 a8) (k0_pay15 a0 a1 a2 a3 a4 a5 a6 a7 a8) a6 a8 a4 a5 (ix3 b t n) = _
  rw [pay14_eq, pay15_eq, pay8_eq, x2_at a0 a1 a2 a3 a4 a5 a6 a7 a8]

theorem G10_at (b : Fin 3) (t : Fin 1024) (k : Fin 6144) : G10 a0 a1 a2 a3 a4 a5 a6 a7 a8 (ix3 b t k) = MlpRow.code ((tok a0 a1 a2 a3 a4 a5 a6 a7 a8) b t) k := by
  show k0_pay15 a0 a1 a2 a3 a4 a5 a6 a7 a8 (ix3 b t k) = _
  rw [pay15_eq, code_at a0 a1 a2 a3 a4 a5 a6 a7 a8]

theorem G11_at (b : Fin 3) (t : Fin 1024) : G11 a0 a1 a2 a3 a4 a5 a6 a7 a8 (ix3 b t 0) = MlpRow.asc ((tok a0 a1 a2 a3 a4 a5 a6 a7 a8) b t) := by
  show k0_pay14 a0 a1 a2 a3 a4 a5 a6 a7 a8 (ix3 b t 0) = _
  rw [pay14_eq, asc_at a0 a1 a2 a3 a4 a5 a6 a7 a8]

theorem G12_at (b : Fin 3) (t : Fin 1024) (g : Fin 18) (l : Fin 128) : G12 a0 a1 a2 a3 a4 a5 a6 a7 a8 (ix3 b t (MlpRow.lane g l)) = MlpRow.ncode ((tok a0 a1 a2 a3 a4 a5 a6 a7 a8) b t) g l := by
  show k0_pay2 (k0_pay9 (k0_pay14 a0 a1 a2 a3 a4 a5 a6 a7 a8) (k0_pay15 a0 a1 a2 a3 a4 a5 a6 a7 a8) a6 a8 a4 a5 a7) (k0_pay16 a0 a1 a2 a3 a4 a5 a6 a7 a8) (k0_pay17 a0 a1 a2 a3 a4 a5 a6 a7 a8) (Scalar.ofBits .f32 0x42FC0000#32) k0_pay13 (ix3 b t (MlpRow.lane g l)) = _
  rw [pay14_eq, pay15_eq, pay16_eq, pay17_eq, pay2_eq, ncR_at, exp_at a0 a1 a2 a3 a4 a5 a6 a7 a8, group_at a0 a1 a2 a3 a4 a5 a6 a7 a8]
  rfl

theorem G13_at (b : Fin 3) (t : Fin 1024) (g : Fin 18) : G13 a0 a1 a2 a3 a4 a5 a6 a7 a8 (ix3 b t g) = MlpRow.nsc ((tok a0 a1 a2 a3 a4 a5 a6 a7 a8) b t) g := by
  show k0_pay3 (k0_pay16 a0 a1 a2 a3 a4 a5 a6 a7 a8) (k0_pay17 a0 a1 a2 a3 a4 a5 a6 a7 a8) (Scalar.ofBits .f32 0x42FC0000#32) k0_pay13 (ix3 b t g) = _
  rw [pay16_eq, pay17_eq, pay3_eq, exp_at a0 a1 a2 a3 a4 a5 a6 a7 a8]
  rfl

end Cert.MlpRefIdeal.Value
end
-- ==== Proof.Final.lean ====
module
public import proofs.«01_k».proof.Proof.Out9
public import proofs.«01_k».proof.Proof.Out10
public import proofs.«01_k».proof.Proof.Out11
public import proofs.«01_k».proof.Proof.Out12
public import proofs.«01_k».proof.Proof.Out13
public import proofs.«01_k».proof.Proof.Ref
@[expose] public section
set_option maxRecDepth 16384
noncomputable section
open Idealize.ShloMosaic Idealize.ShloMosaic.TcCoe Idealize.SL.Sem
open Idealize.ShloMosaic.Pipeline (Dat)

/-! # The result arrays

Grid point `t` is batch `t / 8`, block of rows `t % 8`. Every result array is the reference's. -/

namespace Cert.MlpIdeal.Value
open Cert.MlpIdeal Cert.MlpIdeal.Gen

section
variable (c : Dev nD) (i : grid0.Coords) (arg2 : Memref sig .tc .vmem S1x128x2304 .fp8e4m3) (harg2 : arg2.IsWhole) (arg3 : Memref sig .tc .vmem S1x128x1 .f32) (harg3 : arg3.IsWhole) (arg4 : Memref sig .tc .vmem S2304x12288 .fp8e4m3) (harg4 : arg4.IsWhole) (arg5 : Memref sig .tc .vmem S1x12288 .f32) (harg5 : arg5.IsWhole) (arg6 : Memref sig .tc .vmem S6144x2304 .fp8e4m3) (harg6 : arg6.IsWhole) (arg7 : Memref sig .tc .vmem S1x2304 .f32) (harg7 : arg7.IsWhole) (arg8 : Memref sig .tc .vmem S1x128x2304 .f32) (harg8 : arg8.IsWhole) (arg9 : Memref sig .tc .vmem S1x128x2304 .bf16) (harg9 : arg9.IsWhole) (arg10 : Memref sig .tc .vmem S1x1x2304 .f32) (harg10 : arg10.IsWhole) (arg11 : Memref sig .tc .vmem S1x128x2304 .bf16) (harg11 : arg11.IsWhole) (arg12 : Memref sig .tc .vmem S1x128x6144 .fp8e4m3) (harg12 : arg12.IsWhole) (arg13 : Memref sig .tc .vmem S1x128x1 .f32) (harg13 : arg13.IsWhole) (arg14 : Memref sig .tc .vmem S1x128x2304 .fp8e4m3) (harg14 : arg14.IsWhole) (arg15 : Memref sig .tc .vmem S1x128x18 .f32) (harg15 : arg15.IsWhole) (arg16 : Memref sig .tc .vmem S128x6144 .f32) (harg16 : arg16.IsWhole)
variable (x0 : Vec Ideal S1x128x2304 .fp8e4m3) (x1 : Vec Ideal S1x128x1 .f32) (x2 : Vec Ideal S2304x12288 .fp8e4m3) (x3 : Vec Ideal S1x12288 .f32) (x4 : Vec Ideal S6144x2304 .fp8e4m3) (x5 : Vec Ideal S1x2304 .f32) (x6 : Vec Ideal S1x128x2304 .f32) (x7 : Vec Ideal S1x128x2304 .bf16) (x8 : Vec Ideal S1x1x2304 .f32)

theorem out9_ix (r : Fin 128) (n : Fin 2304) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n) = MlpRow.x2 (rowB x0 x1 x2 x3 x4 x5 x6 x7 x8 r) n :=
  out9_at c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n)

theorem out10_ix (r : Fin 128) (n : Fin 6144) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n) = MlpRow.code (rowB x0 x1 x2 x3 x4 x5 x6 x7 x8 r) n :=
  out10_at c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n)

theorem out12_ix (r : Fin 128) (n : Fin 2304) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n) = MlpRow.ncode (rowB x0 x1 x2 x3 x4 x5 x6 x7 x8 r) (grp n) (lan n) :=
  out12_at c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n)

theorem out13_ix (r : Fin 128) (n : Fin 18) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n) = MlpRow.nsc (rowB x0 x1 x2 x3 x4 x5 x6 x7 x8 r) n :=
  out13_at c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 0 r n)
end

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![t.val / 8, t.val % 8, 0] ∧ win0_7.index t = ![t.val / 8, t.val % 8, 0] ∧ win0_8.index t = ![t.val / 8, 0, 0]
    ∧ win0_9.index t = ![t.val / 8, t.val % 8, 0] ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] :=
  (by decide +kernel : ∀ t : Fin grid0.N, _)

theorem lt24 (t : Fin cfg0.N) : t.val < 24 := t.isLt

/-- The batch of a grid point, and the token of one of its rows. -/
def batch (t : Fin cfg0.N) : Fin 3 := ⟨t.val / 8, by have := lt24 t; omega⟩
def token (t : Fin cfg0.N) (r : Fin 128) : Fin 1024 := ⟨t.val % 8 * 128 + r, by have := r.isLt; omega⟩

theorem row_eq (c : Dev nD) (t : Fin cfg0.N) (r : Fin 128) :
    rowB (iblk m c 0 t) (iblk m c 1 t) (iblk m c 2 t) (iblk m c 3 t) (iblk m c 4 t) (iblk m c 5 t) (iblk m c 6 t) (iblk m c 7 t) (iblk m c 8 t) r = Cert.MlpRefIdeal.Value.tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batch t) (token t r) := by
  have ht := lt24 t
  simp only [rowB, Cert.MlpRefIdeal.Value.tok, MlpRow.Row.mk.injEq, batch, token]
  refine ⟨funext fun d => ?_, ?_, funext fun d => funext fun k => ?_, funext fun k => ?_, funext fun k => funext fun n => ?_, funext fun n => ?_, funext fun n => ?_, funext fun n => ?_, funext fun n => ?_⟩
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]

theorem lane_grp (n : Fin 2304) : MlpRow.lane (grp n) (lan n) = n := by
  apply Fin.ext
  show (n : ℕ) / 128 * 128 + (n : ℕ) % 128 = n
  omega

theorem outs9 (c : Dev nD) (t : Fin cfg0.N) : (outsAt0 m c t).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

theorem point9 (c : Dev nD) (t : Fin cfg0.N) (r : Fin 128) (n : Fin 2304) :
    (outsAt0 m c t).1 (ix3 0 r n) = Cert.MlpRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) (token t r) n) := by
  rw [Cert.MlpRefIdeal.Value.G9_at, ← row_eq m c t r]
  rw [outs9, out9_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r n]

theorem final9 (c : Dev nD) : (dats m 0 c).arrAt 9 cfg0.N = Cert.MlpRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have ht := lt24 t
  have he : ((cfg0.win 9).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_9]
  exact (congrArg (outsAt0 m c t).1 hy).trans (point9 m c t (y 1) (y 2))

theorem outs10 (c : Dev nD) (t : Fin cfg0.N) : (outsAt0 m c t).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

theorem point10 (c : Dev nD) (t : Fin cfg0.N) (r : Fin 128) (n : Fin 6144) :
    (outsAt0 m c t).2.1 (ix3 0 r n) = Cert.MlpRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) (token t r) n) := by
  rw [Cert.MlpRefIdeal.Value.G10_at, ← row_eq m c t r]
  rw [outs10, out10_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r n]

theorem final10 (c : Dev nD) : (dats m 0 c).arrAt 10 cfg0.N = Cert.MlpRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have ht := lt24 t
  have he : ((cfg0.win 10).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_10]
  exact (congrArg (outsAt0 m c t).2.1 hy).trans (point10 m c t (y 1) (y 2))

theorem outs11 (c : Dev nD) (t : Fin cfg0.N) : (outsAt0 m c t).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

theorem point11 (c : Dev nD) (t : Fin cfg0.N) (r : Fin 128) :
    (outsAt0 m c t).2.2.1 (ix3 0 r 0) = Cert.MlpRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) (token t r) 0) := by
  rw [Cert.MlpRefIdeal.Value.G11_at, ← row_eq m c t r]
  rw [outs11, out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r]

theorem final11 (c : Dev nD) : (dats m 0 c).arrAt 11 cfg0.N = Cert.MlpRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  have ht := lt24 t
  have he : ((cfg0.win 11).blk t).view.emb y = ix3 (batch t) (token t (y 1)) 0 := by
    unfold batch token
    blk_ext [idx t]
  have hy : y = ix3 0 (y 1) 0 := by
    funext a; fin_cases a
    · exact Subsingleton.elim (α := Fin 1) _ _
    · rfl
    · exact Subsingleton.elim (α := Fin 1) _ _
  rw [he]
  blk_simp
  rw [after0_11]
  exact (congrArg (outsAt0 m c t).2.2.1 hy).trans (point11 m c t (y 1))

theorem outs12 (c : Dev nD) (t : Fin cfg0.N) : (outsAt0 m c t).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

theorem point12 (c : Dev nD) (t : Fin cfg0.N) (r : Fin 128) (n : Fin 2304) :
    (outsAt0 m c t).2.2.2.1 (ix3 0 r n) = Cert.MlpRefIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) (token t r) n) := by
  have h := Cert.MlpRefIdeal.Value.G12_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batch t) (token t r) (grp n) (lan n)
  rw [lane_grp] at h
  rw [h, ← row_eq m c t r]
  rw [outs12, out12_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r n]

theorem final12 (c : Dev nD) : (dats m 0 c).arrAt 12 cfg0.N = Cert.MlpRefIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  have ht := lt24 t
  have he : ((cfg0.win 12).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_12]
  exact (congrArg (outsAt0 m c t).2.2.2.1 hy).trans (point12 m c t (y 1) (y 2))

theorem outs13 (c : Dev nD) (t : Fin cfg0.N) : (outsAt0 m c t).2.2.2.2 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

theorem point13 (c : Dev nD) (t : Fin cfg0.N) (r : Fin 128) (n : Fin 18) :
    (outsAt0 m c t).2.2.2.2 (ix3 0 r n) = Cert.MlpRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch t) (token t r) n) := by
  rw [Cert.MlpRefIdeal.Value.G13_at, ← row_eq m c t r]
  rw [outs13, out13_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) r n]

theorem final13 (c : Dev nD) : (dats m 0 c).arrAt 13 cfg0.N = Cert.MlpRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  have ht := lt24 t
  have he : ((cfg0.win 13).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_13]
  exact (congrArg (outsAt0 m c t).2.2.2.2 hy).trans (point13 m c t (y 1) (y 2))

end Cert.MlpIdeal.Value
end
-- ==== Proof.WoRows.lean ====
module
public import proofs.«01_k».proof.Proof.Rows
@[expose] public section
set_option maxRecDepth 16384
noncomputable section
open Idealize.ShloMosaic

/-! # One token's row through the output projection

The projection of a token's row, the residual row it gives, the normalised row and its codes, by coordinates: both
programs are read as these functions. -/

namespace WoRow

/-- The data of one token: its codes and their scale, its row before, and the weights. -/
structure Row where
  h : Fin 2304 → EReal
  hs : EReal
  w : Fin 2304 → Fin 2304 → EReal
  s : Fin 2304 → EReal
  xa : Fin 2304 → EReal
  ga : Fin 2304 → EReal
  g2 : Fin 2304 → EReal
  ms : Fin 2304 → EReal

variable (R : Row)

/-- The residual row. -/
def x1 (n : Fin 2304) : EReal := R.xa n + R.ga n * ((∑ d : Fin 2304, R.h d * R.w d n) * R.hs * R.s n)

/-- The mean of its squares, with the small constant added, and the root of that. -/
def var : EReal := (∑ n : Fin 2304, x1 R n * x1 R n) * Ideal.ofBits .f32 0x39E38E39#32 + Ideal.ofBits .f32 0x358637BD#32
def rms : EReal := Ideal.sqrt (var R)

/-- The normalised row, its scale and its codes. -/
def h2 (n : Fin 2304) : EReal := Ideal.div (x1 R n) (rms R) * R.g2 n * (1 + R.ms n)
def hsc : EReal := MlpRow.scaleOf (MlpRow.amax (h2 R))
def hcode (n : Fin 2304) : EReal := MlpRow.clip (Ideal.div (h2 R n) (hsc R))

/-! ## The root is not zero -/

theorem sq_nonneg (x : EReal) : 0 ≤ x * x := by
  rcases le_total 0 x with h | h
  · exact mul_nonneg h h
  · have := mul_nonneg (EReal.neg_nonneg.mpr h) (EReal.neg_nonneg.mpr h)
    simpa using this

theorem c_nonneg : 0 ≤ Ideal.ofBits .f32 0x39E38E39#32 := by
  simp [Ideal.ofBits, Ideal.ieee, -EReal.coe_mul]

theorem eps_pos : 0 < Ideal.ofBits .f32 0x358637BD#32 := by
  simp [Ideal.ofBits, Ideal.ieee, -EReal.coe_mul]

theorem var_pos : 0 < var R := by
  have h : 0 ≤ (∑ n : Fin 2304, x1 R n * x1 R n) * Ideal.ofBits .f32 0x39E38E39#32 :=
    mul_nonneg (Finset.sum_nonneg fun n _ => sq_nonneg _) c_nonneg
  exact lt_of_lt_of_le eps_pos (le_add_of_nonneg_left h)

theorem sqrt_ne_zero {v : EReal} (h : 0 < v) : Ideal.sqrt v ≠ 0 := by
  induction v using EReal.rec with
  | bot => simp at h
  | top =>
    have : Ideal.sqrt ⊤ = ⊤ := rfl
    simp [this]
  | coe r =>
    have hr : 0 < r := by exact_mod_cast h
    have : Ideal.sqrt (r : EReal) = if r < 0 then ⊥ else (Real.sqrt r : EReal) := rfl
    rw [this, if_neg (not_lt.mpr hr.le)]
    exact_mod_cast (Real.sqrt_pos.mpr hr).ne'

/-- Multiplying by the reciprocal of the root is dividing by it. -/
theorem mul_inv (x : EReal) : x * Ideal.div 1 (rms R) = Ideal.div x (rms R) := by
  have h : rms R ≠ 0 := sqrt_ne_zero (var_pos R)
  simp only [Ideal.div, if_neg h, one_mul]

/-! ## Sums taken chunk by chunk -/

/-- `m` is the sum of the first `n` members. -/
def IsSm {N : ℕ} (f : Fin N → EReal) (n : ℕ) (m : EReal) : Prop :=
  m = ∑ i ∈ Finset.range n, if h : i < N then f ⟨i, h⟩ else 0

theorem IsSm.zero {N : ℕ} (f : Fin N → EReal) : IsSm f 0 0 := by simp [IsSm]

/-- The next chunk's sum added. -/
theorem IsSm.step {N n p : ℕ} {f : Fin N → EReal} {m : EReal} (h : IsSm f n m) (g : Fin p → EReal)
    (hp : n + p ≤ N) (hg : ∀ j : Fin p, g j = f ⟨n + j, by omega⟩) : IsSm f (n + p) (m + ∑ j : Fin p, g j) := by
  unfold IsSm at h ⊢
  rw [Finset.sum_range_add, ← h, Finset.sum_range]
  congr 1
  refine Finset.sum_congr rfl fun j _ => ?_
  rw [hg, dif_pos]

/-- The whole family's. -/
theorem IsSm.all {N : ℕ} {f : Fin N → EReal} {m : EReal} (h : IsSm f N m) : m = ∑ n : Fin N, f n := by
  unfold IsSm at h
  rw [h, Finset.sum_range]
  exact Finset.sum_congr rfl fun j _ => by rw [dif_pos j.isLt]

end WoRow
end
-- ==== Proof.WoBlock.lean ====
module
public import proofs.«01_k».proof.Proof.WoRows
public import proofs.«01_k».proof.Proof.Gen.OutIdeal.Skeleton
public import Idealize.ShloMosaic.Lib.Pipeline.ValueKit
@[expose] public section
set_option maxRecDepth 16384
noncomputable section
open Idealize.ShloMosaic Idealize.ShloMosaic.TcCoe Idealize.SL.Sem

/-! # The output projection's vector expressions

Each expression that the body repeats for every chunk of columns is written once, over any operands, and read at an
index; then the chunks of one block of 256 rows are read as the row functions of those rows. -/

namespace Cert.OutIdeal.Value
open Cert.OutIdeal Cert.OutIdeal.Gen

/-- A chunk of the residual rows, and as it is stored. -/
def x1V (v1 : FVec Ideal S256x1 .f32) (h : FVec Ideal S1x256x2304 .fp8e4m3) (w : FVec Ideal S2304x256 .fp8e4m3) (xa : FVec Ideal S1x256x256 .bf16) (ga : FVec Ideal S1x1x256 .f32) (s : FVec Ideal S1x256 .f32) : FVec Ideal S256x256 .f32 :=
  addf (extf .f32 (shapeCast S256x256 xa shapeCasts_S1x256x256_S256x256) bitsLt_bf16_f32)
    (mulf (broadcastTo S256x256 (shapeCast S1x256 ga shapeCasts_S1x1x256_S1x256) broadcasts_S1x256_S256x256)
      (mulf (mulf (matmul dot_S256x2304_S2304x256_S256x256_1_0_0_1_n_n none (shapeCast S256x2304 h shapeCasts_S1x256x2304_S256x2304) w (constant S256x256 .f32 0x00000000#32))
        (broadcastTo S256x256 v1 broadcasts_S256x1_S256x256)) (broadcastTo S256x256 s broadcasts_S1x256_S256x256)))
def stV (v : FVec Ideal S256x256 .f32) : FVec Ideal S1x256x256 .f32 := shapeCast S1x256x256 v shapeCasts_S256x256_S1x256x256

/-- The running sum of squares with a chunk's added. -/
def smV (a : FVec Ideal S256x1 .f32) (v : FVec Ideal S256x256 .f32) : FVec Ideal S256x1 .f32 :=
  addf a (shapeCast S256x1 (multiReduction .add [1] S256 (mulf v v) 0x00000000#32 reduces_S256x256_S256 (.inl rfl) rfl) shapeCasts_S256_S256x1)

/-- The reciprocal of the root of the mean. -/
def invV (a : FVec Ideal S256x1 .f32) : FVec Ideal S256x1 .f32 :=
  divf (broadcast S256x1 (Scalar.ofBits .f32 0x3F800000#32)) (sqrt (addf (mulf a (broadcast S256x1 (Scalar.ofBits .f32 0x39E38E39#32))) (broadcast S256x1 (Scalar.ofBits .f32 0x358637BD#32))))

/-- A chunk of the normalised rows. -/
def h2V (inv : FVec Ideal S256x1 .f32) (v : FVec Ideal S1x256x256 .f32) (g : FVec Ideal S1x256 .f32) (ms : FVec Ideal S1x1x256 .f32) : FVec Ideal S256x256 .f32 :=
  mulf (mulf (mulf (shapeCast S256x256 v shapeCasts_S1x256x256_S256x256) (broadcastTo S256x256 inv broadcasts_S256x1_S256x256)) (broadcastTo S256x256 g broadcasts_S1x256_S256x256))
    (broadcastTo S256x256 (addf (broadcast S1x256 (Scalar.ofBits .f32 0x3F800000#32)) (shapeCast S1x256 ms shapeCasts_S1x1x256_S1x256)) broadcasts_S1x256_S256x256)

/-- The running maximum joined with a chunk's. -/
def mxV (a : FVec Ideal S256x1 .f32) (v : FVec Ideal S256x256 .f32) : FVec Ideal S256x1 .f32 :=
  maximumf a (shapeCast S256x1 (multiReduction .maximumf [1] S256 (absf v) 0xFF800000#32 reduces_S256x256_S256 (.inl rfl) rfl) shapeCasts_S256_S256x1)

/-- The scale of the rows with these maxima. -/
def scV (a : FVec Ideal S256x1 .f32) : FVec Ideal S256x1 .f32 :=
  select (cmpf .oeq a (broadcast S256x1 (Scalar.ofBits .f32 0x00000000#32))) (broadcast S256x1 (Scalar.ofBits .f32 0x3F800000#32))
    (divf a (broadcast S256x1 (Scalar.ofBits .f32 0x43E00000#32)))

/-- A chunk's codes. -/
def codeV (sc : FVec Ideal S256x1 .f32) (a : FVec Ideal S256x256 .f32) : FVec Ideal S1x256x256 .fp8e4m3 :=
  shapeCast S1x256x256 (truncf .fp8e4m3 (minimumf (broadcast S256x256 (Scalar.ofBits .f32 0x43E00000#32))
    (maximumf (broadcast S256x256 (Scalar.ofBits .f32 0xC3E00000#32)) (divf a (broadcastTo S256x256 sc broadcasts_S256x1_S256x256)))) bitsLt_fp8e4m3_f32)
    shapeCasts_S256x256_S1x256x256

/-! ## Read at an index -/

theorem x1V_at (v1 h w xa ga s) (r : Fin 256) (j : Fin 256) :
    x1V v1 h w xa ga s (ix2 r j) = xa (ix3 0 r j) + ga (ix3 0 0 j) * ((∑ d : Fin 2304, h (ix3 0 r d) * w (ix2 d j)) * v1 (ix2 r 0) * s (ix2 0 j)) := by
  pointwise [x1V]

theorem stV_at (v) (r : Fin 256) (j : Fin 256) : stV v (ix3 0 r j) = v (ix2 r j) := by
  pointwise [stV]

theorem smV_at (a v) (r : Fin 256) : smV a v (ix2 r 0) = a (ix2 r 0) + ∑ j : Fin 256, v (ix2 r j) * v (ix2 r j) := by
  pointwise [smV]

theorem invV_at (a) (r : Fin 256) :
    invV a (ix2 r 0) = Ideal.div 1 (Ideal.sqrt (a (ix2 r 0) * Ideal.ofBits .f32 0x39E38E39#32 + Ideal.ofBits .f32 0x358637BD#32)) := by
  pointwise [invV]

theorem h2V_at (inv v g ms) (r : Fin 256) (j : Fin 256) :
    h2V inv v g ms (ix2 r j) = v (ix3 0 r j) * inv (ix2 r 0) * g (ix2 0 j) * (1 + ms (ix3 0 0 j)) := by
  pointwise [h2V]

theorem mxV_at (a v) (r : Fin 256) : mxV a v (ix2 r 0) = max (a (ix2 r 0)) (MlpRow.amax fun j : Fin 256 => v (ix2 r j)) := by
  unfold MlpRow.amax
  pointwise [mxV]

theorem scV_at (a) (r : Fin 256) : scV a (ix2 r 0) = MlpRow.scaleOf (a (ix2 r 0)) := by
  unfold MlpRow.scaleOf
  pointwise [scV]

theorem codeV_at (sc a) (r : Fin 256) (j : Fin 256) :
    codeV sc a (ix3 0 r j) = MlpRow.clip (Ideal.div (a (ix2 r j)) (sc (ix2 r 0))) := by
  unfold MlpRow.clip
  pointwise [codeV]

/-! ## The chunks -/

variable (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32)

/-- Row `r` of the blocks. -/
def rowB (r : Fin 256) : WoRow.Row where
  h d := x0 (ix3 0 r d)
  hs := x1 (ix3 0 r 0)
  w d k := x2 (ix2 d k)
  s k := x3 (ix2 0 k)
  xa n := x4 (ix3 0 r n)
  ga n := x5 (ix3 0 0 n)
  g2 n := x6 (ix2 0 n)
  ms n := x7 (ix3 0 0 n)

theorem pay2_at (r : Fin 256) : k0_pay2 x1 (ix2 r 0) = x1 (ix3 0 r 0) := by pointwise [k0_pay2]

theorem ldw_at (o : ℕ) (inb) (d : Fin 2304) (j : Fin 256) (k : Fin 2304) (hk : (k : ℕ) = o + j) :
    View.ld x2 (Rect.unit ![0, o] ![2304, 256] inb) (ix2 d j) = x2 (ix2 d k) :=
  View.ld_unit_apply_of x2 _ _ inb _ _ (by intro a; fin_cases a <;> simp [hk])

theorem lds_at (o : ℕ) (inb) (j : Fin 256) (k : Fin 2304) (hk : (k : ℕ) = o + j) :
    View.ld x3 (Rect.unit ![0, o] ![1, 256] inb) (ix2 0 j) = x3 (ix2 0 k) :=
  View.ld_unit_apply_of x3 _ _ inb _ _ (by intro a; fin_cases a <;> simp [hk])

theorem ldxa_at (o : ℕ) (inb) (r : Fin 256) (j : Fin 256) (k : Fin 2304) (hk : (k : ℕ) = o + j) :
    View.ld x4 (Rect.unit ![0, 0, o] ![1, 256, 256] inb) (ix3 0 r j) = x4 (ix3 0 r k) :=
  View.ld_unit_apply_of x4 _ _ inb _ _ (by intro a; fin_cases a <;> simp [hk])

theorem ldga_at (o : ℕ) (inb) (j : Fin 256) (k : Fin 2304) (hk : (k : ℕ) = o + j) :
    View.ld x5 (Rect.unit ![0, 0, o] ![1, 1, 256] inb) (ix3 0 0 j) = x5 (ix3 0 0 k) :=
  View.ld_unit_apply_of x5 _ _ inb _ _ (by intro a; fin_cases a <;> simp [hk])

/-- A chunk of the residual rows, from the blocks. -/
def x1L (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32)
    (o : ℕ) (i1 : ∀ a, ![0, o] a + ![2304, 256] a ≤ S2304x2304.size a) (i2 : ∀ a, ![0, 0, o] a + ![1, 256, 256] a ≤ S1x256x2304.size a)
    (i3 : ∀ a, ![0, 0, o] a + ![1, 1, 256] a ≤ S1x1x2304.size a) (i4 : ∀ a, ![0, o] a + ![1, 256] a ≤ S1x2304.size a) : FVec Ideal S256x256 .f32 :=
  x1V (k0_pay2 x1) x0 (View.ld x2 (Rect.unit (s := S2304x2304) ![0, o] ![2304, 256] i1)) (View.ld x4 (Rect.unit (s := S1x256x2304) ![0, 0, o] ![1, 256, 256] i2))
    (View.ld x5 (Rect.unit (s := S1x1x2304) ![0, 0, o] ![1, 1, 256] i3)) (View.ld x3 (Rect.unit (s := S1x2304) ![0, o] ![1, 256] i4))

theorem x1L_at (o : ℕ) (i1 i2 i3 i4) (r : Fin 256) (j : Fin 256) (n : Fin 2304) (hn : (n : ℕ) = o + j) :
    x1L x0 x1 x2 x3 x4 x5 o i1 i2 i3 i4 (ix2 r j) = WoRow.x1 (rowB x0 x1 x2 x3 x4 x5 x6 x7 r) n := by
  unfold x1L
  rw [x1V_at]
  simp only [pay2_at, ldw_at x2 o i1 _ j n hn, lds_at x3 o i4 j n hn, ldxa_at x4 o i2 r j n hn, ldga_at x5 o i3 j n hn]
  rfl

/-- The running sum after one more chunk. -/
theorem sm_step (n : ℕ) (hn : n + 256 ≤ 2304) (M : FVec Ideal S256x1 .f32) (V : FVec Ideal S256x256 .f32)
    (h : ∀ r, WoRow.IsSm (fun k => WoRow.x1 (rowB x0 x1 x2 x3 x4 x5 x6 x7 r) k * WoRow.x1 (rowB x0 x1 x2 x3 x4 x5 x6 x7 r) k) n (M (ix2 r 0)))
    (hV : ∀ r (j : Fin 256) (k : Fin 2304), (k : ℕ) = n + j → V (ix2 r j) = WoRow.x1 (rowB x0 x1 x2 x3 x4 x5 x6 x7 r) k) :
    ∀ r, WoRow.IsSm (fun k => WoRow.x1 (rowB x0 x1 x2 x3 x4 x5 x6 x7 r) k * WoRow.x1 (rowB x0 x1 x2 x3 x4 x5 x6 x7 r) k) (n + 256) (smV M V (ix2 r 0)) := fun r => by
  rw [smV_at]
  exact (h r).step (fun j : Fin 256 => V (ix2 r j) * V (ix2 r j)) hn fun j => by
    have := hV r j ⟨n + j, by omega⟩ rfl
    simp only [this]

/-- The reciprocal of the root once every chunk is in. -/
theorem inv_of (M : FVec Ideal S256x1 .f32)
    (h : ∀ r, WoRow.IsSm (fun k => WoRow.x1 (rowB x0 x1 x2 x3 x4 x5 x6 x7 r) k * WoRow.x1 (rowB x0 x1 x2 x3 x4 x5 x6 x7 r) k) 2304 (M (ix2 r 0))) (r : Fin 256) :
    invV M (ix2 r 0) = Ideal.div 1 (WoRow.rms (rowB x0 x1 x2 x3 x4 x5 x6 x7 r)) := by
  rw [invV_at, (h r).all]; rfl

/-- A chunk of the normalised rows. -/
theorem h2_of (o : ℕ) (inv : FVec Ideal S256x1 .f32) (V : FVec Ideal S1x256x256 .f32) (i1 i2)
    (hinv : ∀ r, inv (ix2 r 0) = Ideal.div 1 (WoRow.rms (rowB x0 x1 x2 x3 x4 x5 x6 x7 r)))
    (hV : ∀ r (j : Fin 256) (k : Fin 2304), (k : ℕ) = o + j → V (ix3 0 r j) = WoRow.x1 (rowB x0 x1 x2 x3 x4 x5 x6 x7 r) k)
    (r : Fin 256) (j : Fin 256) (k : Fin 2304) (hk : (k : ℕ) = o + j) :
    h2V inv V (View.ld x6 (Rect.unit ![0, o] ![1, 256] i1)) (View.ld x7 (Rect.unit ![0, 0, o] ![1, 1, 256] i2)) (ix2 r j)
      = WoRow.h2 (rowB x0 x1 x2 x3 x4 x5 x6 x7 r) k := by
  rw [h2V_at, hinv, hV r j k hk, WoRow.mul_inv, lds_at x6 o i1 j k hk, ldga_at x7 o i2 j k hk]
  rfl

/-- The running maximum after one more chunk. -/
theorem mx_step (n : ℕ) (hn : n + 256 ≤ 2304) (M : FVec Ideal S256x1 .f32) (V : FVec Ideal S256x256 .f32)
    (h : ∀ r, MlpRow.IsMx (WoRow.h2 (rowB x0 x1 x2 x3 x4 x5 x6 x7 r)) n (M (ix2 r 0)))
    (hV : ∀ r (j : Fin 256) (k : Fin 2304), (k : ℕ) = n + j → V (ix2 r j) = WoRow.h2 (rowB x0 x1 x2 x3 x4 x5 x6 x7 r) k) :
    ∀ r, MlpRow.IsMx (WoRow.h2 (rowB x0 x1 x2 x3 x4 x5 x6 x7 r)) (n + 256) (mxV M V (ix2 r 0)) := fun r => by
  rw [mxV_at]
  exact (h r).step _ hn fun j => hV r j _ rfl

/-- The scale once every chunk is in, and as it is stored. -/
theorem sc_of (M : FVec Ideal S256x1 .f32) (h : ∀ r, MlpRow.IsMx (WoRow.h2 (rowB x0 x1 x2 x3 x4 x5 x6 x7 r)) 2304 (M (ix2 r 0))) (r : Fin 256) :
    scV M (ix2 r 0) = WoRow.hsc (rowB x0 x1 x2 x3 x4 x5 x6 x7 r) := by
  rw [scV_at, (h r).all]; rfl

theorem sc3_at (v : FVec Ideal S256x1 .f32) (r : Fin 256) : shapeCast S1x256x1 v shapeCasts_S256x1_S1x256x1 (ix3 0 r 0) = v (ix2 r 0) := by
  pointwise

/-- A chunk of the codes. -/
theorem code_of (sc : FVec Ideal S256x1 .f32) (V : FVec Ideal S256x256 .f32) (r : Fin 256) (j : Fin 256) (k : Fin 2304)
    (hsc : sc (ix2 r 0) = WoRow.hsc (rowB x0 x1 x2 x3 x4 x5 x6 x7 r)) (hV : V (ix2 r j) = WoRow.h2 (rowB x0 x1 x2 x3 x4 x5 x6 x7 r) k) :
    codeV sc V (ix3 0 r j) = WoRow.hcode (rowB x0 x1 x2 x3 x4 x5 x6 x7 r) k := by
  rw [codeV_at, hsc, hV]; rfl

end Cert.OutIdeal.Value
end
-- ==== Proof.WoParts.lean ====
module
public import proofs.«01_k».proof.Proof.WoBlock
public import proofs.«01_k».proof.Proof.Gen.OutIdeal.Value
@[expose] public section
set_option maxRecDepth 65536
noncomputable section
open Idealize.ShloMosaic Idealize.ShloMosaic.TcCoe Idealize.SL.Sem
open Idealize.ShloMosaic.Pipeline (Dat)

/-! # What a grid point stores, piece by piece

The nine chunks of the residual rows, the sum of their squares, the chunks read back and normalised, the scale and the
codes: each named once with its value at an index. -/

namespace Cert.OutIdeal.Value
open Cert.OutIdeal Cert.OutIdeal.Gen

variable (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32)

/-- The pieces of the residual rows. -/
def x1C (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) : List (View.Piece (Elt Ideal) S1x256x2304 .f32) :=
    [⟨Rect.unit ![0, 0, 2048] ![1, 256, 256] inb_S1x256x2304_S1x256x256_0_0_2048, stV (x1L x0 x1 x2 x3 x4 x5 2048 inb_S2304x2304_S2304x256_0_2048 inb_S1x256x2304_S1x256x256_0_0_2048 inb_S1x1x2304_S1x1x256_0_0_2048 inb_S1x2304_S1x256_0_2048)⟩,
    ⟨Rect.unit ![0, 0, 1792] ![1, 256, 256] inb_S1x256x2304_S1x256x256_0_0_1792, stV (x1L x0 x1 x2 x3 x4 x5 1792 inb_S2304x2304_S2304x256_0_1792 inb_S1x256x2304_S1x256x256_0_0_1792 inb_S1x1x2304_S1x1x256_0_0_1792 inb_S1x2304_S1x256_0_1792)⟩,
    ⟨Rect.unit ![0, 0, 1536] ![1, 256, 256] inb_S1x256x2304_S1x256x256_0_0_1536, stV (x1L x0 x1 x2 x3 x4 x5 1536 inb_S2304x2304_S2304x256_0_1536 inb_S1x256x2304_S1x256x256_0_0_1536 inb_S1x1x2304_S1x1x256_0_0_1536 inb_S1x2304_S1x256_0_1536)⟩,
    ⟨Rect.unit ![0, 0, 1280] ![1, 256, 256] inb_S1x256x2304_S1x256x256_0_0_1280, stV (x1L x0 x1 x2 x3 x4 x5 1280 inb_S2304x2304_S2304x256_0_1280 inb_S1x256x2304_S1x256x256_0_0_1280 inb_S1x1x2304_S1x1x256_0_0_1280 inb_S1x2304_S1x256_0_1280)⟩,
    ⟨Rect.unit ![0, 0, 1024] ![1, 256, 256] inb_S1x256x2304_S1x256x256_0_0_1024, stV (x1L x0 x1 x2 x3 x4 x5 1024 inb_S2304x2304_S2304x256_0_1024 inb_S1x256x2304_S1x256x256_0_0_1024 inb_S1x1x2304_S1x1x256_0_0_1024 inb_S1x2304_S1x256_0_1024)⟩,
    ⟨Rect.unit ![0, 0, 768] ![1, 256, 256] inb_S1x256x2304_S1x256x256_0_0_768, stV (x1L x0 x1 x2 x3 x4 x5 768 inb_S2304x2304_S2304x256_0_768 inb_S1x256x2304_S1x256x256_0_0_768 inb_S1x1x2304_S1x1x256_0_0_768 inb_S1x2304_S1x256_0_768)⟩,
    ⟨Rect.unit ![0, 0, 512] ![1, 256, 256] inb_S1x256x2304_S1x256x256_0_0_512, stV (x1L x0 x1 x2 x3 x4 x5 512 inb_S2304x2304_S2304x256_0_512 inb_S1x256x2304_S1x256x256_0_0_512 inb_S1x1x2304_S1x1x256_0_0_512 inb_S1x2304_S1x256_0_512)⟩,
    ⟨Rect.unit ![0, 0, 256] ![1, 256, 256] inb_S1x256x2304_S1x256x256_0_0_256, stV (x1L x0 x1 x2 x3 x4 x5 256 inb_S2304x2304_S2304x256_0_256 inb_S1x256x2304_S1x256x256_0_0_256 inb_S1x1x2304_S1x1x256_0_0_256 inb_S1x2304_S1x256_0_256)⟩,
    ⟨Rect.unit ![0, 0, 0] ![1, 256, 256] inb_S1x256x2304_S1x256x256_0_0_0, stV (x1L x0 x1 x2 x3 x4 x5 0 inb_S2304x2304_S2304x256_0_0 inb_S1x256x2304_S1x256x256_0_0_0 inb_S1x1x2304_S1x1x256_0_0_0 inb_S1x2304_S1x256_0_0)⟩]

theorem x1_piece (o : ℕ) (V : FVec Ideal S256x256 .f32)
    (hV : ∀ r (j : Fin 256) (k : Fin 2304), (k : ℕ) = o + j → V (ix2 r j) = WoRow.x1 (rowB x0 x1 x2 x3 x4 x5 x6 x7 r) k)
    (x : S1x256x256.Idx) (y : S1x256x2304.Idx) (h1 : (y 1 : ℕ) = x 1) (h2 : (y 2 : ℕ) = o + x 2) :
    stV V x = WoRow.x1 (rowB x0 x1 x2 x3 x4 x5 x6 x7 (y 1)) (y 2) := by
  have hx : x = ix3 0 (y 1) (x 2) := by
    funext a; fin_cases a
    · exact Subsingleton.elim (α := Fin 1) _ _
    · exact Fin.ext h1.symm
    · rfl
  rw [hx]
  exact (stV_at V _ _).trans (hV _ _ _ h2)

theorem x1_canon (y : S1x256x2304.Idx) : View.canon (x1C x0 x1 x2 x3 x4 x5) y = WoRow.x1 (rowB x0 x1 x2 x3 x4 x5 x6 x7 (y 1)) (y 2) := by
  unfold x1C
  canon_tiles x h
  · exact x1_piece x0 x1 x2 x3 x4 x5 x6 x7 2048 _ (x1L_at x0 x1 x2 x3 x4 x5 x6 x7 2048 _ _ _ _) x y (by omega) (by omega)
  · exact x1_piece x0 x1 x2 x3 x4 x5 x6 x7 1792 _ (x1L_at x0 x1 x2 x3 x4 x5 x6 x7 1792 _ _ _ _) x y (by omega) (by omega)
  · exact x1_piece x0 x1 x2 x3 x4 x5 x6 x7 1536 _ (x1L_at x0 x1 x2 x3 x4 x5 x6 x7 1536 _ _ _ _) x y (by omega) (by omega)
  · exact x1_piece x0 x1 x2 x3 x4 x5 x6 x7 1280 _ (x1L_at x0 x1 x2 x3 x4 x5 x6 x7 1280 _ _ _ _) x y (by omega) (by omega)
  · exact x1_piece x0 x1 x2 x3 x4 x5 x6 x7 1024 _ (x1L_at x0 x1 x2 x3 x4 x5 x6 x7 1024 _ _ _ _) x y (by omega) (by omega)
  · exact x1_piece x0 x1 x2 x3 x4 x5 x6 x7 768 _ (x1L_at x0 x1 x2 x3 x4 x5 x6 x7 768 _ _ _ _) x y (by omega) (by omega)
  · exact x1_piece x0 x1 x2 x3 x4 x5 x6 x7 512 _ (x1L_at x0 x1 x2 x3 x4 x5 x6 x7 512 _ _ _ _) x y (by omega) (by omega)
  · exact x1_piece x0 x1 x2 x3 x4 x5 x6 x7 256 _ (x1L_at x0 x1 x2 x3 x4 x5 x6 x7 256 _ _ _ _) x y (by omega) (by omega)
  · exact x1_piece x0 x1 x2 x3 x4 x5 x6 x7 0 _ (x1L_at x0 x1 x2 x3 x4 x5 x6 x7 0 _ _ _ _) x y (by omega) (by omega)

/-- The sum of the squares, and the reciprocal of the root. -/
def ssT (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) : FVec Ideal S256x1 .f32 :=
  (smV (smV (smV (smV (smV (smV (smV (smV (smV (broadcast S256x1 (Scalar.ofBits (F := Ideal) .f32 0x00000000#32))
    (x1L x0 x1 x2 x3 x4 x5 0 inb_S2304x2304_S2304x256_0_0 inb_S1x256x2304_S1x256x256_0_0_0 inb_S1x1x2304_S1x1x256_0_0_0 inb_S1x2304_S1x256_0_0))
    (x1L x0 x1 x2 x3 x4 x5 256 inb_S2304x2304_S2304x256_0_256 inb_S1x256x2304_S1x256x256_0_0_256 inb_S1x1x2304_S1x1x256_0_0_256 inb_S1x2304_S1x256_0_256))
    (x1L x0 x1 x2 x3 x4 x5 512 inb_S2304x2304_S2304x256_0_512 inb_S1x256x2304_S1x256x256_0_0_512 inb_S1x1x2304_S1x1x256_0_0_512 inb_S1x2304_S1x256_0_512))
    (x1L x0 x1 x2 x3 x4 x5 768 inb_S2304x2304_S2304x256_0_768 inb_S1x256x2304_S1x256x256_0_0_768 inb_S1x1x2304_S1x1x256_0_0_768 inb_S1x2304_S1x256_0_768))
    (x1L x0 x1 x2 x3 x4 x5 1024 inb_S2304x2304_S2304x256_0_1024 inb_S1x256x2304_S1x256x256_0_0_1024 inb_S1x1x2304_S1x1x256_0_0_1024 inb_S1x2304_S1x256_0_1024))
    (x1L x0 x1 x2 x3 x4 x5 1280 inb_S2304x2304_S2304x256_0_1280 inb_S1x256x2304_S1x256x256_0_0_1280 inb_S1x1x2304_S1x1x256_0_0_1280 inb_S1x2304_S1x256_0_1280))
    (x1L x0 x1 x2 x3 x4 x5 1536 inb_S2304x2304_S2304x256_0_1536 inb_S1x256x2304_S1x256x256_0_0_1536 inb_S1x1x2304_S1x1x256_0_0_1536 inb_S1x2304_S1x256_0_1536))
    (x1L x0 x1 x2 x3 x4 x5 1792 inb_S2304x2304_S2304x256_0_1792 inb_S1x256x2304_S1x256x256_0_0_1792 inb_S1x1x2304_S1x1x256_0_0_1792 inb_S1x2304_S1x256_0_1792))
    (x1L x0 x1 x2 x3 x4 x5 2048 inb_S2304x2304_S2304x256_0_2048 inb_S1x256x2304_S1x256x256_0_0_2048 inb_S1x1x2304_S1x1x256_0_0_2048 inb_S1x2304_S1x256_0_2048))
def invT (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) : FVec Ideal S256x1 .f32 := invV (ssT x0 x1 x2 x3 x4 x5)

theorem ssT_at : ∀ r, WoRow.IsSm (fun k => WoRow.x1 (rowB x0 x1 x2 x3 x4 x5 x6 x7 r) k * WoRow.x1 (rowB x0 x1 x2 x3 x4 x5 x6 x7 r) k) 2304 (ssT x0 x1 x2 x3 x4 x5 (ix2 r 0)) := by
  unfold ssT
  refine sm_step x0 x1 x2 x3 x4 x5 x6 x7 2048 (by decide) _ _ ?_ (x1L_at x0 x1 x2 x3 x4 x5 x6 x7 2048 _ _ _ _)
  refine sm_step x0 x1 x2 x3 x4 x5 x6 x7 1792 (by decide) _ _ ?_ (x1L_at x0 x1 x2 x3 x4 x5 x6 x7 1792 _ _ _ _)
  refine sm_step x0 x1 x2 x3 x4 x5 x6 x7 1536 (by decide) _ _ ?_ (x1L_at x0 x1 x2 x3 x4 x5 x6 x7 1536 _ _ _ _)
  refine sm_step x0 x1 x2 x3 x4 x5 x6 x7 1280 (by decide) _ _ ?_ (x1L_at x0 x1 x2 x3 x4 x5 x6 x7 1280 _ _ _ _)
  refine sm_step x0 x1 x2 x3 x4 x5 x6 x7 1024 (by decide) _ _ ?_ (x1L_at x0 x1 x2 x3 x4 x5 x6 x7 1024 _ _ _ _)
  refine sm_step x0 x1 x2 x3 x4 x5 x6 x7 768 (by decide) _ _ ?_ (x1L_at x0 x1 x2 x3 x4 x5 x6 x7 768 _ _ _ _)
  refine sm_step x0 x1 x2 x3 x4 x5 x6 x7 512 (by decide) _ _ ?_ (x1L_at x0 x1 x2 x3 x4 x5 x6 x7 512 _ _ _ _)
  refine sm_step x0 x1 x2 x3 x4 x5 x6 x7 256 (by decide) _ _ ?_ (x1L_at x0 x1 x2 x3 x4 x5 x6 x7 256 _ _ _ _)
  refine sm_step x0 x1 x2 x3 x4 x5 x6 x7 0 (by decide) _ _ ?_ (x1L_at x0 x1 x2 x3 x4 x5 x6 x7 0 _ _ _ _)
  intro r
  have h0 : broadcast S256x1 (Scalar.ofBits (F := Ideal) .f32 0x00000000#32) (ix2 r 0) = (0 : EReal) := by pointwise
  exact h0 ▸ WoRow.IsSm.zero _

theorem invT_at (r : Fin 256) : invT x0 x1 x2 x3 x4 x5 (ix2 r 0) = Ideal.div 1 (WoRow.rms (rowB x0 x1 x2 x3 x4 x5 x6 x7 r)) :=
  inv_of x0 x1 x2 x3 x4 x5 x6 x7 _ (ssT_at x0 x1 x2 x3 x4 x5 x6 x7) r

/-- A chunk of the residual rows read back. -/
def x1Rd (arg10 : Memref sig .tc .vmem S1x256x2304 .f32) (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32)
    (o : ℕ) (inb : ∀ a, ![0, 0, o] a + ![1, 256, 256] a ≤ S1x256x2304.size a) : FVec Ideal S1x256x256 .f32 :=
  arg10.view.readCov (x1C x0 x1 x2 x3 x4 x5) (Rect.unit (s := S1x256x2304) ![0, 0, o] ![1, 256, 256] inb).toLoadRect

theorem x1_read (arg10 : Memref sig .tc .vmem S1x256x2304 .f32) (o : ℕ) (inb) (r : Fin 256) (j : Fin 256) (k : Fin 2304) (hk : (k : ℕ) = o + j) :
    x1Rd arg10 x0 x1 x2 x3 x4 x5 o inb (ix3 0 r j) = WoRow.x1 (rowB x0 x1 x2 x3 x4 x5 x6 x7 r) k := by
  unfold x1Rd
  rw [View.readCov_eq_canon']
  have hx : (Rect.unit (s := S1x256x2304) ![0, 0, o] ![1, 256, 256] inb).toLoadRect.idx (ix3 0 r j) = ix3 0 r k := by
    funext a; fin_cases a <;> exact Fin.ext (by simp [hk])
  exact (congrArg (View.canon (x1C x0 x1 x2 x3 x4 x5)) hx).trans (x1_canon x0 x1 x2 x3 x4 x5 x6 x7 _)

/-- A chunk of the normalised rows. -/
def h2T (arg10 : Memref sig .tc .vmem S1x256x2304 .f32) (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32)
    (o : ℕ) (i1 : ∀ a, ![0, 0, o] a + ![1, 256, 256] a ≤ S1x256x2304.size a) (i2 : ∀ a, ![0, o] a + ![1, 256] a ≤ S1x2304.size a)
    (i3 : ∀ a, ![0, 0, o] a + ![1, 1, 256] a ≤ S1x1x2304.size a) : FVec Ideal S256x256 .f32 :=
  h2V (invT x0 x1 x2 x3 x4 x5) (x1Rd arg10 x0 x1 x2 x3 x4 x5 o i1) (View.ld x6 (Rect.unit (s := S1x2304) ![0, o] ![1, 256] i2)) (View.ld x7 (Rect.unit (s := S1x1x2304) ![0, 0, o] ![1, 1, 256] i3))

theorem h2T_at (arg10 : Memref sig .tc .vmem S1x256x2304 .f32) (o : ℕ) (i1 i2 i3) (r : Fin 256) (j : Fin 256) (k : Fin 2304) (hk : (k : ℕ) = o + j) :
    h2T arg10 x0 x1 x2 x3 x4 x5 x6 x7 o i1 i2 i3 (ix2 r j) = WoRow.h2 (rowB x0 x1 x2 x3 x4 x5 x6 x7 r) k :=
  h2_of x0 x1 x2 x3 x4 x5 x6 x7 o _ _ i2 i3 (invT_at x0 x1 x2 x3 x4 x5 x6 x7) (x1_read x0 x1 x2 x3 x4 x5 x6 x7 arg10 o i1) r j k hk

/-- The largest absolute values, and the scale. -/
def mxT (arg10 : Memref sig .tc .vmem S1x256x2304 .f32) (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) : FVec Ideal S256x1 .f32 :=
  (mxV (mxV (mxV (mxV (mxV (mxV (mxV (mxV (mxV (broadcast S256x1 (Scalar.ofBits (F := Ideal) .f32 0x00000000#32))
    (h2T arg10 x0 x1 x2 x3 x4 x5 x6 x7 0 inb_S1x256x2304_S1x256x256_0_0_0 inb_S1x2304_S1x256_0_0 inb_S1x1x2304_S1x1x256_0_0_0))
    (h2T arg10 x0 x1 x2 x3 x4 x5 x6 x7 256 inb_S1x256x2304_S1x256x256_0_0_256 inb_S1x2304_S1x256_0_256 inb_S1x1x2304_S1x1x256_0_0_256))
    (h2T arg10 x0 x1 x2 x3 x4 x5 x6 x7 512 inb_S1x256x2304_S1x256x256_0_0_512 inb_S1x2304_S1x256_0_512 inb_S1x1x2304_S1x1x256_0_0_512))
    (h2T arg10 x0 x1 x2 x3 x4 x5 x6 x7 768 inb_S1x256x2304_S1x256x256_0_0_768 inb_S1x2304_S1x256_0_768 inb_S1x1x2304_S1x1x256_0_0_768))
    (h2T arg10 x0 x1 x2 x3 x4 x5 x6 x7 1024 inb_S1x256x2304_S1x256x256_0_0_1024 inb_S1x2304_S1x256_0_1024 inb_S1x1x2304_S1x1x256_0_0_1024))
    (h2T arg10 x0 x1 x2 x3 x4 x5 x6 x7 1280 inb_S1x256x2304_S1x256x256_0_0_1280 inb_S1x2304_S1x256_0_1280 inb_S1x1x2304_S1x1x256_0_0_1280))
    (h2T arg10 x0 x1 x2 x3 x4 x5 x6 x7 1536 inb_S1x256x2304_S1x256x256_0_0_1536 inb_S1x2304_S1x256_0_1536 inb_S1x1x2304_S1x1x256_0_0_1536))
    (h2T arg10 x0 x1 x2 x3 x4 x5 x6 x7 1792 inb_S1x256x2304_S1x256x256_0_0_1792 inb_S1x2304_S1x256_0_1792 inb_S1x1x2304_S1x1x256_0_0_1792))
    (h2T arg10 x0 x1 x2 x3 x4 x5 x6 x7 2048 inb_S1x256x2304_S1x256x256_0_0_2048 inb_S1x2304_S1x256_0_2048 inb_S1x1x2304_S1x1x256_0_0_2048))
def scT (arg10 : Memref sig .tc .vmem S1x256x2304 .f32) (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) : FVec Ideal S256x1 .f32 := scV (mxT arg10 x0 x1 x2 x3 x4 x5 x6 x7)

theorem mxT_at (arg10 : Memref sig .tc .vmem S1x256x2304 .f32) : ∀ r, MlpRow.IsMx (WoRow.h2 (rowB x0 x1 x2 x3 x4 x5 x6 x7 r)) 2304 (mxT arg10 x0 x1 x2 x3 x4 x5 x6 x7 (ix2 r 0)) := by
  unfold mxT
  refine mx_step x0 x1 x2 x3 x4 x5 x6 x7 2048 (by decide) _ _ ?_ (h2T_at x0 x1 x2 x3 x4 x5 x6 x7 arg10 2048 _ _ _)
  refine mx_step x0 x1 x2 x3 x4 x5 x6 x7 1792 (by decide) _ _ ?_ (h2T_at x0 x1 x2 x3 x4 x5 x6 x7 arg10 1792 _ _ _)
  refine mx_step x0 x1 x2 x3 x4 x5 x6 x7 1536 (by decide) _ _ ?_ (h2T_at x0 x1 x2 x3 x4 x5 x6 x7 arg10 1536 _ _ _)
  refine mx_step x0 x1 x2 x3 x4 x5 x6 x7 1280 (by decide) _ _ ?_ (h2T_at x0 x1 x2 x3 x4 x5 x6 x7 arg10 1280 _ _ _)
  refine mx_step x0 x1 x2 x3 x4 x5 x6 x7 1024 (by decide) _ _ ?_ (h2T_at x0 x1 x2 x3 x4 x5 x6 x7 arg10 1024 _ _ _)
  refine mx_step x0 x1 x2 x3 x4 x5 x6 x7 768 (by decide) _ _ ?_ (h2T_at x0 x1 x2 x3 x4 x5 x6 x7 arg10 768 _ _ _)
  refine mx_step x0 x1 x2 x3 x4 x5 x6 x7 512 (by decide) _ _ ?_ (h2T_at x0 x1 x2 x3 x4 x5 x6 x7 arg10 512 _ _ _)
  refine mx_step x0 x1 x2 x3 x4 x5 x6 x7 256 (by decide) _ _ ?_ (h2T_at x0 x1 x2 x3 x4 x5 x6 x7 arg10 256 _ _ _)
  refine mx_step x0 x1 x2 x3 x4 x5 x6 x7 0 (by decide) _ _ ?_ (h2T_at x0 x1 x2 x3 x4 x5 x6 x7 arg10 0 _ _ _)
  intro r
  have h0 : broadcast S256x1 (Scalar.ofBits (F := Ideal) .f32 0x00000000#32) (ix2 r 0) = (0 : EReal) := by pointwise
  exact h0 ▸ MlpRow.IsMx.zero _

theorem scT_at (arg10 : Memref sig .tc .vmem S1x256x2304 .f32) (r : Fin 256) : scT arg10 x0 x1 x2 x3 x4 x5 x6 x7 (ix2 r 0) = WoRow.hsc (rowB x0 x1 x2 x3 x4 x5 x6 x7 r) :=
  sc_of x0 x1 x2 x3 x4 x5 x6 x7 _ (mxT_at x0 x1 x2 x3 x4 x5 x6 x7 arg10) r

/-- The pieces of the codes. -/
def hcC (arg10 : Memref sig .tc .vmem S1x256x2304 .f32) (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) : List (View.Piece (Elt Ideal) S1x256x2304 .fp8e4m3) :=
    [⟨Rect.unit ![0, 0, 2048] ![1, 256, 256] inb_S1x256x2304_S1x256x256_0_0_2048, codeV (scT arg10 x0 x1 x2 x3 x4 x5 x6 x7) (h2T arg10 x0 x1 x2 x3 x4 x5 x6 x7 2048 inb_S1x256x2304_S1x256x256_0_0_2048 inb_S1x2304_S1x256_0_2048 inb_S1x1x2304_S1x1x256_0_0_2048)⟩,
    ⟨Rect.unit ![0, 0, 1792] ![1, 256, 256] inb_S1x256x2304_S1x256x256_0_0_1792, codeV (scT arg10 x0 x1 x2 x3 x4 x5 x6 x7) (h2T arg10 x0 x1 x2 x3 x4 x5 x6 x7 1792 inb_S1x256x2304_S1x256x256_0_0_1792 inb_S1x2304_S1x256_0_1792 inb_S1x1x2304_S1x1x256_0_0_1792)⟩,
    ⟨Rect.unit ![0, 0, 1536] ![1, 256, 256] inb_S1x256x2304_S1x256x256_0_0_1536, codeV (scT arg10 x0 x1 x2 x3 x4 x5 x6 x7) (h2T arg10 x0 x1 x2 x3 x4 x5 x6 x7 1536 inb_S1x256x2304_S1x256x256_0_0_1536 inb_S1x2304_S1x256_0_1536 inb_S1x1x2304_S1x1x256_0_0_1536)⟩,
    ⟨Rect.unit ![0, 0, 1280] ![1, 256, 256] inb_S1x256x2304_S1x256x256_0_0_1280, codeV (scT arg10 x0 x1 x2 x3 x4 x5 x6 x7) (h2T arg10 x0 x1 x2 x3 x4 x5 x6 x7 1280 inb_S1x256x2304_S1x256x256_0_0_1280 inb_S1x2304_S1x256_0_1280 inb_S1x1x2304_S1x1x256_0_0_1280)⟩,
    ⟨Rect.unit ![0, 0, 1024] ![1, 256, 256] inb_S1x256x2304_S1x256x256_0_0_1024, codeV (scT arg10 x0 x1 x2 x3 x4 x5 x6 x7) (h2T arg10 x0 x1 x2 x3 x4 x5 x6 x7 1024 inb_S1x256x2304_S1x256x256_0_0_1024 inb_S1x2304_S1x256_0_1024 inb_S1x1x2304_S1x1x256_0_0_1024)⟩,
    ⟨Rect.unit ![0, 0, 768] ![1, 256, 256] inb_S1x256x2304_S1x256x256_0_0_768, codeV (scT arg10 x0 x1 x2 x3 x4 x5 x6 x7) (h2T arg10 x0 x1 x2 x3 x4 x5 x6 x7 768 inb_S1x256x2304_S1x256x256_0_0_768 inb_S1x2304_S1x256_0_768 inb_S1x1x2304_S1x1x256_0_0_768)⟩,
    ⟨Rect.unit ![0, 0, 512] ![1, 256, 256] inb_S1x256x2304_S1x256x256_0_0_512, codeV (scT arg10 x0 x1 x2 x3 x4 x5 x6 x7) (h2T arg10 x0 x1 x2 x3 x4 x5 x6 x7 512 inb_S1x256x2304_S1x256x256_0_0_512 inb_S1x2304_S1x256_0_512 inb_S1x1x2304_S1x1x256_0_0_512)⟩,
    ⟨Rect.unit ![0, 0, 256] ![1, 256, 256] inb_S1x256x2304_S1x256x256_0_0_256, codeV (scT arg10 x0 x1 x2 x3 x4 x5 x6 x7) (h2T arg10 x0 x1 x2 x3 x4 x5 x6 x7 256 inb_S1x256x2304_S1x256x256_0_0_256 inb_S1x2304_S1x256_0_256 inb_S1x1x2304_S1x1x256_0_0_256)⟩,
    ⟨Rect.unit ![0, 0, 0] ![1, 256, 256] inb_S1x256x2304_S1x256x256_0_0_0, codeV (scT arg10 x0 x1 x2 x3 x4 x5 x6 x7) (h2T arg10 x0 x1 x2 x3 x4 x5 x6 x7 0 inb_S1x256x2304_S1x256x256_0_0_0 inb_S1x2304_S1x256_0_0 inb_S1x1x2304_S1x1x256_0_0_0)⟩]

theorem hc_piece (o : ℕ) (sc : FVec Ideal S256x1 .f32) (V : FVec Ideal S256x256 .f32)
    (hsc : ∀ r, sc (ix2 r 0) = WoRow.hsc (rowB x0 x1 x2 x3 x4 x5 x6 x7 r))
    (hV : ∀ r (j : Fin 256) (k : Fin 2304), (k : ℕ) = o + j → V (ix2 r j) = WoRow.h2 (rowB x0 x1 x2 x3 x4 x5 x6 x7 r) k)
    (x : S1x256x256.Idx) (y : S1x256x2304.Idx) (h1 : (y 1 : ℕ) = x 1) (h2 : (y 2 : ℕ) = o + x 2) :
    codeV sc V x = WoRow.hcode (rowB x0 x1 x2 x3 x4 x5 x6 x7 (y 1)) (y 2) := by
  have hx : x = ix3 0 (y 1) (x 2) := by
    funext a; fin_cases a
    · exact Subsingleton.elim (α := Fin 1) _ _
    · exact Fin.ext h1.symm
    · rfl
  rw [hx]
  exact code_of x0 x1 x2 x3 x4 x5 x6 x7 sc V _ _ _ (hsc _) (hV _ _ _ h2)

theorem hc_canon (arg10 : Memref sig .tc .vmem S1x256x2304 .f32) (y : S1x256x2304.Idx) : View.canon (hcC arg10 x0 x1 x2 x3 x4 x5 x6 x7) y = WoRow.hcode (rowB x0 x1 x2 x3 x4 x5 x6 x7 (y 1)) (y 2) := by
  unfold hcC
  canon_tiles x h
  · exact hc_piece x0 x1 x2 x3 x4 x5 x6 x7 2048 _ _ (scT_at x0 x1 x2 x3 x4 x5 x6 x7 arg10) (h2T_at x0 x1 x2 x3 x4 x5 x6 x7 arg10 2048 _ _ _) x y (by omega) (by omega)
  · exact hc_piece x0 x1 x2 x3 x4 x5 x6 x7 1792 _ _ (scT_at x0 x1 x2 x3 x4 x5 x6 x7 arg10) (h2T_at x0 x1 x2 x3 x4 x5 x6 x7 arg10 1792 _ _ _) x y (by omega) (by omega)
  · exact hc_piece x0 x1 x2 x3 x4 x5 x6 x7 1536 _ _ (scT_at x0 x1 x2 x3 x4 x5 x6 x7 arg10) (h2T_at x0 x1 x2 x3 x4 x5 x6 x7 arg10 1536 _ _ _) x y (by omega) (by omega)
  · exact hc_piece x0 x1 x2 x3 x4 x5 x6 x7 1280 _ _ (scT_at x0 x1 x2 x3 x4 x5 x6 x7 arg10) (h2T_at x0 x1 x2 x3 x4 x5 x6 x7 arg10 1280 _ _ _) x y (by omega) (by omega)
  · exact hc_piece x0 x1 x2 x3 x4 x5 x6 x7 1024 _ _ (scT_at x0 x1 x2 x3 x4 x5 x6 x7 arg10) (h2T_at x0 x1 x2 x3 x4 x5 x6 x7 arg10 1024 _ _ _) x y (by omega) (by omega)
  · exact hc_piece x0 x1 x2 x3 x4 x5 x6 x7 768 _ _ (scT_at x0 x1 x2 x3 x4 x5 x6 x7 arg10) (h2T_at x0 x1 x2 x3 x4 x5 x6 x7 arg10 768 _ _ _) x y (by omega) (by omega)
  · exact hc_piece x0 x1 x2 x3 x4 x5 x6 x7 512 _ _ (scT_at x0 x1 x2 x3 x4 x5 x6 x7 arg10) (h2T_at x0 x1 x2 x3 x4 x5 x6 x7 arg10 512 _ _ _) x y (by omega) (by omega)
  · exact hc_piece x0 x1 x2 x3 x4 x5 x6 x7 256 _ _ (scT_at x0 x1 x2 x3 x4 x5 x6 x7 arg10) (h2T_at x0 x1 x2 x3 x4 x5 x6 x7 arg10 256 _ _ _) x y (by omega) (by omega)
  · exact hc_piece x0 x1 x2 x3 x4 x5 x6 x7 0 _ _ (scT_at x0 x1 x2 x3 x4 x5 x6 x7 arg10) (h2T_at x0 x1 x2 x3 x4 x5 x6 x7 arg10 0 _ _ _) x y (by omega) (by omega)

end Cert.OutIdeal.Value
end
-- ==== Proof.WoOut8.lean ====
module
public import proofs.«01_k».proof.Proof.WoParts
@[expose] public section
set_option maxRecDepth 65536
noncomputable section
open Idealize.ShloMosaic Idealize.ShloMosaic.TcCoe Idealize.SL.Sem
open Idealize.ShloMosaic.Pipeline (Dat)

/-! # The residual rows a grid point stores -/

namespace Cert.OutIdeal.Value
open Cert.OutIdeal Cert.OutIdeal.Gen

theorem out8_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x2304 .fp8e4m3) (harg4 : arg4.IsWhole) (arg5 : Memref sig .tc .vmem S1x2304 .f32) (harg5 : arg5.IsWhole) (arg6 : Memref sig .tc .vmem S1x256x2304 .bf16) (harg6 : arg6.IsWhole) (arg7 : Memref sig .tc .vmem S1x1x2304 .f32) (harg7 : arg7.IsWhole) (arg8 : Memref sig .tc .vmem S1x2304 .f32) (harg8 : arg8.IsWhole) (arg9 : Memref sig .tc .vmem S1x1x2304 .f32) (harg9 : arg9.IsWhole) (arg10 : Memref sig .tc .vmem S1x256x2304 .f32) (harg10 : arg10.IsWhole) (arg11 : Memref sig .tc .vmem S1x256x2304 .fp8e4m3) (harg11 : arg11.IsWhole) (arg12 : Memref sig .tc .vmem S1x256x1 .f32) (harg12 : arg12.IsWhole)
    (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) (r : Fin 256) (n : Fin 2304) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 (ix3 0 r n) = WoRow.x1 (rowB x0 x1 x2 x3 x4 x5 x6 x7 r) n := by
  frame_out
  exact x1_canon x0 x1 x2 x3 x4 x5 x6 x7 (ix3 0 r n)

end Cert.OutIdeal.Value
end
-- ==== Proof.WoOut9.lean ====
module
public import proofs.«01_k».proof.Proof.WoParts
@[expose] public section
set_option maxRecDepth 65536
noncomputable section
open Idealize.ShloMosaic Idealize.ShloMosaic.TcCoe Idealize.SL.Sem
open Idealize.ShloMosaic.Pipeline (Dat)

/-! # The codes a grid point stores -/

namespace Cert.OutIdeal.Value
open Cert.OutIdeal Cert.OutIdeal.Gen

theorem out9_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x2304 .fp8e4m3) (harg4 : arg4.IsWhole) (arg5 : Memref sig .tc .vmem S1x2304 .f32) (harg5 : arg5.IsWhole) (arg6 : Memref sig .tc .vmem S1x256x2304 .bf16) (harg6 : arg6.IsWhole) (arg7 : Memref sig .tc .vmem S1x1x2304 .f32) (harg7 : arg7.IsWhole) (arg8 : Memref sig .tc .vmem S1x2304 .f32) (harg8 : arg8.IsWhole) (arg9 : Memref sig .tc .vmem S1x1x2304 .f32) (harg9 : arg9.IsWhole) (arg10 : Memref sig .tc .vmem S1x256x2304 .f32) (harg10 : arg10.IsWhole) (arg11 : Memref sig .tc .vmem S1x256x2304 .fp8e4m3) (harg11 : arg11.IsWhole) (arg12 : Memref sig .tc .vmem S1x256x1 .f32) (harg12 : arg12.IsWhole)
    (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) (r : Fin 256) (n : Fin 2304) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 (ix3 0 r n) = WoRow.hcode (rowB x0 x1 x2 x3 x4 x5 x6 x7 r) n := by
  frame_out
  exact hc_canon x0 x1 x2 x3 x4 x5 x6 x7 arg10 (ix3 0 r n)

end Cert.OutIdeal.Value
end
-- ==== Proof.WoOut10.lean ====
module
public import proofs.«01_k».proof.Proof.WoParts
@[expose] public section
set_option maxRecDepth 65536
noncomputable section
open Idealize.ShloMosaic Idealize.ShloMosaic.TcCoe Idealize.SL.Sem
open Idealize.ShloMosaic.Pipeline (Dat)

/-! # The scales a grid point stores -/

namespace Cert.OutIdeal.Value
open Cert.OutIdeal Cert.OutIdeal.Gen

theorem out10_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x2304 .fp8e4m3) (harg4 : arg4.IsWhole) (arg5 : Memref sig .tc .vmem S1x2304 .f32) (harg5 : arg5.IsWhole) (arg6 : Memref sig .tc .vmem S1x256x2304 .bf16) (harg6 : arg6.IsWhole) (arg7 : Memref sig .tc .vmem S1x1x2304 .f32) (harg7 : arg7.IsWhole) (arg8 : Memref sig .tc .vmem S1x2304 .f32) (harg8 : arg8.IsWhole) (arg9 : Memref sig .tc .vmem S1x1x2304 .f32) (harg9 : arg9.IsWhole) (arg10 : Memref sig .tc .vmem S1x256x2304 .f32) (harg10 : arg10.IsWhole) (arg11 : Memref sig .tc .vmem S1x256x2304 .fp8e4m3) (harg11 : arg11.IsWhole) (arg12 : Memref sig .tc .vmem S1x256x1 .f32) (harg12 : arg12.IsWhole)
    (x0 : Vec Ideal S1x256x2304 .fp8e4m3) (x1 : Vec Ideal S1x256x1 .f32) (x2 : Vec Ideal S2304x2304 .fp8e4m3) (x3 : Vec Ideal S1x2304 .f32) (x4 : Vec Ideal S1x256x2304 .bf16) (x5 : Vec Ideal S1x1x2304 .f32) (x6 : Vec Ideal S1x2304 .f32) (x7 : Vec Ideal S1x1x2304 .f32) (r : Fin 256) (n : Fin 1) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 (ix3 0 r n) = WoRow.hsc (rowB x0 x1 x2 x3 x4 x5 x6 x7 r) := by
  obtain rfl : n = 0 := Subsingleton.elim _ _
  frame_out
  exact (sc3_at (scT arg10 x0 x1 x2 x3 x4 x5 x6 x7) r).trans (scT_at x0 x1 x2 x3 x4 x5 x6 x7 arg10 r)

end Cert.OutIdeal.Value
end
-- ==== Proof.WoRef.lean ====
module
public import proofs.«01_k».proof.Proof.WoRows
public import proofs.«01_k».proof.Proof.Gen.OutRefIdeal.Value
@[expose] public section
set_option maxRecDepth 16384
noncomputable section
open Idealize.ShloMosaic Idealize.ShloMosaic.TcCoe Idealize.SL.Sem

/-! # The reference of the output projection, read

Each result of the reference at an index is the row function of the token the index names. -/

namespace Cert.OutRefIdeal.Value
open Cert.OutRefIdeal Cert.OutRefIdeal.Gen

variable (a0 : Vec Ideal S3x1024x2304 .fp8e4m3) (a1 : Vec Ideal S3x1024x1 .f32) (a2 : Vec Ideal S2304x2304 .fp8e4m3) (a3 : Vec Ideal S1x2304 .f32) (a4 : Vec Ideal S3x1024x2304 .bf16) (a5 : Vec Ideal S3x1x2304 .f32) (a6 : Vec Ideal S1x2304 .f32) (a7 : Vec Ideal S3x1x2304 .f32)

/-- Token `t` of batch `b`. -/
def tok (b : Fin 3) (t : Fin 1024) : WoRow.Row where
  h d := a0 (ix3 b t d)
  hs := a1 (ix3 b t 0)
  w d k := a2 (ix2 d k)
  s k := a3 (ix2 0 k)
  xa n := a4 (ix3 b t n)
  ga n := a5 (ix3 b 0 n)
  g2 n := a6 (ix2 0 n)
  ms n := a7 (ix3 b 0 n)

theorem x1_at (b : Fin 3) (t : Fin 1024) (n : Fin 2304) : k0_pay4 a0 a2 a1 a3 a4 a5 (ix3 b t n) = WoRow.x1 (tok a0 a1 a2 a3 a4 a5 a6 a7 b t) n := by
  unfold WoRow.x1 tok
  pointwise [k0_pay4]

/-- The root of the mean, from the rows. -/
def rmsR (v : FVec Ideal S3x1024x2304 .f32) : FVec Ideal S3x1024x1 .f32 :=
  sqrt (addf (mulf (shapeCast S3x1024x1 (multiReduction .add [2] S3x1024 (mulf v v) 0x00000000#32 reduces_S3x1024x2304_S3x1024 (.inl rfl) rfl) shapeCasts_S3x1024_S3x1024x1)
    (broadcast S3x1024x1 (Scalar.ofBits .f32 0x39E38E39#32))) (broadcast S3x1024x1 (Scalar.ofBits .f32 0x358637BD#32)))

theorem rmsR_at (v) (b : Fin 3) (t : Fin 1024) :
    rmsR v (ix3 b t 0) = Ideal.sqrt ((∑ n : Fin 2304, v (ix3 b t n) * v (ix3 b t n)) * Ideal.ofBits .f32 0x39E38E39#32 + Ideal.ofBits .f32 0x358637BD#32) := by
  pointwise [rmsR]

/-- The normalised rows, from the rows and their roots. -/
def nrmR (v : FVec Ideal S3x1024x2304 .f32) (s : FVec Ideal S3x1024x1 .f32) (g : FVec Ideal S1x2304 .f32) : FVec Ideal S3x1024x2304 .f32 :=
  mulf (divf v (broadcastTo S3x1024x2304 s broadcasts_S3x1024x1_S3x1024x2304))
    (broadcastTo S3x1024x2304 (shapeCast S1x1x2304 g shapeCasts_S1x2304_S1x1x2304) broadcasts_S1x1x2304_S3x1024x2304)

theorem nrmR_at (v s g) (b : Fin 3) (t : Fin 1024) (n : Fin 2304) :
    nrmR v s g (ix3 b t n) = Ideal.div (v (ix3 b t n)) (s (ix3 b t 0)) * g (ix2 0 n) := by
  pointwise [nrmR]

theorem pay5_eq (v0 v2 v5 v8 v12 v14 v29) : k0_pay5 (F := Ideal) v0 v2 v5 v8 v12 v14 v29 = nrmR (k0_pay4 v0 v2 v5 v8 v12 v14) (rmsR (k0_pay4 v0 v2 v5 v8 v12 v14)) v29 := rfl

theorem pay1_at (v) (ms) (b : Fin 3) (t : Fin 1024) (n : Fin 2304) : k0_pay1 (F := Ideal) v ms (ix3 b t n) = v (ix3 b t n) * (1 + ms (ix3 b 0 n)) := by
  pointwise [k0_pay1]

theorem h2_at (b : Fin 3) (t : Fin 1024) (n : Fin 2304) :
    k0_pay1 (k0_pay5 a0 a2 a1 a3 a4 a5 a6) a7 (ix3 b t n) = WoRow.h2 (tok a0 a1 a2 a3 a4 a5 a6 a7 b t) n := by
  rw [pay1_at, pay5_eq, nrmR_at, rmsR_at]
  simp only [x1_at a0 a1 a2 a3 a4 a5 a6 a7]
  rfl

theorem maxR_at (v : FVec Ideal S3x1024x2304 .f32) (b : Fin 3) (t : Fin 1024) :
    multiReduction .maximumf [2] S3x1024 (absf v) 0xFF800000#32 reduces_S3x1024x2304_S3x1024 (.inl rfl) rfl (ix2 b t)
      = MlpRow.amax fun k : Fin 2304 => v (ix3 b t k) := by
  unfold MlpRow.amax
  pointwise

/-- The scale from the maxima. -/
def scR (a : FVec Ideal S3x1024 .f32) : FVec Ideal S3x1024x1 .f32 :=
  select (cmpf .oeq (shapeCast S3x1024x1 a shapeCasts_S3x1024_S3x1024x1) (broadcast S3x1024x1 (Scalar.ofBits .f32 0x00000000#32))) (broadcast S3x1024x1 (Scalar.ofBits .f32 0x3F800000#32))
    (divf (shapeCast S3x1024x1 a shapeCasts_S3x1024_S3x1024x1) (broadcast S3x1024x1 (Scalar.ofBits .f32 0x43E00000#32)))

theorem scR_at (v) (b : Fin 3) (t : Fin 1024) : scR v (ix3 b t 0) = MlpRow.scaleOf (v (ix2 b t)) := by
  unfold MlpRow.scaleOf
  pointwise [scR]

/-- The codes from the rows and their scales. -/
def codeR (v : FVec Ideal S3x1024x2304 .f32) (a : FVec Ideal S3x1024x1 .f32) : FVec Ideal S3x1024x2304 .fp8e4m3 :=
  truncf .fp8e4m3 (minimumf (broadcast S3x1024x2304 (Scalar.ofBits .f32 0x43E00000#32)) (maximumf (broadcast S3x1024x2304 (Scalar.ofBits .f32 0xC3E00000#32))
    (divf v (broadcastTo S3x1024x2304 a broadcasts_S3x1024x1_S3x1024x2304)))) bitsLt_fp8e4m3_f32

theorem codeR_at (v a) (b : Fin 3) (t : Fin 1024) (k : Fin 2304) :
    codeR v a (ix3 b t k) = MlpRow.clip (Ideal.div (v (ix3 b t k)) (a (ix3 b t 0))) := by
  unfold MlpRow.clip
  pointwise [codeR]

theorem pay2_eq (v ms) : k0_pay2 (F := Ideal) v ms = scR (multiReduction .maximumf [2] S3x1024 (absf (k0_pay1 v ms)) 0xFF800000#32 reduces_S3x1024x2304_S3x1024 (.inl rfl) rfl) := rfl
theorem pay3_eq (v ms) : k0_pay3 (F := Ideal) v ms = codeR (k0_pay1 v ms) (k0_pay2 v ms) := rfl

theorem hsc_at (b : Fin 3) (t : Fin 1024) : k0_pay2 (k0_pay5 a0 a2 a1 a3 a4 a5 a6) a7 (ix3 b t 0) = WoRow.hsc (tok a0 a1 a2 a3 a4 a5 a6 a7 b t) := by
  rw [pay2_eq, scR_at, maxR_at]
  simp only [h2_at a0 a1 a2 a3 a4 a5 a6 a7]
  rfl

theorem hcode_at (b : Fin 3) (t : Fin 1024) (n : Fin 2304) : k0_pay3 (k0_pay5 a0 a2 a1 a3 a4 a5 a6) a7 (ix3 b t n) = WoRow.hcode (tok a0 a1 a2 a3 a4 a5 a6 a7 b t) n := by
  rw [pay3_eq, codeR_at, h2_at a0 a1 a2 a3 a4 a5 a6 a7, hsc_at a0 a1 a2 a3 a4 a5 a6 a7]
  rfl

theorem pay6_eq : k0_pay6 a0 a1 a2 a3 a4 a5 a6 a7 = k0_pay5 a0 a2 a1 a3 a4 a5 a6 := by
  unfold k0_pay6
  rw [View.ld_unit_zero (S := S3x1024x2304) hz0 _ a0, View.ld_unit_zero (S := S2304x2304) hz2 _ a2, View.ld_unit_zero (S := S3x1024x1) hz1 _ a1, View.ld_unit_zero (S := S1x2304) hz3 _ a3, View.ld_unit_zero (S := S3x1024x2304) hz4 _ a4, View.ld_unit_zero (S := S3x1x2304) hz5 _ a5, View.ld_unit_zero (S := S1x2304) hz6 _ a6]

theorem G8_at (b : Fin 3) (t : Fin 1024) (n : Fin 2304) : G8 a0 a1 a2 a3 a4 a5 a6 a7 (ix3 b t n) = WoRow.x1 (tok a0 a1 a2 a3 a4 a5 a6 a7 b t) n := x1_at a0 a1 a2 a3 a4 a5 a6 a7 b t n
theorem G9_at (b : Fin 3) (t : Fin 1024) (n : Fin 2304) : G9 a0 a1 a2 a3 a4 a5 a6 a7 (ix3 b t n) = WoRow.hcode (tok a0 a1 a2 a3 a4 a5 a6 a7 b t) n := by
  show k0_pay3 (k0_pay6 a0 a1 a2 a3 a4 a5 a6 a7) a7 (ix3 b t n) = _
  rw [pay6_eq, hcode_at a0 a1 a2 a3 a4 a5 a6 a7]
theorem G10_at (b : Fin 3) (t : Fin 1024) (n : Fin 1) : G10 a0 a1 a2 a3 a4 a5 a6 a7 (ix3 b t n) = WoRow.hsc (tok a0 a1 a2 a3 a4 a5 a6 a7 b t) := by
  obtain rfl : n = 0 := Subsingleton.elim _ _
  show k0_pay2 (k0_pay6 a0 a1 a2 a3 a4 a5 a6 a7) a7 (ix3 b t 0) = _
  rw [pay6_eq, hsc_at a0 a1 a2 a3 a4 a5 a6 a7]

end Cert.OutRefIdeal.Value
end
-- ==== Proof.WoFinal.lean ====
module
public import proofs.«01_k».proof.Proof.WoOut8
public import proofs.«01_k».proof.Proof.WoOut9
public import proofs.«01_k».proof.Proof.WoOut10
public import proofs.«01_k».proof.Proof.WoRef
@[expose] public section
set_option maxRecDepth 16384
noncomputable section
open Idealize.ShloMosaic Idealize.ShloMosaic.TcCoe Idealize.SL.Sem
open Idealize.ShloMosaic.Pipeline (Dat)

/-! # The result arrays of the output projection

Grid point `t` is batch `t / 4`, block of rows `t % 4`. Every result array is the reference's. -/

namespace Cert.OutIdeal.Value
open Cert.OutIdeal Cert.OutIdeal.Gen

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![t.val / 4, t.val % 4, 0] ∧ win0_5.index t = ![t.val / 4, 0, 0]
    ∧ win0_6.index t = ![0, 0] ∧ win0_7.index t = ![t.val / 4, 0, 0]
    ∧ win0_8.index t = ![t.val / 4, t.val % 4, 0] ∧ win0_9.index t = ![t.val / 4, t.val % 4, 0] ∧ win0_10.index t = ![t.val / 4, t.val % 4, 0] :=
  (by decide +kernel : ∀ t : Fin grid0.N, _)

theorem lt12 (t : Fin cfg0.N) : t.val < 12 := t.isLt

/-- The batch of a grid point, and the token of one of its rows. -/
def batch (t : Fin cfg0.N) : Fin 3 := ⟨t.val / 4, by have := lt12 t; omega⟩
def token (t : Fin cfg0.N) (r : Fin 256) : Fin 1024 := ⟨t.val % 4 * 256 + r, by have := r.isLt; omega⟩

theorem row_eq (c : Dev nD) (t : Fin cfg0.N) (r : Fin 256) :
    rowB (iblk m c 0 t) (iblk m c 1 t) (iblk m c 2 t) (iblk m c 3 t) (iblk m c 4 t) (iblk m c 5 t) (iblk m c 6 t) (iblk m c 7 t) r = Cert.OutRefIdeal.Value.tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) (token t r) := by
  have ht := lt12 t
  simp only [rowB, Cert.OutRefIdeal.Value.tok, WoRow.Row.mk.injEq, batch, token]
  refine ⟨funext fun d => ?_, ?_, funext fun d => funext fun k => ?_, funext fun k => ?_, funext fun n => ?_, funext fun n => ?_, funext fun n => ?_, funext fun n => ?_⟩
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]

theorem outs8 (c : Dev nD) (t : Fin cfg0.N) : (outsAt0 m c t).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) := by dsimp only [outsAt0]

theorem point8 (c : Dev nD) (t : Fin cfg0.N) (r : Fin 256) (n : Fin 2304) :
    (outsAt0 m c t).1 (ix3 0 r n) = Cert.OutRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) (token t r) n) := by
  rw [Cert.OutRefIdeal.Value.G8_at, ← row_eq m c t r]
  rw [outs8, out8_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) r n]

theorem final8 (c : Dev nD) : (dats m 0 c).arrAt 8 cfg0.N = Cert.OutRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht := lt12 t
  have he : ((cfg0.win 8).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_8]
  exact (congrArg (outsAt0 m c t).1 hy).trans (point8 m c t (y 1) (y 2))

theorem outs9 (c : Dev nD) (t : Fin cfg0.N) : (outsAt0 m c t).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) := by dsimp only [outsAt0]

theorem point9 (c : Dev nD) (t : Fin cfg0.N) (r : Fin 256) (n : Fin 2304) :
    (outsAt0 m c t).2.1 (ix3 0 r n) = Cert.OutRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) (token t r) n) := by
  rw [Cert.OutRefIdeal.Value.G9_at, ← row_eq m c t r]
  rw [outs9, out9_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) r n]

theorem final9 (c : Dev nD) : (dats m 0 c).arrAt 9 cfg0.N = Cert.OutRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have ht := lt12 t
  have he : ((cfg0.win 9).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_9]
  exact (congrArg (outsAt0 m c t).2.1 hy).trans (point9 m c t (y 1) (y 2))

theorem outs10 (c : Dev nD) (t : Fin cfg0.N) : (outsAt0 m c t).2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) := by dsimp only [outsAt0]

theorem point10 (c : Dev nD) (t : Fin cfg0.N) (r : Fin 256) (n : Fin 1) :
    (outsAt0 m c t).2.2 (ix3 0 r n) = Cert.OutRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batch t) (token t r) n) := by
  rw [Cert.OutRefIdeal.Value.G10_at, ← row_eq m c t r]
  rw [outs10, out10_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) r n]

theorem final10 (c : Dev nD) : (dats m 0 c).arrAt 10 cfg0.N = Cert.OutRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have ht := lt12 t
  have he : ((cfg0.win 10).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_10]
  exact (congrArg (outsAt0 m c t).2.2 hy).trans (point10 m c t (y 1) (y 2))

end Cert.OutIdeal.Value
end
-- ==== Proof.QkRows.lean ====
module
public import proofs.«01_k».proof.Proof.WoRows
@[expose] public section
set_option maxRecDepth 16384
noncomputable section
open Idealize.ShloMosaic

/-! # One token's row through the query, key and value projection

The heads of a token's row, the normalised and rotated heads, their scales and codes, by coordinates: both programs are
read as these functions. -/

namespace QkRow

/-- The data of one token: its codes and their scale, the weights and theirs, its rotation and the two gains. -/
structure Row where
  h : Fin 2304 → EReal
  hs : EReal
  w : Fin 2304 → Fin 3456 → EReal
  s : Fin 3456 → EReal
  ra : Fin 72 → EReal
  qg : Fin 72 → EReal
  kg : Fin 72 → EReal

variable (R : Row)

/-- The place of column `c` of head `j`. -/
abbrev col (j : Fin 48) (c : Fin 72) : Fin 3456 := ⟨j * 72 + c, by omega⟩

/-- The dequantised projection of the row, and its heads. -/
def lin (n : Fin 3456) : EReal := (∑ d : Fin 2304, R.h d * R.w d n) * R.hs * R.s n
def head (j : Fin 48) (c : Fin 72) : EReal := lin R (col j c)

/-- The places of the query, key and value heads. -/
abbrev qh (j : Fin 32) : Fin 48 := ⟨j, by omega⟩
abbrev kh (j : Fin 8) : Fin 48 := ⟨32 + j, by omega⟩
abbrev vh (j : Fin 8) : Fin 48 := ⟨40 + j, by omega⟩

/-- The mean of a head's squares, with the small constant added, and the root of that. -/
def var (t : Fin 72 → EReal) : EReal := (∑ c : Fin 72, t c * t c) * Ideal.ofBits .f32 0x3C638E39#32 + Ideal.ofBits .f32 0x358637BD#32
def rms (t : Fin 72 → EReal) : EReal := Ideal.sqrt (var t)

/-- The normalised head. -/
def nrm (t g : Fin 72 → EReal) (c : Fin 72) : EReal := Ideal.div (t c) (rms t) * g c

/-- The even and odd member of pair `i`, and the places of its cosine and sine. -/
abbrev ev (i : Fin 36) : Fin 72 := ⟨2 * i, by omega⟩
abbrev od (i : Fin 36) : Fin 72 := ⟨2 * i + 1, by omega⟩
abbrev cs (i : Fin 36) : Fin 72 := ⟨i, by omega⟩
abbrev sn (i : Fin 36) : Fin 72 := ⟨36 + i, by omega⟩

/-- The two members of pair `i` rotated. -/
def rotE (t ra : Fin 72 → EReal) (i : Fin 36) : EReal := t (ev i) * ra (cs i) - t (od i) * ra (sn i)
def rotO (t ra : Fin 72 → EReal) (i : Fin 36) : EReal := t (ev i) * ra (sn i) + t (od i) * ra (cs i)

/-- The rotated head. -/
def rot (t ra : Fin 72 → EReal) (c : Fin 72) : EReal :=
  if (c : ℕ) % 2 = 0 then rotE t ra ⟨c / 2, by omega⟩ else rotO t ra ⟨c / 2, by omega⟩

def q (j : Fin 32) : Fin 72 → EReal := rot (nrm (head R (qh j)) R.qg) R.ra
def k (j : Fin 8) : Fin 72 → EReal := rot (nrm (head R (kh j)) R.kg) R.ra
def v (j : Fin 8) : Fin 72 → EReal := head R (vh j)

/-- A head's scale and codes. -/
def scale (t : Fin 72 → EReal) : EReal := MlpRow.scaleOf (MlpRow.amax t)
def code (t : Fin 72 → EReal) (c : Fin 72) : EReal := MlpRow.clip (Ideal.div (t c) (scale t))

theorem c_nonneg : 0 ≤ Ideal.ofBits .f32 0x3C638E39#32 := by
  simp [Ideal.ofBits, Ideal.ieee, -EReal.coe_mul]

theorem var_pos (t : Fin 72 → EReal) : 0 < var t :=
  lt_of_lt_of_le WoRow.eps_pos (le_add_of_nonneg_left
    (mul_nonneg (Finset.sum_nonneg fun n _ => WoRow.sq_nonneg _) c_nonneg))

/-- Multiplying by the reciprocal of the root is dividing by it. -/
theorem mul_inv (t : Fin 72 → EReal) (x : EReal) : x * Ideal.div 1 (rms t) = Ideal.div x (rms t) := by
  have h : rms t ≠ 0 := WoRow.sqrt_ne_zero (var_pos t)
  simp only [Ideal.div, if_neg h, one_mul]

/-- Adding the product with a negated factor is subtracting the product. -/
theorem sub_eq (a b x : EReal) : a + b * (0 - x) = a - b * x := by
  rw [zero_sub, mul_neg, sub_eq_add_neg]

end QkRow
end
-- ==== Proof.QkBlock.lean ====
module
public import proofs.«01_k».proof.Proof.QkRows
public import proofs.«01_k».proof.Proof.Gen.QkvIdeal.Skeleton
public import Idealize.ShloMosaic.Lib.Pipeline.ValueKit
public import Idealize.ShloMosaic.Lib.Pointwise.Select
@[expose] public section
set_option maxRecDepth 16384
noncomputable section
open Idealize.ShloMosaic Idealize.ShloMosaic.TcCoe Idealize.SL.Sem

/-! # The projection's vector expressions

Each expression that the body repeats for every chunk or head is written once, over any operands, and read at an
index. -/

namespace Cert.QkvIdeal.Value
open Cert.QkvIdeal Cert.QkvIdeal.Gen

/-- A chunk of 256 projected columns, one per row. -/
def yV (x1 : FVec Ideal S1x256x1 .f32) (x0 : FVec Ideal S1x256x2304 .fp8e4m3) (w : FVec Ideal S2304x256 .fp8e4m3) (s : FVec Ideal S1x256 .f32) : FVec Ideal S256x256 .f32 :=
  shapeCast S256x256 (transpose S256x256 [1, 0] (mulf (mulf (matmul dot_S256x2304_S2304x256_S256x256_1_0_0_1_n_n none (shapeCast S256x2304 x0 shapeCasts_S1x256x2304_S256x2304) w (constant S256x256 .f32 0x00000000#32))
    (broadcastTo S256x256 (shapeCast S256x1 x1 shapeCasts_S1x256x1_S256x1) broadcasts_S256x1_S256x256)) (broadcastTo S256x256 s broadcasts_S1x256_S256x256)) transposes_S256x256_p1_0_S256x256) shapeCasts_S256x256_S256x256

/-- The two halves of a head's tokens. -/
def loV (a : FVec Ideal S72x256 .f32) : FVec Ideal S72x128 .f32 := extractStridedSlice S72x128 ![0, 0] a slices_S72x256_o0_0_S72x128
def hiV (a : FVec Ideal S72x256 .f32) : FVec Ideal S72x128 .f32 := extractStridedSlice S72x128 ![0, 128] a slices_S72x256_o0_128_S72x128

/-- The reciprocal of the root of the mean of squares. -/
def invV (t : FVec Ideal S72x128 .f32) : FVec Ideal S1x128 .f32 :=
  divf (broadcast S1x128 (Scalar.ofBits .f32 0x3F800000#32)) (sqrt (addf (mulf (shapeCast S1x128 (multiReduction .add [0] S128 (mulf t t) 0x00000000#32 reduces_S72x128_S128 (.inl rfl) rfl) shapeCasts_S128_S1x128)
    (broadcast S1x128 (Scalar.ofBits .f32 0x3C638E39#32))) (broadcast S1x128 (Scalar.ofBits .f32 0x358637BD#32))))

/-- The normalised half. -/
def nV (t g : FVec Ideal S72x128 .f32) : FVec Ideal S72x128 .f32 :=
  mulf (mulf t (broadcastTo S72x128 (invV t) broadcasts_S1x128_S72x128)) g

/-- Which rows are odd. -/
def oddV : IVec S9x8x128 1 :=
  cmpi .eq (andi (iota .tc S9x8x128 32 [1] iota_S9x8x128_d1_w32) (broadcast S9x8x128 1#32)) (broadcast S9x8x128 1#32)

/-- The half with the members of every pair exchanged. -/
def swV (n : FVec Ideal S72x128 .f32) : FVec Ideal S72x128 .f32 :=
  shapeCast S72x128 (select oddV (dynamicRotate 1 1#32 none (shapeCast S9x8x128 n shapeCasts_S72x128_S9x8x128) rotates_S9x8x128_d1)
    (dynamicRotate 1 7#32 none (shapeCast S9x8x128 n shapeCasts_S72x128_S9x8x128) rotates_S9x8x128_d1)) shapeCasts_S9x8x128_S72x128

/-- The rotated half. -/
def roV (n : FVec Ideal S72x128 .f32) (rc rs : FVec Ideal S1x72x128 .f32) : FVec Ideal S72x128 .f32 :=
  addf (mulf n (shapeCast S72x128 rc shapeCasts_S1x72x128_S72x128)) (mulf (swV n) (shapeCast S72x128 rs shapeCasts_S1x72x128_S72x128))

/-- Two halves side by side. -/
def catV (a b : FVec Ideal S72x128 .f32) : FVec Ideal S72x256 .f32 :=
  concatenate S72x256 1 [⟨S72x128, a⟩, ⟨S72x128, b⟩] concatenates_S72x128_S72x128_S72x256_d1

/-- A head normalised and rotated. -/
def hdV (a : FVec Ideal S72x256 .f32) (g : FVec Ideal S72x128 .f32) (rc0 rs0 rc1 rs1 : FVec Ideal S1x72x128 .f32) : FVec Ideal S72x256 .f32 :=
  catV (roV (nV (loV a) g) rc0 rs0) (roV (nV (hiV a) g) rc1 rs1)

/-- A query head as it is stored. -/
def qV (a : FVec Ideal S72x256 .f32) : FVec Ideal S1x1x72x256 .bf16 :=
  shapeCast S1x1x72x256 (truncf .bf16 a bitsLt_bf16_f32) shapeCasts_S72x256_S1x1x72x256

/-- The scales of a head's columns. -/
def scV (a : FVec Ideal S72x256 .f32) : FVec Ideal S1x256 .f32 :=
  select (cmpf .oeq (shapeCast S1x256 (multiReduction .maximumf [0] S256 (absf a) 0xFF800000#32 reduces_S72x256_S256 (.inl rfl) rfl) shapeCasts_S256_S1x256) (broadcast S1x256 (Scalar.ofBits .f32 0x00000000#32)))
    (broadcast S1x256 (Scalar.ofBits .f32 0x3F800000#32))
    (divf (shapeCast S1x256 (multiReduction .maximumf [0] S256 (absf a) 0xFF800000#32 reduces_S72x256_S256 (.inl rfl) rfl) shapeCasts_S256_S1x256) (broadcast S1x256 (Scalar.ofBits .f32 0x43E00000#32)))
def scStV (a : FVec Ideal S72x256 .f32) : FVec Ideal S1x256 .f32 := shapeCast S1x256 (scV a) shapeCasts_S1x256_S1x256

/-- A head's codes, and as they are stored: tokens in rows, 56 zero columns added. -/
def cdV (sc : FVec Ideal S1x256 .f32) (a : FVec Ideal S72x256 .f32) : FVec Ideal S72x256 .f32 :=
  minimumf (broadcast S72x256 (Scalar.ofBits .f32 0x43E00000#32)) (maximumf (broadcast S72x256 (Scalar.ofBits .f32 0xC3E00000#32)) (divf a (broadcastTo S72x256 sc broadcasts_S1x256_S72x256)))
def padV (a : FVec Ideal S72x256 .f32) : FVec Ideal S256x128 .f32 :=
  shapeCast S256x128 (transpose S256x128 [1, 0] (concatenate S128x256 0 [⟨S72x256, a⟩, ⟨S56x256, broadcast S56x256 (Scalar.sitofp .f32 0#32)⟩] concatenates_S72x256_S56x256_S128x256_d0) transposes_S128x256_p1_0_S256x128) shapeCasts_S256x128_S256x128
def cdStV (a : FVec Ideal S72x256 .f32) : FVec Ideal S256x128 .f32 := padV (cdV (scV a) a)

/-- The gathered codes and scales as they leave the body. -/
def cdOutV (v : FVec Ideal S2048x128 .f32) : FVec Ideal S1x256x8x72 .fp8e4m3 :=
  shapeCast S1x256x8x72 (truncf .fp8e4m3 (extractStridedSlice S256x8x72 ![0, 0, 0] (shapeCast S256x8x128 v shapeCasts_S2048x128_S256x8x128) slices_S256x8x128_o0_0_0_S256x8x72) bitsLt_fp8e4m3_f32) shapeCasts_S256x8x72_S1x256x8x72
def scOutV (v : FVec Ideal S8x256 .f32) : FVec Ideal S1x256x8 .f32 :=
  shapeCast S1x256x8 (transpose S256x8 [1, 0] v transposes_S8x256_p1_0_S256x8) shapeCasts_S256x8_S1x256x8

/-! ## Read at an index -/

theorem yV_at (x1 x0 w s) (k : Fin 256) (r : Fin 256) :
    yV x1 x0 w s (ix2 k r) = (∑ d : Fin 2304, x0 (ix3 0 r d) * w (ix2 d k)) * x1 (ix3 0 r 0) * s (ix2 0 k) := by
  pointwise [yV]

theorem loV_at (a) (c : Fin 72) (l : Fin 128) : loV a (ix2 c l) = a (ix2 c ⟨l, by omega⟩) := by
  pointwise [loV]
theorem hiV_at (a) (c : Fin 72) (l : Fin 128) : hiV a (ix2 c l) = a (ix2 c ⟨128 + l, by omega⟩) := by
  pointwise [hiV]

theorem invV_at (t) (l : Fin 128) : invV t (ix2 0 l) = Ideal.div 1 (QkRow.rms fun c => t (ix2 c l)) := by
  unfold QkRow.rms QkRow.var
  pointwise [invV]

theorem nV_at (t g) (c : Fin 72) (l : Fin 128) : nV t g (ix2 c l) = QkRow.nrm (fun c => t (ix2 c l)) (fun c => g (ix2 c l)) c := by
  have h : nV t g (ix2 c l) = t (ix2 c l) * invV t (ix2 0 l) * g (ix2 c l) := by pointwise [nV]
  rw [h, invV_at, QkRow.mul_inv]; rfl

theorem odd_bit : ∀ k : Fin 8, IntOp.cmpi CmpIPredicate.eq (IntOp.andi (BitVec.ofNat 32 k) 1#32) 1#32 = if (k : ℕ) % 2 = 1 then 1#1 else 0#1 := by
  decide

theorem swV_ev (n) (i : Fin 36) (l : Fin 128) : swV n (ix2 (QkRow.ev i) l) = n (ix2 (QkRow.od i) l) := by
  pointwise [swV, oddV]
  have h := odd_bit ⟨2 * i % 8, by omega⟩
  rw [if_neg (by show ¬ (2 * (i : ℕ) % 8) % 2 = 1; omega)] at h
  exact (congrArg (fun b => Scalar.select b _ _) h).trans (congrArg n (congrArg (fun k => ix2 k l) (Fin.ext (by show 2 * (i : ℕ) / 8 * 8 + (2 * (i : ℕ) % 8 + 8 - 7) % 8 = 2 * i + 1; omega))))

theorem swV_od (n) (i : Fin 36) (l : Fin 128) : swV n (ix2 (QkRow.od i) l) = n (ix2 (QkRow.ev i) l) := by
  pointwise [swV, oddV]
  have h := odd_bit ⟨(2 * i + 1) % 8, by omega⟩
  rw [if_pos (by show ((2 * (i : ℕ) + 1) % 8) % 2 = 1; omega)] at h
  exact (congrArg (fun b => Scalar.select b _ _) h).trans (congrArg n (congrArg (fun k => ix2 k l) (Fin.ext (by show (2 * (i : ℕ) + 1) / 8 * 8 + ((2 * (i : ℕ) + 1) % 8 + 8 - 1) % 8 = 2 * i; omega))))

theorem roV_at (n rc rs) (c : Fin 72) (l : Fin 128) : roV n rc rs (ix2 c l) = n (ix2 c l) * rc (ix3 0 c l) + swV n (ix2 c l) * rs (ix3 0 c l) := by
  pointwise [roV]

theorem catV_at (a b) (c : Fin 72) (r : Fin 256) : catV a b (ix2 c r) = if h : (r : ℕ) < 128 then a (ix2 c ⟨r, h⟩) else b (ix2 c ⟨r - 128, by omega⟩) := by
  pointwise [catV]

/-- A half's rotation, when the two scratch rows hold the cosines, and the sines with the even rows' negated. -/
theorem roV_rot (n rc rs) (l : Fin 128) (ra : Fin 72 → EReal)
    (hce : ∀ i, rc (ix3 0 (QkRow.ev i) l) = ra (QkRow.cs i)) (hco : ∀ i, rc (ix3 0 (QkRow.od i) l) = ra (QkRow.cs i))
    (hse : ∀ i, rs (ix3 0 (QkRow.ev i) l) = 0 - ra (QkRow.sn i)) (hso : ∀ i, rs (ix3 0 (QkRow.od i) l) = ra (QkRow.sn i)) (c : Fin 72) :
    roV n rc rs (ix2 c l) = QkRow.rot (fun c => n (ix2 c l)) ra c := by
  unfold QkRow.rot
  by_cases h : (c : ℕ) % 2 = 0
  · rw [if_pos h]
    obtain ⟨i, hi⟩ : ∃ i : Fin 36, i = ⟨c / 2, by omega⟩ := ⟨_, rfl⟩
    have hc : c = QkRow.ev i := Fin.ext (by show (c : ℕ) = 2 * (i : ℕ); rw [hi]; show (c : ℕ) = 2 * ((c : ℕ) / 2); omega)
    rw [← hi, hc, roV_at, swV_ev, hce, hse, QkRow.sub_eq]; rfl
  · rw [if_neg h]
    obtain ⟨i, hi⟩ : ∃ i : Fin 36, i = ⟨c / 2, by omega⟩ := ⟨_, rfl⟩
    have hc : c = QkRow.od i := Fin.ext (by show (c : ℕ) = 2 * (i : ℕ) + 1; rw [hi]; show (c : ℕ) = 2 * ((c : ℕ) / 2) + 1; omega)
    rw [← hi, hc, roV_at, swV_od, hco, hso, add_comm]; rfl

theorem ro_lo (a g rc rs) (l : Fin 128) (t gg ra : Fin 72 → EReal) (ht : ∀ c, a (ix2 c ⟨l, by omega⟩) = t c) (hg : ∀ c, g (ix2 c l) = gg c)
    (hce : ∀ i, rc (ix3 0 (QkRow.ev i) l) = ra (QkRow.cs i)) (hco : ∀ i, rc (ix3 0 (QkRow.od i) l) = ra (QkRow.cs i))
    (hse : ∀ i, rs (ix3 0 (QkRow.ev i) l) = 0 - ra (QkRow.sn i)) (hso : ∀ i, rs (ix3 0 (QkRow.od i) l) = ra (QkRow.sn i)) (c : Fin 72) :
    roV (nV (loV a) g) rc rs (ix2 c l) = QkRow.rot (QkRow.nrm t gg) ra c := by
  rw [roV_rot _ _ _ l ra hce hco hse hso]
  simp only [nV_at, loV_at, ht, hg]

theorem ro_hi (a g rc rs) (l : Fin 128) (t gg ra : Fin 72 → EReal) (ht : ∀ c, a (ix2 c ⟨128 + l, by omega⟩) = t c) (hg : ∀ c, g (ix2 c l) = gg c)
    (hce : ∀ i, rc (ix3 0 (QkRow.ev i) l) = ra (QkRow.cs i)) (hco : ∀ i, rc (ix3 0 (QkRow.od i) l) = ra (QkRow.cs i))
    (hse : ∀ i, rs (ix3 0 (QkRow.ev i) l) = 0 - ra (QkRow.sn i)) (hso : ∀ i, rs (ix3 0 (QkRow.od i) l) = ra (QkRow.sn i)) (c : Fin 72) :
    roV (nV (hiV a) g) rc rs (ix2 c l) = QkRow.rot (QkRow.nrm t gg) ra c := by
  rw [roV_rot _ _ _ l ra hce hco hse hso]
  simp only [nV_at, hiV_at, ht, hg]

theorem qV_at (a) (c : Fin 72) (r : Fin 256) : qV a (ix4 0 0 c r) = a (ix2 c r) := by
  pointwise [qV]

theorem scV_at (a) (r : Fin 256) : scV a (ix2 0 r) = QkRow.scale fun c => a (ix2 c r) := by
  unfold QkRow.scale MlpRow.scaleOf MlpRow.amax
  pointwise [scV]

theorem scStV_at (a) (r : Fin 256) : scStV a (ix2 0 r) = QkRow.scale fun c => a (ix2 c r) := by
  rw [← scV_at]
  pointwise [scStV]

theorem cdV_at (sc a) (c : Fin 72) (r : Fin 256) : cdV sc a (ix2 c r) = MlpRow.clip (Ideal.div (a (ix2 c r)) (sc (ix2 0 r))) := by
  unfold MlpRow.clip
  pointwise [cdV]

theorem padV_at (a) (c : Fin 128) (r : Fin 256) (h : (c : ℕ) < 72) : padV a (ix2 r c) = a (ix2 ⟨c, h⟩ r) := by
  have e : padV a (ix2 r c) = if h : (c : ℕ) < 72 then a (ix2 ⟨c, h⟩ r) else Scalar.sitofp (F := Ideal) .f32 0#32 := by
    pointwise [padV]
  rw [e, dif_pos h]

theorem cdStV_at (a) (c : Fin 128) (r : Fin 256) (h : (c : ℕ) < 72) : cdStV a (ix2 r c) = QkRow.code (fun c => a (ix2 c r)) ⟨c, h⟩ := by
  unfold cdStV
  rw [padV_at _ _ _ h, cdV_at, scV_at]; rfl

theorem cdOutV_at (v) (r : Fin 256) (j : Fin 8) (c : Fin 72) : cdOutV v (ix4 0 r j c) = v (ix2 ⟨r * 8 + j, by omega⟩ ⟨c, by omega⟩) := by
  pointwise [cdOutV]

theorem scOutV_at (v) (r : Fin 256) (j : Fin 8) : scOutV v (ix3 0 r j) = v (ix2 j r) := by
  pointwise [scOutV]

end Cert.QkvIdeal.Value
end
-- ==== Proof.QkParts.lean ====
module
public import proofs.«01_k».proof.Proof.QkBlock
public import Idealize.ShloMosaic.Lib.Pipeline.ReadBack
@[expose] public section
set_option maxRecDepth 16384
noncomputable section
open Idealize.ShloMosaic Idealize.ShloMosaic.TcCoe Idealize.SL.Sem

/-! # What the body reads back

The projected columns are stored in fourteen chunks, the last of which overlaps the one before; the cosines and sines
in two scratch arrays, even and odd rows apart. Every read of them is read as the row functions. -/

namespace Cert.QkvIdeal.Value
open Cert.QkvIdeal Cert.QkvIdeal.Gen

variable (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32)

/-- Row `r` of the blocks. -/
def rowB (r : Fin 256) : QkRow.Row where
  h d := x0 (ix3 0 r d)
  hs := x1 (ix3 0 r 0)
  w d k := x2 (ix2 d k)
  s k := x3 (ix2 0 k)
  ra k := x4 (ix3 0 r k)
  qg k := x5 (ix2 k ⟨r % 128, by omega⟩)
  kg k := x6 (ix2 k ⟨r % 128, by omega⟩)

/-! ## The chunks -/

theorem ldw_at (o : ℕ) (inb) (d : Fin 2304) (j : Fin 256) (k : Fin 3456) (hk : (k : ℕ) = o + j) :
    View.ld x2 (Rect.unit ![0, o] ![2304, 256] inb) (ix2 d j) = x2 (ix2 d k) :=
  View.ld_unit_apply_of x2 _ _ inb _ _ (by intro a; fin_cases a <;> simp [hk])

theorem lds_at (o : ℕ) (inb) (j : Fin 256) (k : Fin 3456) (hk : (k : ℕ) = o + j) :
    View.ld x3 (Rect.unit ![0, o] ![1, 256] inb) (ix2 0 j) = x3 (ix2 0 k) :=
  View.ld_unit_apply_of x3 _ _ inb _ _ (by intro a; fin_cases a <;> simp [hk])

/-- The chunk at column `o` of the projection. -/
def yP (o : ℕ) (i1 : ∀ a, ![o, 0] a + ![256, 256] a ≤ S3456x256.size a) (i2 : ∀ a, ![0, o] a + ![2304, 256] a ≤ S2304x3456.size a) (i3 : ∀ a, ![0, o] a + ![1, 256] a ≤ S1x3456.size a) :
    View.Piece (Elt Ideal) S3456x256 .f32 :=
  ⟨Rect.unit (s := S3456x256) ![o, 0] ![256, 256] i1, yV x1 x0 (View.ld x2 (Rect.unit (s := S2304x3456) ![0, o] ![2304, 256] i2)) (View.ld x3 (Rect.unit (s := S1x3456) ![0, o] ![1, 256] i3))⟩

/-- All the projected columns. -/
def G14 : S3456x256.Idx → Elt Ideal .f32 := fun y => QkRow.lin (rowB x0 x1 x2 x3 x4 x5 x6 (y 1)) (y 0)

theorem yP_of (o : ℕ) (i1 i2 i3) (x : (yP x0 x1 x2 x3 o i1 i2 i3).1.shape.Idx) :
    (yP x0 x1 x2 x3 o i1 i2 i3).2 x = G14 x0 x1 x2 x3 x4 x5 x6 ((yP x0 x1 x2 x3 o i1 i2 i3).1.emb x) := by
  have hx : x = ix2 (x 0) (x 1) := by funext a; fin_cases a <;> rfl
  have h1 : ((yP x0 x1 x2 x3 o i1 i2 i3).1.emb x) 1 = x 1 := Fin.ext (by show 0 + 1 * (x 1 : ℕ) = x 1; omega)
  have h0 : (((yP x0 x1 x2 x3 o i1 i2 i3).1.emb x) 0 : ℕ) = o + x 0 := by show o + 1 * (x 0 : ℕ) = _; omega
  unfold G14
  rw [h1]
  generalize hk : ((yP x0 x1 x2 x3 o i1 i2 i3).1.emb x) 0 = k at h0
  have := yV_at x1 x0 (View.ld x2 (Rect.unit (s := S2304x3456) ![0, o] ![2304, 256] i2)) (View.ld x3 (Rect.unit (s := S1x3456) ![0, o] ![1, 256] i3)) (x 0) (x 1)
  simp only [ldw_at x2 o i2 _ (x 0) k h0, lds_at x3 o i3 (x 0) k h0] at this
  exact (congrArg (yP x0 x1 x2 x3 o i1 i2 i3).2 hx).trans this

theorem yP_mem (o : ℕ) (i1 i2 i3) (y : S3456x256.Idx) (h : o ≤ (y 0 : ℕ)) (h' : (y 0 : ℕ) < o + 256) : y ∈ (yP x0 x1 x2 x3 o i1 i2 i3).1.set := by
  refine (LoadRect.mem_set _).mpr fun a => ?_
  fin_cases a
  · exact ⟨(y 0 : ℕ) - o, by show (y 0 : ℕ) - o < 256; omega, by show (y 0 : ℕ) = o + 1 * ((y 0 : ℕ) - o); omega⟩
  · exact ⟨(y 1 : ℕ), (y 1).isLt, by show (y 1 : ℕ) = 0 + 1 * (y 1 : ℕ); omega⟩

/-! The lists of the first chunks, the last stored first. -/

def Y0 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 0 inb_S3456x256_S256x256_0_0 inb_S2304x3456_S2304x256_0_0 inb_S1x3456_S1x256_0_0 :: []
def Y1 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 256 inb_S3456x256_S256x256_256_0 inb_S2304x3456_S2304x256_0_256 inb_S1x3456_S1x256_0_256 :: Y0 x0 x1 x2 x3
def Y2 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 512 inb_S3456x256_S256x256_512_0 inb_S2304x3456_S2304x256_0_512 inb_S1x3456_S1x256_0_512 :: Y1 x0 x1 x2 x3
def Y3 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 768 inb_S3456x256_S256x256_768_0 inb_S2304x3456_S2304x256_0_768 inb_S1x3456_S1x256_0_768 :: Y2 x0 x1 x2 x3
def Y4 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 1024 inb_S3456x256_S256x256_1024_0 inb_S2304x3456_S2304x256_0_1024 inb_S1x3456_S1x256_0_1024 :: Y3 x0 x1 x2 x3
def Y5 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 1280 inb_S3456x256_S256x256_1280_0 inb_S2304x3456_S2304x256_0_1280 inb_S1x3456_S1x256_0_1280 :: Y4 x0 x1 x2 x3
def Y6 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 1536 inb_S3456x256_S256x256_1536_0 inb_S2304x3456_S2304x256_0_1536 inb_S1x3456_S1x256_0_1536 :: Y5 x0 x1 x2 x3
def Y7 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 1792 inb_S3456x256_S256x256_1792_0 inb_S2304x3456_S2304x256_0_1792 inb_S1x3456_S1x256_0_1792 :: Y6 x0 x1 x2 x3
def Y8 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 2048 inb_S3456x256_S256x256_2048_0 inb_S2304x3456_S2304x256_0_2048 inb_S1x3456_S1x256_0_2048 :: Y7 x0 x1 x2 x3
def Y9 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 2304 inb_S3456x256_S256x256_2304_0 inb_S2304x3456_S2304x256_0_2304 inb_S1x3456_S1x256_0_2304 :: Y8 x0 x1 x2 x3
def Y10 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 2560 inb_S3456x256_S256x256_2560_0 inb_S2304x3456_S2304x256_0_2560 inb_S1x3456_S1x256_0_2560 :: Y9 x0 x1 x2 x3
def Y11 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 2816 inb_S3456x256_S256x256_2816_0 inb_S2304x3456_S2304x256_0_2816 inb_S1x3456_S1x256_0_2816 :: Y10 x0 x1 x2 x3
def Y12 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 3072 inb_S3456x256_S256x256_3072_0 inb_S2304x3456_S2304x256_0_3072 inb_S1x3456_S1x256_0_3072 :: Y11 x0 x1 x2 x3
def Y13 (x0 : Vec Ideal S1x256x2304 .fp8e4m3) (x1 : Vec Ideal S1x256x1 .f32) (x2 : Vec Ideal S2304x3456 .fp8e4m3) (x3 : Vec Ideal S1x3456 .f32) : List (View.Piece (Elt Ideal) S3456x256 .f32) :=
  yP x0 x1 x2 x3 3200 inb_S3456x256_S256x256_3200_0 inb_S2304x3456_S2304x256_0_3200 inb_S1x3456_S1x256_0_3200 :: Y12 x0 x1 x2 x3

theorem Y0_of : View.PiecesOf (G14 x0 x1 x2 x3 x4 x5 x6) (Y0 x0 x1 x2 x3) := ⟨yP_of x0 x1 x2 x3 x4 x5 x6 0 _ _ _, trivial⟩
theorem Y1_of : View.PiecesOf (G14 x0 x1 x2 x3 x4 x5 x6) (Y1 x0 x1 x2 x3) := ⟨yP_of x0 x1 x2 x3 x4 x5 x6 256 _ _ _, Y0_of x0 x1 x2 x3 x4 x5 x6⟩
theorem Y2_of : View.PiecesOf (G14 x0 x1 x2 x3 x4 x5 x6) (Y2 x0 x1 x2 x3) := ⟨yP_of x0 x1 x2 x3 x4 x5 x6 512 _ _ _, Y1_of x0 x1 x2 x3 x4 x5 x6⟩
theorem Y3_of : View.PiecesOf (G14 x0 x1 x2 x3 x4 x5 x6) (Y3 x0 x1 x2 x3) := ⟨yP_of x0 x1 x2 x3 x4 x5 x6 768 _ _ _, Y2_of x0 x1 x2 x3 x4 x5 x6⟩
theorem Y4_of : View.PiecesOf (G14 x0 x1 x2 x3 x4 x5 x6) (Y4 x0 x1 x2 x3) := ⟨yP_of x0 x1 x2 x3 x4 x5 x6 1024 _ _ _, Y3_of x0 x1 x2 x3 x4 x5 x6⟩
theorem Y5_of : View.PiecesOf (G14 x0 x1 x2 x3 x4 x5 x6) (Y5 x0 x1 x2 x3) := ⟨yP_of x0 x1 x2 x3 x4 x5 x6 1280 _ _ _, Y4_of x0 x1 x2 x3 x4 x5 x6⟩
theorem Y6_of : View.PiecesOf (G14 x0 x1 x2 x3 x4 x5 x6) (Y6 x0 x1 x2 x3) := ⟨yP_of x0 x1 x2 x3 x4 x5 x6 1536 _ _ _, Y5_of x0 x1 x2 x3 x4 x5 x6⟩
theorem Y7_of : View.PiecesOf (G14 x0 x1 x2 x3 x4 x5 x6) (Y7 x0 x1 x2 x3) := ⟨yP_of x0 x1 x2 x3 x4 x5 x6 1792 _ _ _, Y6_of x0 x1 x2 x3 x4 x5 x6⟩
theorem Y8_of : View.PiecesOf (G14 x0 x1 x2 x3 x4 x5 x6) (Y8 x0 x1 x2 x3) := ⟨yP_of x0 x1 x2 x3 x4 x5 x6 2048 _ _ _, Y7_of x0 x1 x2 x3 x4 x5 x6⟩
theorem Y9_of : View.PiecesOf (G14 x0 x1 x2 x3 x4 x5 x6) (Y9 x0 x1 x2 x3) := ⟨yP_of x0 x1 x2 x3 x4 x5 x6 2304 _ _ _, Y8_of x0 x1 x2 x3 x4 x5 x6⟩
theorem Y10_of : View.PiecesOf (G14 x0 x1 x2 x3 x4 x5 x6) (Y10 x0 x1 x2 x3) := ⟨yP_of x0 x1 x2 x3 x4 x5 x6 2560 _ _ _, Y9_of x0 x1 x2 x3 x4 x5 x6⟩
theorem Y11_of : View.PiecesOf (G14 x0 x1 x2 x3 x4 x5 x6) (Y11 x0 x1 x2 x3) := ⟨yP_of x0 x1 x2 x3 x4 x5 x6 2816 _ _ _, Y10_of x0 x1 x2 x3 x4 x5 x6⟩
theorem Y12_of : View.PiecesOf (G14 x0 x1 x2 x3 x4 x5 x6) (Y12 x0 x1 x2 x3) := ⟨yP_of x0 x1 x2 x3 x4 x5 x6 3072 _ _ _, Y11_of x0 x1 x2 x3 x4 x5 x6⟩
theorem Y13_of : View.PiecesOf (G14 x0 x1 x2 x3 x4 x5 x6) (Y13 x0 x1 x2 x3) := ⟨yP_of x0 x1 x2 x3 x4 x5 x6 3200 _ _ _, Y12_of x0 x1 x2 x3 x4 x5 x6⟩

theorem Y0_cov (y : S3456x256.Idx) (h : (y 0 : ℕ) < 256) : ∃ p ∈ Y0 x0 x1 x2 x3, y ∈ p.1.set := by
  exact ⟨_, List.mem_cons_self, yP_mem x0 x1 x2 x3 0 _ _ _ y (by omega) (by omega)⟩
theorem Y1_cov (y : S3456x256.Idx) (h : (y 0 : ℕ) < 512) : ∃ p ∈ Y1 x0 x1 x2 x3, y ∈ p.1.set := by
  by_cases h' : (y 0 : ℕ) < 256
  · obtain ⟨p, hp, hy⟩ := Y0_cov x0 x1 x2 x3 y h'
    exact ⟨p, List.mem_cons_of_mem _ hp, hy⟩
  · exact ⟨_, List.mem_cons_self, yP_mem x0 x1 x2 x3 256 _ _ _ y (by omega) (by omega)⟩
theorem Y2_cov (y : S3456x256.Idx) (h : (y 0 : ℕ) < 768) : ∃ p ∈ Y2 x0 x1 x2 x3, y ∈ p.1.set := by
  by_cases h' : (y 0 : ℕ) < 512
  · obtain ⟨p, hp, hy⟩ := Y1_cov x0 x1 x2 x3 y h'
    exact ⟨p, List.mem_cons_of_mem _ hp, hy⟩
  · exact ⟨_, List.mem_cons_self, yP_mem x0 x1 x2 x3 512 _ _ _ y (by omega) (by omega)⟩
theorem Y3_cov (y : S3456x256.Idx) (h : (y 0 : ℕ) < 1024) : ∃ p ∈ Y3 x0 x1 x2 x3, y ∈ p.1.set := by
  by_cases h' : (y 0 : ℕ) < 768
  · obtain ⟨p, hp, hy⟩ := Y2_cov x0 x1 x2 x3 y h'
    exact ⟨p, List.mem_cons_of_mem _ hp, hy⟩
  · exact ⟨_, List.mem_cons_self, yP_mem x0 x1 x2 x3 768 _ _ _ y (by omega) (by omega)⟩
theorem Y4_cov (y : S3456x256.Idx) (h : (y 0 : ℕ) < 1280) : ∃ p ∈ Y4 x0 x1 x2 x3, y ∈ p.1.set := by
  by_cases h' : (y 0 : ℕ) < 1024
  · obtain ⟨p, hp, hy⟩ := Y3_cov x0 x1 x2 x3 y h'
    exact ⟨p, List.mem_cons_of_mem _ hp, hy⟩
  · exact ⟨_, List.mem_cons_self, yP_mem x0 x1 x2 x3 1024 _ _ _ y (by omega) (by omega)⟩
theorem Y5_cov (y : S3456x256.Idx) (h : (y 0 : ℕ) < 1536) : ∃ p ∈ Y5 x0 x1 x2 x3, y ∈ p.1.set := by
  by_cases h' : (y 0 : ℕ) < 1280
  · obtain ⟨p, hp, hy⟩ := Y4_cov x0 x1 x2 x3 y h'
    exact ⟨p, List.mem_cons_of_mem _ hp, hy⟩
  · exact ⟨_, List.mem_cons_self, yP_mem x0 x1 x2 x3 1280 _ _ _ y (by omega) (by omega)⟩
theorem Y6_cov (y : S3456x256.Idx) (h : (y 0 : ℕ) < 1792) : ∃ p ∈ Y6 x0 x1 x2 x3, y ∈ p.1.set := by
  by_cases h' : (y 0 : ℕ) < 1536
  · obtain ⟨p, hp, hy⟩ := Y5_cov x0 x1 x2 x3 y h'
    exact ⟨p, List.mem_cons_of_mem _ hp, hy⟩
  · exact ⟨_, List.mem_cons_self, yP_mem x0 x1 x2 x3 1536 _ _ _ y (by omega) (by omega)⟩
theorem Y7_cov (y : S3456x256.Idx) (h : (y 0 : ℕ) < 2048) : ∃ p ∈ Y7 x0 x1 x2 x3, y ∈ p.1.set := by
  by_cases h' : (y 0 : ℕ) < 1792
  · obtain ⟨p, hp, hy⟩ := Y6_cov x0 x1 x2 x3 y h'
    exact ⟨p, List.mem_cons_of_mem _ hp, hy⟩
  · exact ⟨_, List.mem_cons_self, yP_mem x0 x1 x2 x3 1792 _ _ _ y (by omega) (by omega)⟩
theorem Y8_cov (y : S3456x256.Idx) (h : (y 0 : ℕ) < 2304) : ∃ p ∈ Y8 x0 x1 x2 x3, y ∈ p.1.set := by
  by_cases h' : (y 0 : ℕ) < 2048
  · obtain ⟨p, hp, hy⟩ := Y7_cov x0 x1 x2 x3 y h'
    exact ⟨p, List.mem_cons_of_mem _ hp, hy⟩
  · exact ⟨_, List.mem_cons_self, yP_mem x0 x1 x2 x3 2048 _ _ _ y (by omega) (by omega)⟩
theorem Y9_cov (y : S3456x256.Idx) (h : (y 0 : ℕ) < 2560) : ∃ p ∈ Y9 x0 x1 x2 x3, y ∈ p.1.set := by
  by_cases h' : (y 0 : ℕ) < 2304
  · obtain ⟨p, hp, hy⟩ := Y8_cov x0 x1 x2 x3 y h'
    exact ⟨p, List.mem_cons_of_mem _ hp, hy⟩
  · exact ⟨_, List.mem_cons_self, yP_mem x0 x1 x2 x3 2304 _ _ _ y (by omega) (by omega)⟩
theorem Y10_cov (y : S3456x256.Idx) (h : (y 0 : ℕ) < 2816) : ∃ p ∈ Y10 x0 x1 x2 x3, y ∈ p.1.set := by
  by_cases h' : (y 0 : ℕ) < 2560
  · obtain ⟨p, hp, hy⟩ := Y9_cov x0 x1 x2 x3 y h'
    exact ⟨p, List.mem_cons_of_mem _ hp, hy⟩
  · exact ⟨_, List.mem_cons_self, yP_mem x0 x1 x2 x3 2560 _ _ _ y (by omega) (by omega)⟩
theorem Y11_cov (y : S3456x256.Idx) (h : (y 0 : ℕ) < 3072) : ∃ p ∈ Y11 x0 x1 x2 x3, y ∈ p.1.set := by
  by_cases h' : (y 0 : ℕ) < 2816
  · obtain ⟨p, hp, hy⟩ := Y10_cov x0 x1 x2 x3 y h'
    exact ⟨p, List.mem_cons_of_mem _ hp, hy⟩
  · exact ⟨_, List.mem_cons_self, yP_mem x0 x1 x2 x3 2816 _ _ _ y (by omega) (by omega)⟩
theorem Y12_cov (y : S3456x256.Idx) (h : (y 0 : ℕ) < 3328) : ∃ p ∈ Y12 x0 x1 x2 x3, y ∈ p.1.set := by
  by_cases h' : (y 0 : ℕ) < 3072
  · obtain ⟨p, hp, hy⟩ := Y11_cov x0 x1 x2 x3 y h'
    exact ⟨p, List.mem_cons_of_mem _ hp, hy⟩
  · exact ⟨_, List.mem_cons_self, yP_mem x0 x1 x2 x3 3072 _ _ _ y (by omega) (by omega)⟩
theorem Y13_cov (y : S3456x256.Idx) (h : (y 0 : ℕ) < 3456) : ∃ p ∈ Y13 x0 x1 x2 x3, y ∈ p.1.set := by
  by_cases h' : (y 0 : ℕ) < 3328
  · obtain ⟨p, hp, hy⟩ := Y12_cov x0 x1 x2 x3 y h'
    exact ⟨p, List.mem_cons_of_mem _ hp, hy⟩
  · exact ⟨_, List.mem_cons_self, yP_mem x0 x1 x2 x3 3200 _ _ _ y (by omega) (by omega)⟩

/-- A head read back. -/
def hdR (arg14 : Memref sig .tc .vmem S3456x256 .f32) (L : List (View.Piece (Elt Ideal) S3456x256 .f32)) (o : ℕ) (inb : ∀ a, ![o, 0] a + ![72, 256] a ≤ S3456x256.size a) : Vec Ideal S72x256 .f32 :=
  arg14.view.readCov L (Rect.unit (s := S3456x256) ![o, 0] ![72, 256] inb).toLoadRect

theorem hdR_at (arg14 : Memref sig .tc .vmem S3456x256 .f32) (L : List (View.Piece (Elt Ideal) S3456x256 .f32)) (n : ℕ) (hL : View.PiecesOf (G14 x0 x1 x2 x3 x4 x5 x6) L)
    (hc : ∀ y : S3456x256.Idx, (y 0 : ℕ) < n → ∃ p ∈ L, y ∈ p.1.set) (hd : Fin 48) (o : ℕ) (ho : hd * 72 = o) (hn : o + 72 ≤ n) (inb) (c : Fin 72) (r : Fin 256) :
    hdR arg14 L o inb (ix2 c r) = QkRow.head (rowB x0 x1 x2 x3 x4 x5 x6 r) hd c := by
  unfold hdR
  rw [View.readCov_eq_canon']
  have hx : (Rect.unit (s := S3456x256) ![o, 0] ![72, 256] inb).toLoadRect.idx (ix2 c r) = ix2 (QkRow.col hd c) r := by
    funext a; fin_cases a
    · exact Fin.ext (by show o + 1 * (c : ℕ) = hd * 72 + c; omega)
    · exact Fin.ext (by show 0 + 1 * (r : ℕ) = r; omega)
  refine (congrArg (View.canon L) hx).trans ((View.canon_apply_of_pieces (G14 x0 x1 x2 x3 x4 x5 x6) L hL.mem _ (hc _ ?_)).trans rfl)
  show hd * 72 + (c : ℕ) < n
  omega

/-! ## The cosines and sines -/

theorem pay9_at (i : Fin 36) (l : Fin 128) : k0_pay9 x4 (ix3 0 i l) = x4 (ix3 0 ⟨l, by omega⟩ (QkRow.cs i)) := by pointwise [k0_pay9, k0_pay7, k0_pay6]
theorem pay10_at (i : Fin 36) (l : Fin 128) : k0_pay10 x4 (ix3 0 i l) = x4 (ix3 0 ⟨l, by omega⟩ (QkRow.cs i)) := by pointwise [k0_pay10, k0_pay7, k0_pay6]
theorem pay15_at (i : Fin 36) (l : Fin 128) : k0_pay15 x4 (ix3 0 i l) = x4 (ix3 0 ⟨128 + l, by omega⟩ (QkRow.cs i)) := by pointwise [k0_pay15, k0_pay13, k0_pay6]
theorem pay16_at (i : Fin 36) (l : Fin 128) : k0_pay16 (k0_pay13 x4) (ix3 0 i l) = x4 (ix3 0 ⟨128 + l, by omega⟩ (QkRow.cs i)) := by pointwise [k0_pay16, k0_pay13, k0_pay6]
theorem pay11_at (i : Fin 36) (l : Fin 128) : k0_pay11 x4 (ix3 0 i l) = 0 - x4 (ix3 0 ⟨l, by omega⟩ (QkRow.sn i)) := by pointwise [k0_pay11, k0_pay8, k0_pay6]
theorem pay12_at (i : Fin 36) (l : Fin 128) : k0_pay12 x4 (ix3 0 i l) = x4 (ix3 0 ⟨l, by omega⟩ (QkRow.sn i)) := by pointwise [k0_pay12, k0_pay8, k0_pay6]
theorem pay17_at (i : Fin 36) (l : Fin 128) : k0_pay17 (k0_pay14 x4) (ix3 0 i l) = 0 - x4 (ix3 0 ⟨128 + l, by omega⟩ (QkRow.sn i)) := by pointwise [k0_pay17, k0_pay14, k0_pay6]
theorem pay18_at (i : Fin 36) (l : Fin 128) : k0_pay18 (k0_pay14 x4) (ix3 0 i l) = x4 (ix3 0 ⟨128 + l, by omega⟩ (QkRow.sn i)) := by pointwise [k0_pay18, k0_pay14, k0_pay6]

/-- Every second row, from row `e`, of half `p`. -/
def rP (p e : ℕ) (inb : ∀ a, (![1, 36, 128] : Fin 3 → ℕ) a = 0 ∨ (![p, e, 0] : Fin 3 → ℕ) a + (![1, 2, 1] : Fin 3 → ℕ) a * ((![1, 36, 128] : Fin 3 → ℕ) a - 1) < S2x72x128.size a) (V : FVec Ideal S1x36x128 .f32) : View.Piece (Elt Ideal) S2x72x128 .f32 :=
  ⟨⟨⟨![p, e, 0], ![1, 36, 128], ![1, 2, 1], inb⟩, spos_1_2_1⟩, V⟩

theorem rP_of (G : S2x72x128.Idx → Elt Ideal .f32) (p e : Fin 2) (inb) (V : FVec Ideal S1x36x128 .f32)
    (h : ∀ (i : Fin 36) (l : Fin 128), V (ix3 0 i l) = G (ix3 p ⟨e + 2 * i, by omega⟩ l)) (x : (rP p e inb V).1.shape.Idx) :
    (rP p e inb V).2 x = G ((rP p e inb V).1.emb x) := by
  have hx : x = ix3 0 (x 1) (x 2) := by
    funext a; fin_cases a
    · exact Subsingleton.elim (α := Fin 1) _ _
    · rfl
    · rfl
  have hy : (rP p e inb V).1.emb x = ix3 p ⟨e + 2 * (x 1 : ℕ), by have : (x 1 : ℕ) < 36 := (x 1).isLt; omega⟩ (x 2) := by
    have h0 : (x 0 : ℕ) < 1 := (x 0).isLt
    funext a; fin_cases a
    · exact Fin.ext (by show (p : ℕ) + 1 * (x 0 : ℕ) = p; omega)
    · exact Fin.ext (by show (e : ℕ) + 2 * (x 1 : ℕ) = _; rfl)
    · exact Fin.ext (by show 0 + 1 * (x 2 : ℕ) = x 2; omega)
  exact (congrArg V hx).trans ((h (x 1) (x 2)).trans (congrArg G hy.symm))

theorem rP_mem (p e : ℕ) (inb) (V) (y : S2x72x128.Idx) (h : (y 0 : ℕ) = p) (he : e < 2) (h' : (y 1 : ℕ) % 2 = e) : y ∈ (rP p e inb V).1.set := by
  have h1 : (y 1 : ℕ) < 72 := (y 1).isLt
  refine (LoadRect.mem_set _).mpr fun a => ?_
  fin_cases a
  · exact ⟨0, by show 0 < 1; omega, by show (y 0 : ℕ) = p + 1 * 0; omega⟩
  · exact ⟨(y 1 : ℕ) / 2, by show (y 1 : ℕ) / 2 < 36; omega, by show (y 1 : ℕ) = e + 2 * ((y 1 : ℕ) / 2); omega⟩
  · exact ⟨(y 2 : ℕ), (y 2).isLt, by show (y 2 : ℕ) = 0 + 1 * (y 2 : ℕ); omega⟩

/-- The four stores of a scratch array, the last first. -/
def rL (a b c d : FVec Ideal S1x36x128 .f32) : List (View.Piece (Elt Ideal) S2x72x128 .f32) :=
  [rP 1 1 inb_S2x72x128_S1x36x128_1_1_0_s_1_2_1 a, rP 1 0 inb_S2x72x128_S1x36x128_1_0_0_s_1_2_1 b,
    rP 0 1 inb_S2x72x128_S1x36x128_0_1_0_s_1_2_1 c, rP 0 0 inb_S2x72x128_S1x36x128_0_0_0_s_1_2_1 d]

theorem rL_cov (a b c d) (y : S2x72x128.Idx) : ∃ p ∈ rL a b c d, y ∈ p.1.set := by
  have h0 : (y 0 : ℕ) < 2 := (y 0).isLt
  by_cases h : (y 0 : ℕ) = 0 <;> by_cases h' : (y 1 : ℕ) % 2 = 0
  · exact ⟨rP 0 0 _ d, List.mem_cons_of_mem _ (List.mem_cons_of_mem _ (List.mem_cons_of_mem _ List.mem_cons_self)), rP_mem 0 0 _ d y h (by omega) h'⟩
  · exact ⟨rP 0 1 _ c, List.mem_cons_of_mem _ (List.mem_cons_of_mem _ List.mem_cons_self), rP_mem 0 1 _ c y h (by omega) (by omega)⟩
  · exact ⟨rP 1 0 _ b, List.mem_cons_of_mem _ List.mem_cons_self, rP_mem 1 0 _ b y (by omega) (by omega) h'⟩
  · exact ⟨rP 1 1 _ a, List.mem_cons_self, rP_mem 1 1 _ a y (by omega) (by omega) (by omega)⟩

/-- Half `p` of a scratch array read back. -/
def rR (arg : Memref sig .tc .vmem S2x72x128 .f32) (a b c d : FVec Ideal S1x36x128 .f32) (p : ℕ) (inb : ∀ a, (![p, 0, 0] : Fin 3 → ℕ) a + (![1, 72, 128] : Fin 3 → ℕ) a ≤ S2x72x128.size a) : Vec Ideal S1x72x128 .f32 :=
  arg.view.readCov (rL a b c d) (Rect.unit (s := S2x72x128) ![p, 0, 0] ![1, 72, 128] inb).toLoadRect

theorem rR_at (G : S2x72x128.Idx → Elt Ideal .f32) (arg : Memref sig .tc .vmem S2x72x128 .f32) (a b c d) (hG : View.PiecesOf G (rL a b c d)) (p : Fin 2) (inb) (k : Fin 72) (l : Fin 128) :
    rR arg a b c d p inb (ix3 0 k l) = G (ix3 p k l) := by
  unfold rR
  rw [View.readCov_eq_canon']
  have hx : (Rect.unit (s := S2x72x128) ![(p : ℕ), 0, 0] ![1, 72, 128] inb).toLoadRect.idx (ix3 0 k l) = ix3 p k l := by
    funext a; fin_cases a
    · exact Fin.ext (by show (p : ℕ) + 1 * 0 = p; omega)
    · exact Fin.ext (by show 0 + 1 * (k : ℕ) = k; omega)
    · exact Fin.ext (by show 0 + 1 * (l : ℕ) = l; omega)
  exact (congrArg (View.canon (rL a b c d)) hx).trans (View.canon_apply_of_pieces G _ hG.mem _ (rL_cov a b c d _))

def G15 : S2x72x128.Idx → Elt Ideal .f32 := fun y =>
  x4 (ix3 0 ⟨128 * (y 0 : ℕ) + (y 2 : ℕ), by have : (y 0 : ℕ) < 2 := (y 0).isLt; have : (y 2 : ℕ) < 128 := (y 2).isLt; omega⟩ ⟨(y 1 : ℕ) / 2, by have : (y 1 : ℕ) < 72 := (y 1).isLt; omega⟩)
def S16 : S2x72x128.Idx → Elt Ideal .f32 := fun y =>
  x4 (ix3 0 ⟨128 * (y 0 : ℕ) + (y 2 : ℕ), by have : (y 0 : ℕ) < 2 := (y 0).isLt; have : (y 2 : ℕ) < 128 := (y 2).isLt; omega⟩ ⟨36 + (y 1 : ℕ) / 2, by have : (y 1 : ℕ) < 72 := (y 1).isLt; omega⟩)
def G16 : S2x72x128.Idx → Elt Ideal .f32 := fun y => if (y 1 : ℕ) % 2 = 0 then 0 - S16 x4 y else S16 x4 y

theorem cos_at (p : Fin 2) (e : Fin 2) (i : Fin 36) (l : Fin 128) (r : Fin 256) (hr : (r : ℕ) = 128 * p + l) :
    G15 x4 (ix3 p ⟨e + 2 * i, by omega⟩ l) = x4 (ix3 0 r (QkRow.cs i)) :=
  congrArg₂ (fun a b => x4 (ix3 0 a b)) (Fin.ext hr.symm) (Fin.ext (by show ((e : ℕ) + 2 * i) / 2 = i; omega))
theorem sin_at (p : Fin 2) (e : Fin 2) (i : Fin 36) (l : Fin 128) (r : Fin 256) (hr : (r : ℕ) = 128 * p + l) :
    S16 x4 (ix3 p ⟨e + 2 * i, by omega⟩ l) = x4 (ix3 0 r (QkRow.sn i)) :=
  congrArg₂ (fun a b => x4 (ix3 0 a b)) (Fin.ext hr.symm) (Fin.ext (by show 36 + ((e : ℕ) + 2 * i) / 2 = 36 + i; omega))
theorem sinE_at (p : Fin 2) (i : Fin 36) (l : Fin 128) (r : Fin 256) (hr : (r : ℕ) = 128 * p + l) :
    G16 x4 (ix3 p ⟨(0 : Fin 2) + 2 * i, by omega⟩ l) = 0 - x4 (ix3 0 r (QkRow.sn i)) := by
  unfold G16
  rw [if_pos (by show (0 + 2 * (i : ℕ)) % 2 = 0; omega), sin_at x4 p 0 i l r hr]
theorem sinO_at (p : Fin 2) (i : Fin 36) (l : Fin 128) (r : Fin 256) (hr : (r : ℕ) = 128 * p + l) :
    G16 x4 (ix3 p ⟨(1 : Fin 2) + 2 * i, by omega⟩ l) = x4 (ix3 0 r (QkRow.sn i)) := by
  unfold G16
  rw [if_neg (by show ¬ (1 + 2 * (i : ℕ)) % 2 = 0; omega), sin_at x4 p 1 i l r hr]

theorem cos_of : View.PiecesOf (G15 x4) (rL (k0_pay16 (k0_pay13 x4)) (k0_pay15 x4) (k0_pay10 x4) (k0_pay9 x4)) :=
  ⟨rP_of (G15 x4) 1 1 _ _ fun i l => (pay16_at x4 i l).trans (cos_at x4 1 1 i l _ rfl).symm,
   rP_of (G15 x4) 1 0 _ _ fun i l => (pay15_at x4 i l).trans (cos_at x4 1 0 i l _ rfl).symm,
   rP_of (G15 x4) 0 1 _ _ fun i l => (pay10_at x4 i l).trans (cos_at x4 0 1 i l _ (by show (l : ℕ) = 128 * 0 + l; omega)).symm,
   rP_of (G15 x4) 0 0 _ _ fun i l => (pay9_at x4 i l).trans (cos_at x4 0 0 i l _ (by show (l : ℕ) = 128 * 0 + l; omega)).symm, trivial⟩

theorem sin_of : View.PiecesOf (G16 x4) (rL (k0_pay18 (k0_pay14 x4)) (k0_pay17 (k0_pay14 x4)) (k0_pay12 x4) (k0_pay11 x4)) :=
  ⟨rP_of (G16 x4) 1 1 _ _ fun i l => (pay18_at x4 i l).trans (sinO_at x4 1 i l _ rfl).symm,
   rP_of (G16 x4) 1 0 _ _ fun i l => (pay17_at x4 i l).trans (sinE_at x4 1 i l _ rfl).symm,
   rP_of (G16 x4) 0 1 _ _ fun i l => (pay12_at x4 i l).trans (sinO_at x4 0 i l _ (by show (l : ℕ) = 128 * 0 + l; omega)).symm,
   rP_of (G16 x4) 0 0 _ _ fun i l => (pay11_at x4 i l).trans (sinE_at x4 0 i l _ (by show (l : ℕ) = 128 * 0 + l; omega)).symm, trivial⟩

/-- A half's cosines and sines read back. -/
def cR (arg15 : Memref sig .tc .vmem S2x72x128 .f32) (x4 : Vec Ideal S1x256x72 .f32) (p : ℕ) (inb : ∀ a, (![p, 0, 0] : Fin 3 → ℕ) a + (![1, 72, 128] : Fin 3 → ℕ) a ≤ S2x72x128.size a) : Vec Ideal S1x72x128 .f32 :=
  rR arg15 (k0_pay16 (k0_pay13 x4)) (k0_pay15 x4) (k0_pay10 x4) (k0_pay9 x4) p inb
def sR (arg16 : Memref sig .tc .vmem S2x72x128 .f32) (x4 : Vec Ideal S1x256x72 .f32) (p : ℕ) (inb : ∀ a, (![p, 0, 0] : Fin 3 → ℕ) a + (![1, 72, 128] : Fin 3 → ℕ) a ≤ S2x72x128.size a) : Vec Ideal S1x72x128 .f32 :=
  rR arg16 (k0_pay18 (k0_pay14 x4)) (k0_pay17 (k0_pay14 x4)) (k0_pay12 x4) (k0_pay11 x4) p inb

/-- A head normalised and rotated with what the scratch arrays hold. -/
def roR (arg15 arg16 : Memref sig .tc .vmem S2x72x128 .f32) (x4 : Vec Ideal S1x256x72 .f32) (g : Vec Ideal S72x128 .f32) (a : Vec Ideal S72x256 .f32) : Vec Ideal S72x256 .f32 :=
  hdV a g (cR arg15 x4 0 inb_S2x72x128_S1x72x128_0_0_0) (sR arg16 x4 0 inb_S2x72x128_S1x72x128_0_0_0)
    (cR arg15 x4 1 inb_S2x72x128_S1x72x128_1_0_0) (sR arg16 x4 1 inb_S2x72x128_S1x72x128_1_0_0)

theorem ev_eq (i : Fin 36) : QkRow.ev i = ⟨(0 : Fin 2) + 2 * i, by omega⟩ := Fin.ext (by show 2 * (i : ℕ) = 0 + 2 * i; omega)
theorem od_eq (i : Fin 36) : QkRow.od i = ⟨(1 : Fin 2) + 2 * i, by omega⟩ := Fin.ext (by show 2 * (i : ℕ) + 1 = 1 + 2 * i; omega)

theorem cR_ev (arg15) (p : Fin 2) (inb) (i : Fin 36) (l : Fin 128) (r : Fin 256) (hr : (r : ℕ) = 128 * p + l) : cR arg15 x4 p inb (ix3 0 (QkRow.ev i) l) = x4 (ix3 0 r (QkRow.cs i)) := by
  unfold cR; rw [rR_at (G15 x4) _ _ _ _ _ (cos_of x4), ev_eq]; exact cos_at x4 p 0 i l r hr
theorem cR_od (arg15) (p : Fin 2) (inb) (i : Fin 36) (l : Fin 128) (r : Fin 256) (hr : (r : ℕ) = 128 * p + l) : cR arg15 x4 p inb (ix3 0 (QkRow.od i) l) = x4 (ix3 0 r (QkRow.cs i)) := by
  unfold cR; rw [rR_at (G15 x4) _ _ _ _ _ (cos_of x4), od_eq]; exact cos_at x4 p 1 i l r hr
theorem sR_ev (arg16) (p : Fin 2) (inb) (i : Fin 36) (l : Fin 128) (r : Fin 256) (hr : (r : ℕ) = 128 * p + l) : sR arg16 x4 p inb (ix3 0 (QkRow.ev i) l) = 0 - x4 (ix3 0 r (QkRow.sn i)) := by
  unfold sR; rw [rR_at (G16 x4) _ _ _ _ _ (sin_of x4), ev_eq]; exact sinE_at x4 p i l r hr
theorem sR_od (arg16) (p : Fin 2) (inb) (i : Fin 36) (l : Fin 128) (r : Fin 256) (hr : (r : ℕ) = 128 * p + l) : sR arg16 x4 p inb (ix3 0 (QkRow.od i) l) = x4 (ix3 0 r (QkRow.sn i)) := by
  unfold sR; rw [rR_at (G16 x4) _ _ _ _ _ (sin_of x4), od_eq]; exact sinO_at x4 p i l r hr

theorem roR_at (arg15 arg16) (g) (a : Vec Ideal S72x256 .f32) (c : Fin 72) (r : Fin 256) :
    roR arg15 arg16 x4 g a (ix2 c r) = QkRow.rot (QkRow.nrm (fun c => a (ix2 c r)) (fun c => g (ix2 c ⟨r % 128, by omega⟩))) (fun k => x4 (ix3 0 r k)) c := by
  unfold roR hdV
  rw [catV_at]
  by_cases h : (r : ℕ) < 128
  · have hm : (⟨r % 128, by omega⟩ : Fin 128) = ⟨r, h⟩ := Fin.ext (Nat.mod_eq_of_lt h)
    have hr : (r : ℕ) = 128 * (0 : Fin 2) + (⟨r, h⟩ : Fin 128) := by show (r : ℕ) = 128 * 0 + r; omega
    rw [dif_pos h, hm]
    exact ro_lo a g _ _ ⟨r, h⟩ (fun c => a (ix2 c r)) (fun c => g (ix2 c ⟨r, h⟩)) (fun k => x4 (ix3 0 r k)) (fun c => rfl) (fun c => rfl)
      (fun i => cR_ev x4 arg15 0 _ i _ r hr) (fun i => cR_od x4 arg15 0 _ i _ r hr) (fun i => sR_ev x4 arg16 0 _ i _ r hr) (fun i => sR_od x4 arg16 0 _ i _ r hr) c
  · have hm : (⟨r % 128, by omega⟩ : Fin 128) = ⟨r - 128, by omega⟩ := Fin.ext (by show (r : ℕ) % 128 = r - 128; omega)
    have hr : (r : ℕ) = 128 * (1 : Fin 2) + (⟨r - 128, by omega⟩ : Fin 128) := by show (r : ℕ) = 128 * 1 + (r - 128); omega
    rw [dif_neg h, hm]
    exact ro_hi a g _ _ ⟨r - 128, by omega⟩ (fun c => a (ix2 c r)) (fun c => g (ix2 c ⟨r - 128, by omega⟩)) (fun k => x4 (ix3 0 r k))
      (fun c => congrArg a (congrArg (ix2 c) (Fin.ext (by show 128 + ((r : ℕ) - 128) = r; omega)))) (fun c => rfl)
      (fun i => cR_ev x4 arg15 1 _ i _ r hr) (fun i => cR_od x4 arg15 1 _ i _ r hr) (fun i => sR_ev x4 arg16 1 _ i _ r hr) (fun i => sR_od x4 arg16 1 _ i _ r hr) c

end Cert.QkvIdeal.Value
end
-- ==== Proof.QkPieces.lean ====
module
public import proofs.«01_k».proof.Proof.QkParts
public import proofs.«01_k».proof.Proof.Gen.QkvIdeal.Value
@[expose] public section
set_option maxRecDepth 65536
noncomputable section
open Idealize.ShloMosaic Idealize.ShloMosaic.TcCoe Idealize.SL.Sem
open Idealize.ShloMosaic.Pipeline (Dat)

/-! # What a grid point stores, head by head

The query heads go to a result block one by one. The key and value heads' codes go to every eighth row of a scratch
array, and their scales to its rows; both are read back whole. Each list of stores is over any heads. -/

namespace Cert.QkvIdeal.Value
open Cert.QkvIdeal Cert.QkvIdeal.Gen

/-! ## The query heads -/

def qP (h : ℕ) (inb : ∀ a, (![0, h, 0, 0] : Fin 4 → ℕ) a + (![1, 1, 72, 256] : Fin 4 → ℕ) a ≤ S1x32x72x256.size a) (V : FVec Ideal S1x1x72x256 .bf16) : View.Piece (Elt Ideal) S1x32x72x256 .bf16 :=
  ⟨Rect.unit (s := S1x32x72x256) ![0, h, 0, 0] ![1, 1, 72, 256] inb, V⟩

def GQ (a : Fin 32 → Vec Ideal S72x256 .f32) : S1x32x72x256.Idx → Elt Ideal .bf16 := fun y => qV (a (y 1)) (ix4 0 0 (y 2) (y 3))

theorem qP_of (a : Fin 32 → Vec Ideal S72x256 .f32) (j : Fin 32) (inb) (x : (qP j inb (qV (a j))).1.shape.Idx) :
    (qP j inb (qV (a j))).2 x = GQ a ((qP j inb (qV (a j))).1.emb x) := by
  have hx : x = ix4 0 0 (x 2) (x 3) := by
    funext a; fin_cases a
    · exact Subsingleton.elim (α := Fin 1) _ _
    · exact Subsingleton.elim (α := Fin 1) _ _
    · rfl
    · rfl
  have hy : (qP j inb (qV (a j))).1.emb x = ix4 0 j (x 2) (x 3) := by
    have h0 : (x 0 : ℕ) < 1 := (x 0).isLt
    have h1 : (x 1 : ℕ) < 1 := (x 1).isLt
    funext a; fin_cases a
    · exact Fin.ext (by show 0 + 1 * (x 0 : ℕ) = 0; omega)
    · exact Fin.ext (by show (j : ℕ) + 1 * (x 1 : ℕ) = j; omega)
    · exact Fin.ext (by show 0 + 1 * (x 2 : ℕ) = x 2; omega)
    · exact Fin.ext (by show 0 + 1 * (x 3 : ℕ) = x 3; omega)
  exact (congrArg (qV (a j)) hx).trans (congrArg (GQ a) hy.symm)

theorem qP_mem (j : ℕ) (inb V) (y : S1x32x72x256.Idx) (h : (y 1 : ℕ) = j) : y ∈ (qP j inb V).1.set := by
  refine (LoadRect.mem_set _).mpr fun a => ?_
  have h0 : (y 0 : ℕ) < 1 := (y 0).isLt
  fin_cases a
  · exact ⟨0, by show 0 < 1; omega, by show (y 0 : ℕ) = 0 + 1 * 0; omega⟩
  · exact ⟨0, by show 0 < 1; omega, by show (y 1 : ℕ) = j + 1 * 0; omega⟩
  · exact ⟨(y 2 : ℕ), (y 2).isLt, by show (y 2 : ℕ) = 0 + 1 * (y 2 : ℕ); omega⟩
  · exact ⟨(y 3 : ℕ), (y 3).isLt, by show (y 3 : ℕ) = 0 + 1 * (y 3 : ℕ); omega⟩

/-- The stores of the query heads, the last first. -/
def qL (a : Fin 32 → Vec Ideal S72x256 .f32) : List (View.Piece (Elt Ideal) S1x32x72x256 .bf16) :=
  [qP 31 inb_S1x32x72x256_S1x1x72x256_0_31_0_0 (qV (a 31)),
    qP 30 inb_S1x32x72x256_S1x1x72x256_0_30_0_0 (qV (a 30)),
    qP 29 inb_S1x32x72x256_S1x1x72x256_0_29_0_0 (qV (a 29)),
    qP 28 inb_S1x32x72x256_S1x1x72x256_0_28_0_0 (qV (a 28)),
    qP 27 inb_S1x32x72x256_S1x1x72x256_0_27_0_0 (qV (a 27)),
    qP 26 inb_S1x32x72x256_S1x1x72x256_0_26_0_0 (qV (a 26)),
    qP 25 inb_S1x32x72x256_S1x1x72x256_0_25_0_0 (qV (a 25)),
    qP 24 inb_S1x32x72x256_S1x1x72x256_0_24_0_0 (qV (a 24)),
    qP 23 inb_S1x32x72x256_S1x1x72x256_0_23_0_0 (qV (a 23)),
    qP 22 inb_S1x32x72x256_S1x1x72x256_0_22_0_0 (qV (a 22)),
    qP 21 inb_S1x32x72x256_S1x1x72x256_0_21_0_0 (qV (a 21)),
    qP 20 inb_S1x32x72x256_S1x1x72x256_0_20_0_0 (qV (a 20)),
    qP 19 inb_S1x32x72x256_S1x1x72x256_0_19_0_0 (qV (a 19)),
    qP 18 inb_S1x32x72x256_S1x1x72x256_0_18_0_0 (qV (a 18)),
    qP 17 inb_S1x32x72x256_S1x1x72x256_0_17_0_0 (qV (a 17)),
    qP 16 inb_S1x32x72x256_S1x1x72x256_0_16_0_0 (qV (a 16)),
    qP 15 inb_S1x32x72x256_S1x1x72x256_0_15_0_0 (qV (a 15)),
    qP 14 inb_S1x32x72x256_S1x1x72x256_0_14_0_0 (qV (a 14)),
    qP 13 inb_S1x32x72x256_S1x1x72x256_0_13_0_0 (qV (a 13)),
    qP 12 inb_S1x32x72x256_S1x1x72x256_0_12_0_0 (qV (a 12)),
    qP 11 inb_S1x32x72x256_S1x1x72x256_0_11_0_0 (qV (a 11)),
    qP 10 inb_S1x32x72x256_S1x1x72x256_0_10_0_0 (qV (a 10)),
    qP 9 inb_S1x32x72x256_S1x1x72x256_0_9_0_0 (qV (a 9)),
    qP 8 inb_S1x32x72x256_S1x1x72x256_0_8_0_0 (qV (a 8)),
    qP 7 inb_S1x32x72x256_S1x1x72x256_0_7_0_0 (qV (a 7)),
    qP 6 inb_S1x32x72x256_S1x1x72x256_0_6_0_0 (qV (a 6)),
    qP 5 inb_S1x32x72x256_S1x1x72x256_0_5_0_0 (qV (a 5)),
    qP 4 inb_S1x32x72x256_S1x1x72x256_0_4_0_0 (qV (a 4)),
    qP 3 inb_S1x32x72x256_S1x1x72x256_0_3_0_0 (qV (a 3)),
    qP 2 inb_S1x32x72x256_S1x1x72x256_0_2_0_0 (qV (a 2)),
    qP 1 inb_S1x32x72x256_S1x1x72x256_0_1_0_0 (qV (a 1)),
    qP 0 inb_S1x32x72x256_S1x1x72x256_0_0_0_0 (qV (a 0))]

theorem qL_of (a) : View.PiecesOf (GQ a) (qL a) :=
  ⟨qP_of a 31 _,
   qP_of a 30 _,
   qP_of a 29 _,
   qP_of a 28 _,
   qP_of a 27 _,
   qP_of a 26 _,
   qP_of a 25 _,
   qP_of a 24 _,
   qP_of a 23 _,
   qP_of a 22 _,
   qP_of a 21 _,
   qP_of a 20 _,
   qP_of a 19 _,
   qP_of a 18 _,
   qP_of a 17 _,
   qP_of a 16 _,
   qP_of a 15 _,
   qP_of a 14 _,
   qP_of a 13 _,
   qP_of a 12 _,
   qP_of a 11 _,
   qP_of a 10 _,
   qP_of a 9 _,
   qP_of a 8 _,
   qP_of a 7 _,
   qP_of a 6 _,
   qP_of a 5 _,
   qP_of a 4 _,
   qP_of a 3 _,
   qP_of a 2 _,
   qP_of a 1 _,
   qP_of a 0 _, trivial⟩

theorem qL_cov (a) (y : S1x32x72x256.Idx) : ∃ p ∈ qL a, y ∈ p.1.set := by
  have h : (y 1 : ℕ) < 32 := (y 1).isLt
  generalize hj : (y 1 : ℕ) = j at h
  interval_cases j
  · exact ⟨qP 0 inb_S1x32x72x256_S1x1x72x256_0_0_0_0 (qV (a 0)), List.mem_of_getElem? (l := qL a) (i := 31) rfl, qP_mem 0 _ _ y hj⟩
  · exact ⟨qP 1 inb_S1x32x72x256_S1x1x72x256_0_1_0_0 (qV (a 1)), List.mem_of_getElem? (l := qL a) (i := 30) rfl, qP_mem 1 _ _ y hj⟩
  · exact ⟨qP 2 inb_S1x32x72x256_S1x1x72x256_0_2_0_0 (qV (a 2)), List.mem_of_getElem? (l := qL a) (i := 29) rfl, qP_mem 2 _ _ y hj⟩
  · exact ⟨qP 3 inb_S1x32x72x256_S1x1x72x256_0_3_0_0 (qV (a 3)), List.mem_of_getElem? (l := qL a) (i := 28) rfl, qP_mem 3 _ _ y hj⟩
  · exact ⟨qP 4 inb_S1x32x72x256_S1x1x72x256_0_4_0_0 (qV (a 4)), List.mem_of_getElem? (l := qL a) (i := 27) rfl, qP_mem 4 _ _ y hj⟩
  · exact ⟨qP 5 inb_S1x32x72x256_S1x1x72x256_0_5_0_0 (qV (a 5)), List.mem_of_getElem? (l := qL a) (i := 26) rfl, qP_mem 5 _ _ y hj⟩
  · exact ⟨qP 6 inb_S1x32x72x256_S1x1x72x256_0_6_0_0 (qV (a 6)), List.mem_of_getElem? (l := qL a) (i := 25) rfl, qP_mem 6 _ _ y hj⟩
  · exact ⟨qP 7 inb_S1x32x72x256_S1x1x72x256_0_7_0_0 (qV (a 7)), List.mem_of_getElem? (l := qL a) (i := 24) rfl, qP_mem 7 _ _ y hj⟩
  · exact ⟨qP 8 inb_S1x32x72x256_S1x1x72x256_0_8_0_0 (qV (a 8)), List.mem_of_getElem? (l := qL a) (i := 23) rfl, qP_mem 8 _ _ y hj⟩
  · exact ⟨qP 9 inb_S1x32x72x256_S1x1x72x256_0_9_0_0 (qV (a 9)), List.mem_of_getElem? (l := qL a) (i := 22) rfl, qP_mem 9 _ _ y hj⟩
  · exact ⟨qP 10 inb_S1x32x72x256_S1x1x72x256_0_10_0_0 (qV (a 10)), List.mem_of_getElem? (l := qL a) (i := 21) rfl, qP_mem 10 _ _ y hj⟩
  · exact ⟨qP 11 inb_S1x32x72x256_S1x1x72x256_0_11_0_0 (qV (a 11)), List.mem_of_getElem? (l := qL a) (i := 20) rfl, qP_mem 11 _ _ y hj⟩
  · exact ⟨qP 12 inb_S1x32x72x256_S1x1x72x256_0_12_0_0 (qV (a 12)), List.mem_of_getElem? (l := qL a) (i := 19) rfl, qP_mem 12 _ _ y hj⟩
  · exact ⟨qP 13 inb_S1x32x72x256_S1x1x72x256_0_13_0_0 (qV (a 13)), List.mem_of_getElem? (l := qL a) (i := 18) rfl, qP_mem 13 _ _ y hj⟩
  · exact ⟨qP 14 inb_S1x32x72x256_S1x1x72x256_0_14_0_0 (qV (a 14)), List.mem_of_getElem? (l := qL a) (i := 17) rfl, qP_mem 14 _ _ y hj⟩
  · exact ⟨qP 15 inb_S1x32x72x256_S1x1x72x256_0_15_0_0 (qV (a 15)), List.mem_of_getElem? (l := qL a) (i := 16) rfl, qP_mem 15 _ _ y hj⟩
  · exact ⟨qP 16 inb_S1x32x72x256_S1x1x72x256_0_16_0_0 (qV (a 16)), List.mem_of_getElem? (l := qL a) (i := 15) rfl, qP_mem 16 _ _ y hj⟩
  · exact ⟨qP 17 inb_S1x32x72x256_S1x1x72x256_0_17_0_0 (qV (a 17)), List.mem_of_getElem? (l := qL a) (i := 14) rfl, qP_mem 17 _ _ y hj⟩
  · exact ⟨qP 18 inb_S1x32x72x256_S1x1x72x256_0_18_0_0 (qV (a 18)), List.mem_of_getElem? (l := qL a) (i := 13) rfl, qP_mem 18 _ _ y hj⟩
  · exact ⟨qP 19 inb_S1x32x72x256_S1x1x72x256_0_19_0_0 (qV (a 19)), List.mem_of_getElem? (l := qL a) (i := 12) rfl, qP_mem 19 _ _ y hj⟩
  · exact ⟨qP 20 inb_S1x32x72x256_S1x1x72x256_0_20_0_0 (qV (a 20)), List.mem_of_getElem? (l := qL a) (i := 11) rfl, qP_mem 20 _ _ y hj⟩
  · exact ⟨qP 21 inb_S1x32x72x256_S1x1x72x256_0_21_0_0 (qV (a 21)), List.mem_of_getElem? (l := qL a) (i := 10) rfl, qP_mem 21 _ _ y hj⟩
  · exact ⟨qP 22 inb_S1x32x72x256_S1x1x72x256_0_22_0_0 (qV (a 22)), List.mem_of_getElem? (l := qL a) (i := 9) rfl, qP_mem 22 _ _ y hj⟩
  · exact ⟨qP 23 inb_S1x32x72x256_S1x1x72x256_0_23_0_0 (qV (a 23)), List.mem_of_getElem? (l := qL a) (i := 8) rfl, qP_mem 23 _ _ y hj⟩
  · exact ⟨qP 24 inb_S1x32x72x256_S1x1x72x256_0_24_0_0 (qV (a 24)), List.mem_of_getElem? (l := qL a) (i := 7) rfl, qP_mem 24 _ _ y hj⟩
  · exact ⟨qP 25 inb_S1x32x72x256_S1x1x72x256_0_25_0_0 (qV (a 25)), List.mem_of_getElem? (l := qL a) (i := 6) rfl, qP_mem 25 _ _ y hj⟩
  · exact ⟨qP 26 inb_S1x32x72x256_S1x1x72x256_0_26_0_0 (qV (a 26)), List.mem_of_getElem? (l := qL a) (i := 5) rfl, qP_mem 26 _ _ y hj⟩
  · exact ⟨qP 27 inb_S1x32x72x256_S1x1x72x256_0_27_0_0 (qV (a 27)), List.mem_of_getElem? (l := qL a) (i := 4) rfl, qP_mem 27 _ _ y hj⟩
  · exact ⟨qP 28 inb_S1x32x72x256_S1x1x72x256_0_28_0_0 (qV (a 28)), List.mem_of_getElem? (l := qL a) (i := 3) rfl, qP_mem 28 _ _ y hj⟩
  · exact ⟨qP 29 inb_S1x32x72x256_S1x1x72x256_0_29_0_0 (qV (a 29)), List.mem_of_getElem? (l := qL a) (i := 2) rfl, qP_mem 29 _ _ y hj⟩
  · exact ⟨qP 30 inb_S1x32x72x256_S1x1x72x256_0_30_0_0 (qV (a 30)), List.mem_of_getElem? (l := qL a) (i := 1) rfl, qP_mem 30 _ _ y hj⟩
  · exact ⟨qP 31 inb_S1x32x72x256_S1x1x72x256_0_31_0_0 (qV (a 31)), List.mem_of_getElem? (l := qL a) (i := 0) rfl, qP_mem 31 _ _ y hj⟩

theorem q_canon (a : Fin 32 → Vec Ideal S72x256 .f32) (j : Fin 32) (c : Fin 72) (r : Fin 256) : View.canon (qL a) (ix4 0 j c r) = a j (ix2 c r) :=
  (View.canon_apply_of_pieces (GQ a) (qL a) (qL_of a).mem _ (qL_cov a _)).trans (qV_at (a j) c r)

/-! ## The codes -/

def kP (h : ℕ) (inb : ∀ a, (![256, 128] : Fin 2 → ℕ) a = 0 ∨ (![h, 0] : Fin 2 → ℕ) a + (![8, 1] : Fin 2 → ℕ) a * ((![256, 128] : Fin 2 → ℕ) a - 1) < S2048x128.size a) (V : FVec Ideal S256x128 .f32) : View.Piece (Elt Ideal) S2048x128 .f32 :=
  ⟨⟨⟨![h, 0], ![256, 128], ![8, 1], inb⟩, spos_8_1⟩, V⟩

def GK (a : Fin 8 → Vec Ideal S72x256 .f32) : S2048x128.Idx → Elt Ideal .f32 := fun y =>
  cdStV (a ⟨(y 0 : ℕ) % 8, by omega⟩) (ix2 ⟨(y 0 : ℕ) / 8, by have : (y 0 : ℕ) < 2048 := (y 0).isLt; omega⟩ (y 1))

theorem GK_at (a) (j : Fin 8) (r : Fin 256) (c : Fin 128) : GK a (ix2 ⟨j + 8 * r, by omega⟩ c) = cdStV (a j) (ix2 r c) := by
  have h1 : (⟨((j : ℕ) + 8 * r) % 8, by omega⟩ : Fin 8) = j := Fin.ext (by show ((j : ℕ) + 8 * r) % 8 = j; omega)
  have h2 : (⟨((j : ℕ) + 8 * r) / 8, by omega⟩ : Fin 256) = r := Fin.ext (by show ((j : ℕ) + 8 * r) / 8 = r; omega)
  exact congrArg₂ (fun u v => cdStV (a u) (ix2 v c)) h1 h2

theorem kP_of (a : Fin 8 → Vec Ideal S72x256 .f32) (j : Fin 8) (inb) (x : (kP j inb (cdStV (a j))).1.shape.Idx) :
    (kP j inb (cdStV (a j))).2 x = GK a ((kP j inb (cdStV (a j))).1.emb x) := by
  have hx : x = ix2 (x 0) (x 1) := by funext a; fin_cases a <;> rfl
  have hy : (kP j inb (cdStV (a j))).1.emb x = ix2 ⟨j + 8 * (x 0 : ℕ), by have : (x 0 : ℕ) < 256 := (x 0).isLt; omega⟩ (x 1) := by
    funext a; fin_cases a
    · exact Fin.ext (by show (j : ℕ) + 8 * (x 0 : ℕ) = _; rfl)
    · exact Fin.ext (by show 0 + 1 * (x 1 : ℕ) = x 1; omega)
  exact (congrArg (cdStV (a j)) hx).trans ((GK_at a j (x 0) (x 1)).symm.trans (congrArg (GK a) hy.symm))

theorem kP_mem (j : ℕ) (inb V) (y : S2048x128.Idx) (h : (y 0 : ℕ) % 8 = j) : y ∈ (kP j inb V).1.set := by
  refine (LoadRect.mem_set _).mpr fun a => ?_
  have h0 : (y 0 : ℕ) < 2048 := (y 0).isLt
  fin_cases a
  · exact ⟨(y 0 : ℕ) / 8, by show (y 0 : ℕ) / 8 < 256; omega, by show (y 0 : ℕ) = j + 8 * ((y 0 : ℕ) / 8); omega⟩
  · exact ⟨(y 1 : ℕ), (y 1).isLt, by show (y 1 : ℕ) = 0 + 1 * (y 1 : ℕ); omega⟩

/-- The stores of eight heads' codes, the last first. -/
def kL (a : Fin 8 → Vec Ideal S72x256 .f32) : List (View.Piece (Elt Ideal) S2048x128 .f32) :=
  [kP 7 inb_S2048x128_S256x128_7_0_s_8_1 (cdStV (a 7)),
    kP 6 inb_S2048x128_S256x128_6_0_s_8_1 (cdStV (a 6)),
    kP 5 inb_S2048x128_S256x128_5_0_s_8_1 (cdStV (a 5)),
    kP 4 inb_S2048x128_S256x128_4_0_s_8_1 (cdStV (a 4)),
    kP 3 inb_S2048x128_S256x128_3_0_s_8_1 (cdStV (a 3)),
    kP 2 inb_S2048x128_S256x128_2_0_s_8_1 (cdStV (a 2)),
    kP 1 inb_S2048x128_S256x128_1_0_s_8_1 (cdStV (a 1)),
    kP 0 inb_S2048x128_S256x128_0_0_s_8_1 (cdStV (a 0))]

theorem kL_of (a) : View.PiecesOf (GK a) (kL a) :=
  ⟨kP_of a 7 _,
   kP_of a 6 _,
   kP_of a 5 _,
   kP_of a 4 _,
   kP_of a 3 _,
   kP_of a 2 _,
   kP_of a 1 _,
   kP_of a 0 _, trivial⟩

theorem kL_cov (a) (y : S2048x128.Idx) : ∃ p ∈ kL a, y ∈ p.1.set := by
  have h : (y 0 : ℕ) % 8 < 8 := by omega
  generalize hj : (y 0 : ℕ) % 8 = j at h
  interval_cases j
  · exact ⟨kP 0 inb_S2048x128_S256x128_0_0_s_8_1 (cdStV (a 0)), List.mem_of_getElem? (l := kL a) (i := 7) rfl, kP_mem 0 _ _ y hj⟩
  · exact ⟨kP 1 inb_S2048x128_S256x128_1_0_s_8_1 (cdStV (a 1)), List.mem_of_getElem? (l := kL a) (i := 6) rfl, kP_mem 1 _ _ y hj⟩
  · exact ⟨kP 2 inb_S2048x128_S256x128_2_0_s_8_1 (cdStV (a 2)), List.mem_of_getElem? (l := kL a) (i := 5) rfl, kP_mem 2 _ _ y hj⟩
  · exact ⟨kP 3 inb_S2048x128_S256x128_3_0_s_8_1 (cdStV (a 3)), List.mem_of_getElem? (l := kL a) (i := 4) rfl, kP_mem 3 _ _ y hj⟩
  · exact ⟨kP 4 inb_S2048x128_S256x128_4_0_s_8_1 (cdStV (a 4)), List.mem_of_getElem? (l := kL a) (i := 3) rfl, kP_mem 4 _ _ y hj⟩
  · exact ⟨kP 5 inb_S2048x128_S256x128_5_0_s_8_1 (cdStV (a 5)), List.mem_of_getElem? (l := kL a) (i := 2) rfl, kP_mem 5 _ _ y hj⟩
  · exact ⟨kP 6 inb_S2048x128_S256x128_6_0_s_8_1 (cdStV (a 6)), List.mem_of_getElem? (l := kL a) (i := 1) rfl, kP_mem 6 _ _ y hj⟩
  · exact ⟨kP 7 inb_S2048x128_S256x128_7_0_s_8_1 (cdStV (a 7)), List.mem_of_getElem? (l := kL a) (i := 0) rfl, kP_mem 7 _ _ y hj⟩

/-- All the codes read back. -/
def kRd (arg17 : Memref sig .tc .vmem S2048x128 .f32) (a : Fin 8 → Vec Ideal S72x256 .f32) : Vec Ideal S2048x128 .f32 :=
  arg17.view.readCov (kL a) (Rect.unit (s := S2048x128) ![0, 0] S2048x128.size inb_S2048x128_S2048x128_0_0).toLoadRect

theorem kRd_at (arg17) (a) (r : Fin 256) (j : Fin 8) (c : Fin 72) : cdOutV (kRd arg17 a) (ix4 0 r j c) = QkRow.code (fun c => a j (ix2 c r)) c := by
  rw [cdOutV_at]
  unfold kRd
  rw [View.readCov_eq_canon']
  have hx : (Rect.unit (s := S2048x128) ![0, 0] S2048x128.size inb_S2048x128_S2048x128_0_0).toLoadRect.idx (ix2 ⟨r * 8 + j, by omega⟩ ⟨c, by omega⟩) = ix2 ⟨j + 8 * r, by omega⟩ ⟨c, by omega⟩ := by
    funext a; fin_cases a
    · exact Fin.ext (by show 0 + 1 * ((r : ℕ) * 8 + j) = j + 8 * r; omega)
    · exact Fin.ext (by show 0 + 1 * (c : ℕ) = c; omega)
  exact (congrArg (View.canon (kL a)) hx).trans ((View.canon_apply_of_pieces (GK a) (kL a) (kL_of a).mem _ (kL_cov a _)).trans
    ((GK_at a j r ⟨c, by omega⟩).trans (cdStV_at (a j) ⟨c, by omega⟩ r c.isLt)))

/-! ## The scales -/

def sP (h : ℕ) (inb : ∀ a, (![h, 0] : Fin 2 → ℕ) a + (![1, 256] : Fin 2 → ℕ) a ≤ S8x256.size a) (V : FVec Ideal S1x256 .f32) : View.Piece (Elt Ideal) S8x256 .f32 :=
  ⟨Rect.unit (s := S8x256) ![h, 0] ![1, 256] inb, V⟩

def GS (a : Fin 8 → Vec Ideal S72x256 .f32) : S8x256.Idx → Elt Ideal .f32 := fun y => scStV (a (y 0)) (ix2 0 (y 1))

theorem sP_of (a : Fin 8 → Vec Ideal S72x256 .f32) (j : Fin 8) (inb) (x : (sP j inb (scStV (a j))).1.shape.Idx) :
    (sP j inb (scStV (a j))).2 x = GS a ((sP j inb (scStV (a j))).1.emb x) := by
  have hx : x = ix2 0 (x 1) := by
    funext a; fin_cases a
    · exact Subsingleton.elim (α := Fin 1) _ _
    · rfl
  have hy : (sP j inb (scStV (a j))).1.emb x = ix2 j (x 1) := by
    have h0 : (x 0 : ℕ) < 1 := (x 0).isLt
    funext a; fin_cases a
    · exact Fin.ext (by show (j : ℕ) + 1 * (x 0 : ℕ) = j; omega)
    · exact Fin.ext (by show 0 + 1 * (x 1 : ℕ) = x 1; omega)
  exact (congrArg (scStV (a j)) hx).trans (congrArg (GS a) hy.symm)

theorem sP_mem (j : ℕ) (inb V) (y : S8x256.Idx) (h : (y 0 : ℕ) = j) : y ∈ (sP j inb V).1.set := by
  refine (LoadRect.mem_set _).mpr fun a => ?_
  fin_cases a
  · exact ⟨0, by show 0 < 1; omega, by show (y 0 : ℕ) = j + 1 * 0; omega⟩
  · exact ⟨(y 1 : ℕ), (y 1).isLt, by show (y 1 : ℕ) = 0 + 1 * (y 1 : ℕ); omega⟩

/-- The stores of eight heads' scales, the last first. -/
def sL (a : Fin 8 → Vec Ideal S72x256 .f32) : List (View.Piece (Elt Ideal) S8x256 .f32) :=
  [sP 7 inb_S8x256_S1x256_7_0 (scStV (a 7)),
    sP 6 inb_S8x256_S1x256_6_0 (scStV (a 6)),
    sP 5 inb_S8x256_S1x256_5_0 (scStV (a 5)),
    sP 4 inb_S8x256_S1x256_4_0 (scStV (a 4)),
    sP 3 inb_S8x256_S1x256_3_0 (scStV (a 3)),
    sP 2 inb_S8x256_S1x256_2_0 (scStV (a 2)),
    sP 1 inb_S8x256_S1x256_1_0 (scStV (a 1)),
    sP 0 inb_S8x256_S1x256_0_0 (scStV (a 0))]

theorem sL_of (a) : View.PiecesOf (GS a) (sL a) :=
  ⟨sP_of a 7 _,
   sP_of a 6 _,
   sP_of a 5 _,
   sP_of a 4 _,
   sP_of a 3 _,
   sP_of a 2 _,
   sP_of a 1 _,
   sP_of a 0 _, trivial⟩

theorem sL_cov (a) (y : S8x256.Idx) : ∃ p ∈ sL a, y ∈ p.1.set := by
  have h : (y 0 : ℕ) < 8 := (y 0).isLt
  generalize hj : (y 0 : ℕ) = j at h
  interval_cases j
  · exact ⟨sP 0 inb_S8x256_S1x256_0_0 (scStV (a 0)), List.mem_of_getElem? (l := sL a) (i := 7) rfl, sP_mem 0 _ _ y hj⟩
  · exact ⟨sP 1 inb_S8x256_S1x256_1_0 (scStV (a 1)), List.mem_of_getElem? (l := sL a) (i := 6) rfl, sP_mem 1 _ _ y hj⟩
  · exact ⟨sP 2 inb_S8x256_S1x256_2_0 (scStV (a 2)), List.mem_of_getElem? (l := sL a) (i := 5) rfl, sP_mem 2 _ _ y hj⟩
  · exact ⟨sP 3 inb_S8x256_S1x256_3_0 (scStV (a 3)), List.mem_of_getElem? (l := sL a) (i := 4) rfl, sP_mem 3 _ _ y hj⟩
  · exact ⟨sP 4 inb_S8x256_S1x256_4_0 (scStV (a 4)), List.mem_of_getElem? (l := sL a) (i := 3) rfl, sP_mem 4 _ _ y hj⟩
  · exact ⟨sP 5 inb_S8x256_S1x256_5_0 (scStV (a 5)), List.mem_of_getElem? (l := sL a) (i := 2) rfl, sP_mem 5 _ _ y hj⟩
  · exact ⟨sP 6 inb_S8x256_S1x256_6_0 (scStV (a 6)), List.mem_of_getElem? (l := sL a) (i := 1) rfl, sP_mem 6 _ _ y hj⟩
  · exact ⟨sP 7 inb_S8x256_S1x256_7_0 (scStV (a 7)), List.mem_of_getElem? (l := sL a) (i := 0) rfl, sP_mem 7 _ _ y hj⟩

/-- All the scales read back. -/
def sRd (arg19 : Memref sig .tc .vmem S8x256 .f32) (a : Fin 8 → Vec Ideal S72x256 .f32) : Vec Ideal S8x256 .f32 :=
  arg19.view.readCov (sL a) (Rect.unit (s := S8x256) ![0, 0] S8x256.size inb_S8x256_S8x256_0_0).toLoadRect

theorem sRd_at (arg19) (a) (r : Fin 256) (j : Fin 8) : scOutV (sRd arg19 a) (ix3 0 r j) = QkRow.scale (fun c => a j (ix2 c r)) := by
  rw [scOutV_at]
  unfold sRd
  rw [View.readCov_eq_canon']
  have hx : (Rect.unit (s := S8x256) ![0, 0] S8x256.size inb_S8x256_S8x256_0_0).toLoadRect.idx (ix2 j r) = ix2 j r := by
    funext a; fin_cases a
    · exact Fin.ext (by show 0 + 1 * (j : ℕ) = j; omega)
    · exact Fin.ext (by show 0 + 1 * (r : ℕ) = r; omega)
  exact (congrArg (View.canon (sL a)) hx).trans ((View.canon_apply_of_pieces (GS a) (sL a) (sL_of a).mem _ (sL_cov a _)).trans (scStV_at (a j) r))

/-! ## The heads themselves -/

/-- The query heads rotated, the key heads rotated, and the value heads, as read back from the projection. -/
def qA (arg14 : Memref sig .tc .vmem S3456x256 .f32) (arg15 arg16 : Memref sig .tc .vmem S2x72x128 .f32) (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) : Fin 32 → Vec Ideal S72x256 .f32 :=
  ![roR arg15 arg16 x4 x5 (hdR arg14 (Y0 x0 x1 x2 x3) 0 inb_S3456x256_S72x256_0_0),
    roR arg15 arg16 x4 x5 (hdR arg14 (Y0 x0 x1 x2 x3) 72 inb_S3456x256_S72x256_72_0),
    roR arg15 arg16 x4 x5 (hdR arg14 (Y0 x0 x1 x2 x3) 144 inb_S3456x256_S72x256_144_0),
    roR arg15 arg16 x4 x5 (hdR arg14 (Y1 x0 x1 x2 x3) 216 inb_S3456x256_S72x256_216_0),
    roR arg15 arg16 x4 x5 (hdR arg14 (Y1 x0 x1 x2 x3) 288 inb_S3456x256_S72x256_288_0),
    roR arg15 arg16 x4 x5 (hdR arg14 (Y1 x0 x1 x2 x3) 360 inb_S3456x256_S72x256_360_0),
    roR arg15 arg16 x4 x5 (hdR arg14 (Y1 x0 x1 x2 x3) 432 inb_S3456x256_S72x256_432_0),
    roR arg15 arg16 x4 x5 (hdR arg14 (Y2 x0 x1 x2 x3) 504 inb_S3456x256_S72x256_504_0),
    roR arg15 arg16 x4 x5 (hdR arg14 (Y2 x0 x1 x2 x3) 576 inb_S3456x256_S72x256_576_0),
    roR arg15 arg16 x4 x5 (hdR arg14 (Y2 x0 x1 x2 x3) 648 inb_S3456x256_S72x256_648_0),
    roR arg15 arg16 x4 x5 (hdR arg14 (Y3 x0 x1 x2 x3) 720 inb_S3456x256_S72x256_720_0),
    roR arg15 arg16 x4 x5 (hdR arg14 (Y3 x0 x1 x2 x3) 792 inb_S3456x256_S72x256_792_0),
    roR arg15 arg16 x4 x5 (hdR arg14 (Y3 x0 x1 x2 x3) 864 inb_S3456x256_S72x256_864_0),
    roR arg15 arg16 x4 x5 (hdR arg14 (Y3 x0 x1 x2 x3) 936 inb_S3456x256_S72x256_936_0),
    roR arg15 arg16 x4 x5 (hdR arg14 (Y4 x0 x1 x2 x3) 1008 inb_S3456x256_S72x256_1008_0),
    roR arg15 arg16 x4 x5 (hdR arg14 (Y4 x0 x1 x2 x3) 1080 inb_S3456x256_S72x256_1080_0),
    roR arg15 arg16 x4 x5 (hdR arg14 (Y4 x0 x1 x2 x3) 1152 inb_S3456x256_S72x256_1152_0),
    roR arg15 arg16 x4 x5 (hdR arg14 (Y5 x0 x1 x2 x3) 1224 inb_S3456x256_S72x256_1224_0),
    roR arg15 arg16 x4 x5 (hdR arg14 (Y5 x0 x1 x2 x3) 1296 inb_S3456x256_S72x256_1296_0),
    roR arg15 arg16 x4 x5 (hdR arg14 (Y5 x0 x1 x2 x3) 1368 inb_S3456x256_S72x256_1368_0),
    roR arg15 arg16 x4 x5 (hdR arg14 (Y5 x0 x1 x2 x3) 1440 inb_S3456x256_S72x256_1440_0),
    roR arg15 arg16 x4 x5 (hdR arg14 (Y6 x0 x1 x2 x3) 1512 inb_S3456x256_S72x256_1512_0),
    roR arg15 arg16 x4 x5 (hdR arg14 (Y6 x0 x1 x2 x3) 1584 inb_S3456x256_S72x256_1584_0),
    roR arg15 arg16 x4 x5 (hdR arg14 (Y6 x0 x1 x2 x3) 1656 inb_S3456x256_S72x256_1656_0),
    roR arg15 arg16 x4 x5 (hdR arg14 (Y7 x0 x1 x2 x3) 1728 inb_S3456x256_S72x256_1728_0),
    roR arg15 arg16 x4 x5 (hdR arg14 (Y7 x0 x1 x2 x3) 1800 inb_S3456x256_S72x256_1800_0),
    roR arg15 arg16 x4 x5 (hdR arg14 (Y7 x0 x1 x2 x3) 1872 inb_S3456x256_S72x256_1872_0),
    roR arg15 arg16 x4 x5 (hdR arg14 (Y7 x0 x1 x2 x3) 1944 inb_S3456x256_S72x256_1944_0),
    roR arg15 arg16 x4 x5 (hdR arg14 (Y8 x0 x1 x2 x3) 2016 inb_S3456x256_S72x256_2016_0),
    roR arg15 arg16 x4 x5 (hdR arg14 (Y8 x0 x1 x2 x3) 2088 inb_S3456x256_S72x256_2088_0),
    roR arg15 arg16 x4 x5 (hdR arg14 (Y8 x0 x1 x2 x3) 2160 inb_S3456x256_S72x256_2160_0),
    roR arg15 arg16 x4 x5 (hdR arg14 (Y8 x0 x1 x2 x3) 2232 inb_S3456x256_S72x256_2232_0)]
def kA (arg14 : Memref sig .tc .vmem S3456x256 .f32) (arg15 arg16 : Memref sig .tc .vmem S2x72x128 .f32) (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x6 : Vec Ideal S72x128 .f32) : Fin 8 → Vec Ideal S72x256 .f32 :=
  ![roR arg15 arg16 x4 x6 (hdR arg14 (Y9 x0 x1 x2 x3) 2304 inb_S3456x256_S72x256_2304_0),
    roR arg15 arg16 x4 x6 (hdR arg14 (Y9 x0 x1 x2 x3) 2376 inb_S3456x256_S72x256_2376_0),
    roR arg15 arg16 x4 x6 (hdR arg14 (Y9 x0 x1 x2 x3) 2448 inb_S3456x256_S72x256_2448_0),
    roR arg15 arg16 x4 x6 (hdR arg14 (Y10 x0 x1 x2 x3) 2520 inb_S3456x256_S72x256_2520_0),
    roR arg15 arg16 x4 x6 (hdR arg14 (Y10 x0 x1 x2 x3) 2592 inb_S3456x256_S72x256_2592_0),
    roR arg15 arg16 x4 x6 (hdR arg14 (Y10 x0 x1 x2 x3) 2664 inb_S3456x256_S72x256_2664_0),
    roR arg15 arg16 x4 x6 (hdR arg14 (Y10 x0 x1 x2 x3) 2736 inb_S3456x256_S72x256_2736_0),
    roR arg15 arg16 x4 x6 (hdR arg14 (Y11 x0 x1 x2 x3) 2808 inb_S3456x256_S72x256_2808_0)]
def vA (arg14 : Memref sig .tc .vmem S3456x256 .f32) (x0 : Vec Ideal S1x256x2304 .fp8e4m3) (x1 : Vec Ideal S1x256x1 .f32) (x2 : Vec Ideal S2304x3456 .fp8e4m3) (x3 : Vec Ideal S1x3456 .f32) : Fin 8 → Vec Ideal S72x256 .f32 :=
  ![hdR arg14 (Y11 x0 x1 x2 x3) 2880 inb_S3456x256_S72x256_2880_0,
    hdR arg14 (Y11 x0 x1 x2 x3) 2952 inb_S3456x256_S72x256_2952_0,
    hdR arg14 (Y12 x0 x1 x2 x3) 3024 inb_S3456x256_S72x256_3024_0,
    hdR arg14 (Y12 x0 x1 x2 x3) 3096 inb_S3456x256_S72x256_3096_0,
    hdR arg14 (Y12 x0 x1 x2 x3) 3168 inb_S3456x256_S72x256_3168_0,
    hdR arg14 (Y12 x0 x1 x2 x3) 3240 inb_S3456x256_S72x256_3240_0,
    hdR arg14 (Y13 x0 x1 x2 x3) 3312 inb_S3456x256_S72x256_3312_0,
    hdR arg14 (Y13 x0 x1 x2 x3) 3384 inb_S3456x256_S72x256_3384_0]

variable (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32)

theorem q_of (arg15 arg16) (a : Vec Ideal S72x256 .f32) (j : Fin 32) (c : Fin 72) (r : Fin 256) (h : ∀ c, a (ix2 c r) = QkRow.head (rowB x0 x1 x2 x3 x4 x5 x6 r) (QkRow.qh j) c) :
    roR arg15 arg16 x4 x5 a (ix2 c r) = QkRow.q (rowB x0 x1 x2 x3 x4 x5 x6 r) j c := by
  rw [roR_at]; simp only [h]; rfl
theorem k_of (arg15 arg16) (a : Vec Ideal S72x256 .f32) (j : Fin 8) (c : Fin 72) (r : Fin 256) (h : ∀ c, a (ix2 c r) = QkRow.head (rowB x0 x1 x2 x3 x4 x5 x6 r) (QkRow.kh j) c) :
    roR arg15 arg16 x4 x6 a (ix2 c r) = QkRow.k (rowB x0 x1 x2 x3 x4 x5 x6 r) j c := by
  rw [roR_at]; simp only [h]; rfl

theorem qA_at (arg14 arg15 arg16) (j : Fin 32) (c : Fin 72) (r : Fin 256) : qA arg14 arg15 arg16 x0 x1 x2 x3 x4 x5 j (ix2 c r) = QkRow.q (rowB x0 x1 x2 x3 x4 x5 x6 r) j c := by
  fin_cases j
  · exact q_of x0 x1 x2 x3 x4 x5 x6 arg15 arg16 _ 0 c r fun c => hdR_at x0 x1 x2 x3 x4 x5 x6 arg14 (Y0 x0 x1 x2 x3) 256 (Y0_of x0 x1 x2 x3 x4 x5 x6) (Y0_cov x0 x1 x2 x3) 0 0 rfl (by omega) inb_S3456x256_S72x256_0_0 c r
  · exact q_of x0 x1 x2 x3 x4 x5 x6 arg15 arg16 _ 1 c r fun c => hdR_at x0 x1 x2 x3 x4 x5 x6 arg14 (Y0 x0 x1 x2 x3) 256 (Y0_of x0 x1 x2 x3 x4 x5 x6) (Y0_cov x0 x1 x2 x3) 1 72 rfl (by omega) inb_S3456x256_S72x256_72_0 c r
  · exact q_of x0 x1 x2 x3 x4 x5 x6 arg15 arg16 _ 2 c r fun c => hdR_at x0 x1 x2 x3 x4 x5 x6 arg14 (Y0 x0 x1 x2 x3) 256 (Y0_of x0 x1 x2 x3 x4 x5 x6) (Y0_cov x0 x1 x2 x3) 2 144 rfl (by omega) inb_S3456x256_S72x256_144_0 c r
  · exact q_of x0 x1 x2 x3 x4 x5 x6 arg15 arg16 _ 3 c r fun c => hdR_at x0 x1 x2 x3 x4 x5 x6 arg14 (Y1 x0 x1 x2 x3) 512 (Y1_of x0 x1 x2 x3 x4 x5 x6) (Y1_cov x0 x1 x2 x3) 3 216 rfl (by omega) inb_S3456x256_S72x256_216_0 c r
  · exact q_of x0 x1 x2 x3 x4 x5 x6 arg15 arg16 _ 4 c r fun c => hdR_at x0 x1 x2 x3 x4 x5 x6 arg14 (Y1 x0 x1 x2 x3) 512 (Y1_of x0 x1 x2 x3 x4 x5 x6) (Y1_cov x0 x1 x2 x3) 4 288 rfl (by omega) inb_S3456x256_S72x256_288_0 c r
  · exact q_of x0 x1 x2 x3 x4 x5 x6 arg15 arg16 _ 5 c r fun c => hdR_at x0 x1 x2 x3 x4 x5 x6 arg14 (Y1 x0 x1 x2 x3) 512 (Y1_of x0 x1 x2 x3 x4 x5 x6) (Y1_cov x0 x1 x2 x3) 5 360 rfl (by omega) inb_S3456x256_S72x256_360_0 c r
  · exact q_of x0 x1 x2 x3 x4 x5 x6 arg15 arg16 _ 6 c r fun c => hdR_at x0 x1 x2 x3 x4 x5 x6 arg14 (Y1 x0 x1 x2 x3) 512 (Y1_of x0 x1 x2 x3 x4 x5 x6) (Y1_cov x0 x1 x2 x3) 6 432 rfl (by omega) inb_S3456x256_S72x256_432_0 c r
  · exact q_of x0 x1 x2 x3 x4 x5 x6 arg15 arg16 _ 7 c r fun c => hdR_at x0 x1 x2 x3 x4 x5 x6 arg14 (Y2 x0 x1 x2 x3) 768 (Y2_of x0 x1 x2 x3 x4 x5 x6) (Y2_cov x0 x1 x2 x3) 7 504 rfl (by omega) inb_S3456x256_S72x256_504_0 c r
  · exact q_of x0 x1 x2 x3 x4 x5 x6 arg15 arg16 _ 8 c r fun c => hdR_at x0 x1 x2 x3 x4 x5 x6 arg14 (Y2 x0 x1 x2 x3) 768 (Y2_of x0 x1 x2 x3 x4 x5 x6) (Y2_cov x0 x1 x2 x3) 8 576 rfl (by omega) inb_S3456x256_S72x256_576_0 c r
  · exact q_of x0 x1 x2 x3 x4 x5 x6 arg15 arg16 _ 9 c r fun c => hdR_at x0 x1 x2 x3 x4 x5 x6 arg14 (Y2 x0 x1 x2 x3) 768 (Y2_of x0 x1 x2 x3 x4 x5 x6) (Y2_cov x0 x1 x2 x3) 9 648 rfl (by omega) inb_S3456x256_S72x256_648_0 c r
  · exact q_of x0 x1 x2 x3 x4 x5 x6 arg15 arg16 _ 10 c r fun c => hdR_at x0 x1 x2 x3 x4 x5 x6 arg14 (Y3 x0 x1 x2 x3) 1024 (Y3_of x0 x1 x2 x3 x4 x5 x6) (Y3_cov x0 x1 x2 x3) 10 720 rfl (by omega) inb_S3456x256_S72x256_720_0 c r
  · exact q_of x0 x1 x2 x3 x4 x5 x6 arg15 arg16 _ 11 c r fun c => hdR_at x0 x1 x2 x3 x4 x5 x6 arg14 (Y3 x0 x1 x2 x3) 1024 (Y3_of x0 x1 x2 x3 x4 x5 x6) (Y3_cov x0 x1 x2 x3) 11 792 rfl (by omega) inb_S3456x256_S72x256_792_0 c r
  · exact q_of x0 x1 x2 x3 x4 x5 x6 arg15 arg16 _ 12 c r fun c => hdR_at x0 x1 x2 x3 x4 x5 x6 arg14 (Y3 x0 x1 x2 x3) 1024 (Y3_of x0 x1 x2 x3 x4 x5 x6) (Y3_cov x0 x1 x2 x3) 12 864 rfl (by omega) inb_S3456x256_S72x256_864_0 c r
  · exact q_of x0 x1 x2 x3 x4 x5 x6 arg15 arg16 _ 13 c r fun c => hdR_at x0 x1 x2 x3 x4 x5 x6 arg14 (Y3 x0 x1 x2 x3) 1024 (Y3_of x0 x1 x2 x3 x4 x5 x6) (Y3_cov x0 x1 x2 x3) 13 936 rfl (by omega) inb_S3456x256_S72x256_936_0 c r
  · exact q_of x0 x1 x2 x3 x4 x5 x6 arg15 arg16 _ 14 c r fun c => hdR_at x0 x1 x2 x3 x4 x5 x6 arg14 (Y4 x0 x1 x2 x3) 1280 (Y4_of x0 x1 x2 x3 x4 x5 x6) (Y4_cov x0 x1 x2 x3) 14 1008 rfl (by omega) inb_S3456x256_S72x256_1008_0 c r
  · exact q_of x0 x1 x2 x3 x4 x5 x6 arg15 arg16 _ 15 c r fun c => hdR_at x0 x1 x2 x3 x4 x5 x6 arg14 (Y4 x0 x1 x2 x3) 1280 (Y4_of x0 x1 x2 x3 x4 x5 x6) (Y4_cov x0 x1 x2 x3) 15 1080 rfl (by omega) inb_S3456x256_S72x256_1080_0 c r
  · exact q_of x0 x1 x2 x3 x4 x5 x6 arg15 arg16 _ 16 c r fun c => hdR_at x0 x1 x2 x3 x4 x5 x6 arg14 (Y4 x0 x1 x2 x3) 1280 (Y4_of x0 x1 x2 x3 x4 x5 x6) (Y4_cov x0 x1 x2 x3) 16 1152 rfl (by omega) inb_S3456x256_S72x256_1152_0 c r
  · exact q_of x0 x1 x2 x3 x4 x5 x6 arg15 arg16 _ 17 c r fun c => hdR_at x0 x1 x2 x3 x4 x5 x6 arg14 (Y5 x0 x1 x2 x3) 1536 (Y5_of x0 x1 x2 x3 x4 x5 x6) (Y5_cov x0 x1 x2 x3) 17 1224 rfl (by omega) inb_S3456x256_S72x256_1224_0 c r
  · exact q_of x0 x1 x2 x3 x4 x5 x6 arg15 arg16 _ 18 c r fun c => hdR_at x0 x1 x2 x3 x4 x5 x6 arg14 (Y5 x0 x1 x2 x3) 1536 (Y5_of x0 x1 x2 x3 x4 x5 x6) (Y5_cov x0 x1 x2 x3) 18 1296 rfl (by omega) inb_S3456x256_S72x256_1296_0 c r
  · exact q_of x0 x1 x2 x3 x4 x5 x6 arg15 arg16 _ 19 c r fun c => hdR_at x0 x1 x2 x3 x4 x5 x6 arg14 (Y5 x0 x1 x2 x3) 1536 (Y5_of x0 x1 x2 x3 x4 x5 x6) (Y5_cov x0 x1 x2 x3) 19 1368 rfl (by omega) inb_S3456x256_S72x256_1368_0 c r
  · exact q_of x0 x1 x2 x3 x4 x5 x6 arg15 arg16 _ 20 c r fun c => hdR_at x0 x1 x2 x3 x4 x5 x6 arg14 (Y5 x0 x1 x2 x3) 1536 (Y5_of x0 x1 x2 x3 x4 x5 x6) (Y5_cov x0 x1 x2 x3) 20 1440 rfl (by omega) inb_S3456x256_S72x256_1440_0 c r
  · exact q_of x0 x1 x2 x3 x4 x5 x6 arg15 arg16 _ 21 c r fun c => hdR_at x0 x1 x2 x3 x4 x5 x6 arg14 (Y6 x0 x1 x2 x3) 1792 (Y6_of x0 x1 x2 x3 x4 x5 x6) (Y6_cov x0 x1 x2 x3) 21 1512 rfl (by omega) inb_S3456x256_S72x256_1512_0 c r
  · exact q_of x0 x1 x2 x3 x4 x5 x6 arg15 arg16 _ 22 c r fun c => hdR_at x0 x1 x2 x3 x4 x5 x6 arg14 (Y6 x0 x1 x2 x3) 1792 (Y6_of x0 x1 x2 x3 x4 x5 x6) (Y6_cov x0 x1 x2 x3) 22 1584 rfl (by omega) inb_S3456x256_S72x256_1584_0 c r
  · exact q_of x0 x1 x2 x3 x4 x5 x6 arg15 arg16 _ 23 c r fun c => hdR_at x0 x1 x2 x3 x4 x5 x6 arg14 (Y6 x0 x1 x2 x3) 1792 (Y6_of x0 x1 x2 x3 x4 x5 x6) (Y6_cov x0 x1 x2 x3) 23 1656 rfl (by omega) inb_S3456x256_S72x256_1656_0 c r
  · exact q_of x0 x1 x2 x3 x4 x5 x6 arg15 arg16 _ 24 c r fun c => hdR_at x0 x1 x2 x3 x4 x5 x6 arg14 (Y7 x0 x1 x2 x3) 2048 (Y7_of x0 x1 x2 x3 x4 x5 x6) (Y7_cov x0 x1 x2 x3) 24 1728 rfl (by omega) inb_S3456x256_S72x256_1728_0 c r
  · exact q_of x0 x1 x2 x3 x4 x5 x6 arg15 arg16 _ 25 c r fun c => hdR_at x0 x1 x2 x3 x4 x5 x6 arg14 (Y7 x0 x1 x2 x3) 2048 (Y7_of x0 x1 x2 x3 x4 x5 x6) (Y7_cov x0 x1 x2 x3) 25 1800 rfl (by omega) inb_S3456x256_S72x256_1800_0 c r
  · exact q_of x0 x1 x2 x3 x4 x5 x6 arg15 arg16 _ 26 c r fun c => hdR_at x0 x1 x2 x3 x4 x5 x6 arg14 (Y7 x0 x1 x2 x3) 2048 (Y7_of x0 x1 x2 x3 x4 x5 x6) (Y7_cov x0 x1 x2 x3) 26 1872 rfl (by omega) inb_S3456x256_S72x256_1872_0 c r
  · exact q_of x0 x1 x2 x3 x4 x5 x6 arg15 arg16 _ 27 c r fun c => hdR_at x0 x1 x2 x3 x4 x5 x6 arg14 (Y7 x0 x1 x2 x3) 2048 (Y7_of x0 x1 x2 x3 x4 x5 x6) (Y7_cov x0 x1 x2 x3) 27 1944 rfl (by omega) inb_S3456x256_S72x256_1944_0 c r
  · exact q_of x0 x1 x2 x3 x4 x5 x6 arg15 arg16 _ 28 c r fun c => hdR_at x0 x1 x2 x3 x4 x5 x6 arg14 (Y8 x0 x1 x2 x3) 2304 (Y8_of x0 x1 x2 x3 x4 x5 x6) (Y8_cov x0 x1 x2 x3) 28 2016 rfl (by omega) inb_S3456x256_S72x256_2016_0 c r
  · exact q_of x0 x1 x2 x3 x4 x5 x6 arg15 arg16 _ 29 c r fun c => hdR_at x0 x1 x2 x3 x4 x5 x6 arg14 (Y8 x0 x1 x2 x3) 2304 (Y8_of x0 x1 x2 x3 x4 x5 x6) (Y8_cov x0 x1 x2 x3) 29 2088 rfl (by omega) inb_S3456x256_S72x256_2088_0 c r
  · exact q_of x0 x1 x2 x3 x4 x5 x6 arg15 arg16 _ 30 c r fun c => hdR_at x0 x1 x2 x3 x4 x5 x6 arg14 (Y8 x0 x1 x2 x3) 2304 (Y8_of x0 x1 x2 x3 x4 x5 x6) (Y8_cov x0 x1 x2 x3) 30 2160 rfl (by omega) inb_S3456x256_S72x256_2160_0 c r
  · exact q_of x0 x1 x2 x3 x4 x5 x6 arg15 arg16 _ 31 c r fun c => hdR_at x0 x1 x2 x3 x4 x5 x6 arg14 (Y8 x0 x1 x2 x3) 2304 (Y8_of x0 x1 x2 x3 x4 x5 x6) (Y8_cov x0 x1 x2 x3) 31 2232 rfl (by omega) inb_S3456x256_S72x256_2232_0 c r
theorem kA_at (arg14 arg15 arg16) (j : Fin 8) (c : Fin 72) (r : Fin 256) : kA arg14 arg15 arg16 x0 x1 x2 x3 x4 x6 j (ix2 c r) = QkRow.k (rowB x0 x1 x2 x3 x4 x5 x6 r) j c := by
  fin_cases j
  · exact k_of x0 x1 x2 x3 x4 x5 x6 arg15 arg16 _ 0 c r fun c => hdR_at x0 x1 x2 x3 x4 x5 x6 arg14 (Y9 x0 x1 x2 x3) 2560 (Y9_of x0 x1 x2 x3 x4 x5 x6) (Y9_cov x0 x1 x2 x3) 32 2304 rfl (by omega) inb_S3456x256_S72x256_2304_0 c r
  · exact k_of x0 x1 x2 x3 x4 x5 x6 arg15 arg16 _ 1 c r fun c => hdR_at x0 x1 x2 x3 x4 x5 x6 arg14 (Y9 x0 x1 x2 x3) 2560 (Y9_of x0 x1 x2 x3 x4 x5 x6) (Y9_cov x0 x1 x2 x3) 33 2376 rfl (by omega) inb_S3456x256_S72x256_2376_0 c r
  · exact k_of x0 x1 x2 x3 x4 x5 x6 arg15 arg16 _ 2 c r fun c => hdR_at x0 x1 x2 x3 x4 x5 x6 arg14 (Y9 x0 x1 x2 x3) 2560 (Y9_of x0 x1 x2 x3 x4 x5 x6) (Y9_cov x0 x1 x2 x3) 34 2448 rfl (by omega) inb_S3456x256_S72x256_2448_0 c r
  · exact k_of x0 x1 x2 x3 x4 x5 x6 arg15 arg16 _ 3 c r fun c => hdR_at x0 x1 x2 x3 x4 x5 x6 arg14 (Y10 x0 x1 x2 x3) 2816 (Y10_of x0 x1 x2 x3 x4 x5 x6) (Y10_cov x0 x1 x2 x3) 35 2520 rfl (by omega) inb_S3456x256_S72x256_2520_0 c r
  · exact k_of x0 x1 x2 x3 x4 x5 x6 arg15 arg16 _ 4 c r fun c => hdR_at x0 x1 x2 x3 x4 x5 x6 arg14 (Y10 x0 x1 x2 x3) 2816 (Y10_of x0 x1 x2 x3 x4 x5 x6) (Y10_cov x0 x1 x2 x3) 36 2592 rfl (by omega) inb_S3456x256_S72x256_2592_0 c r
  · exact k_of x0 x1 x2 x3 x4 x5 x6 arg15 arg16 _ 5 c r fun c => hdR_at x0 x1 x2 x3 x4 x5 x6 arg14 (Y10 x0 x1 x2 x3) 2816 (Y10_of x0 x1 x2 x3 x4 x5 x6) (Y10_cov x0 x1 x2 x3) 37 2664 rfl (by omega) inb_S3456x256_S72x256_2664_0 c r
  · exact k_of x0 x1 x2 x3 x4 x5 x6 arg15 arg16 _ 6 c r fun c => hdR_at x0 x1 x2 x3 x4 x5 x6 arg14 (Y10 x0 x1 x2 x3) 2816 (Y10_of x0 x1 x2 x3 x4 x5 x6) (Y10_cov x0 x1 x2 x3) 38 2736 rfl (by omega) inb_S3456x256_S72x256_2736_0 c r
  · exact k_of x0 x1 x2 x3 x4 x5 x6 arg15 arg16 _ 7 c r fun c => hdR_at x0 x1 x2 x3 x4 x5 x6 arg14 (Y11 x0 x1 x2 x3) 3072 (Y11_of x0 x1 x2 x3 x4 x5 x6) (Y11_cov x0 x1 x2 x3) 39 2808 rfl (by omega) inb_S3456x256_S72x256_2808_0 c r
theorem vA_at (arg14) (j : Fin 8) (c : Fin 72) (r : Fin 256) : vA arg14 x0 x1 x2 x3 j (ix2 c r) = QkRow.v (rowB x0 x1 x2 x3 x4 x5 x6 r) j c := by
  fin_cases j
  · exact hdR_at x0 x1 x2 x3 x4 x5 x6 arg14 (Y11 x0 x1 x2 x3) 3072 (Y11_of x0 x1 x2 x3 x4 x5 x6) (Y11_cov x0 x1 x2 x3) 40 2880 rfl (by omega) inb_S3456x256_S72x256_2880_0 c r
  · exact hdR_at x0 x1 x2 x3 x4 x5 x6 arg14 (Y11 x0 x1 x2 x3) 3072 (Y11_of x0 x1 x2 x3 x4 x5 x6) (Y11_cov x0 x1 x2 x3) 41 2952 rfl (by omega) inb_S3456x256_S72x256_2952_0 c r
  · exact hdR_at x0 x1 x2 x3 x4 x5 x6 arg14 (Y12 x0 x1 x2 x3) 3328 (Y12_of x0 x1 x2 x3 x4 x5 x6) (Y12_cov x0 x1 x2 x3) 42 3024 rfl (by omega) inb_S3456x256_S72x256_3024_0 c r
  · exact hdR_at x0 x1 x2 x3 x4 x5 x6 arg14 (Y12 x0 x1 x2 x3) 3328 (Y12_of x0 x1 x2 x3 x4 x5 x6) (Y12_cov x0 x1 x2 x3) 43 3096 rfl (by omega) inb_S3456x256_S72x256_3096_0 c r
  · exact hdR_at x0 x1 x2 x3 x4 x5 x6 arg14 (Y12 x0 x1 x2 x3) 3328 (Y12_of x0 x1 x2 x3 x4 x5 x6) (Y12_cov x0 x1 x2 x3) 44 3168 rfl (by omega) inb_S3456x256_S72x256_3168_0 c r
  · exact hdR_at x0 x1 x2 x3 x4 x5 x6 arg14 (Y12 x0 x1 x2 x3) 3328 (Y12_of x0 x1 x2 x3 x4 x5 x6) (Y12_cov x0 x1 x2 x3) 45 3240 rfl (by omega) inb_S3456x256_S72x256_3240_0 c r
  · exact hdR_at x0 x1 x2 x3 x4 x5 x6 arg14 (Y13 x0 x1 x2 x3) 3456 (Y13_of x0 x1 x2 x3 x4 x5 x6) (Y13_cov x0 x1 x2 x3) 46 3312 rfl (by omega) inb_S3456x256_S72x256_3312_0 c r
  · exact hdR_at x0 x1 x2 x3 x4 x5 x6 arg14 (Y13 x0 x1 x2 x3) 3456 (Y13_of x0 x1 x2 x3 x4 x5 x6) (Y13_cov x0 x1 x2 x3) 47 3384 rfl (by omega) inb_S3456x256_S72x256_3384_0 c r

end Cert.QkvIdeal.Value
end
-- ==== Proof.QkOut7.lean ====
module
public import proofs.«01_k».proof.Proof.QkPieces
@[expose] public section
set_option maxRecDepth 65536
noncomputable section
open Idealize.ShloMosaic Idealize.ShloMosaic.TcCoe Idealize.SL.Sem
open Idealize.ShloMosaic.Pipeline (Dat)

/-! # The query heads a grid point stores -/

namespace Cert.QkvIdeal.Value
open Cert.QkvIdeal Cert.QkvIdeal.Gen

theorem out7_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x3456 .fp8e4m3) (harg4 : arg4.IsWhole) (arg5 : Memref sig .tc .vmem S1x3456 .f32) (harg5 : arg5.IsWhole) (arg6 : Memref sig .tc .vmem S1x256x72 .f32) (harg6 : arg6.IsWhole) (arg7 : Memref sig .tc .vmem S72x128 .f32) (harg7 : arg7.IsWhole) (arg8 : Memref sig .tc .vmem S72x128 .f32) (harg8 : arg8.IsWhole) (arg9 : Memref sig .tc .vmem S1x32x72x256 .bf16) (harg9 : arg9.IsWhole) (arg10 : Memref sig .tc .vmem S1x256x8x72 .fp8e4m3) (harg10 : arg10.IsWhole) (arg11 : Memref sig .tc .vmem S1x256x8 .f32) (harg11 : arg11.IsWhole) (arg12 : Memref sig .tc .vmem S1x256x8x72 .fp8e4m3) (harg12 : arg12.IsWhole) (arg13 : Memref sig .tc .vmem S1x256x8 .f32) (harg13 : arg13.IsWhole) (arg14 : Memref sig .tc .vmem S3456x256 .f32) (harg14 : arg14.IsWhole) (arg15 : Memref sig .tc .vmem S2x72x128 .f32) (harg15 : arg15.IsWhole) (arg16 : Memref sig .tc .vmem S2x72x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S8x256 .f32) (harg19 : arg19.IsWhole) (arg20 : Memref sig .tc .vmem S8x256 .f32) (harg20 : arg20.IsWhole)
    (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32) (j : Fin 32) (n : Fin 72) (r : Fin 256) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 (ix4 0 j n r) = QkRow.q (rowB x0 x1 x2 x3 x4 x5 x6 r) j n := by
  frame_out
  exact (q_canon (qA arg14 arg15 arg16 x0 x1 x2 x3 x4 x5) j n r).trans (qA_at x0 x1 x2 x3 x4 x5 x6 arg14 arg15 arg16 j n r)

end Cert.QkvIdeal.Value
end
-- ==== Proof.QkOut8.lean ====
module
public import proofs.«01_k».proof.Proof.QkPieces
@[expose] public section
set_option maxRecDepth 65536
noncomputable section
open Idealize.ShloMosaic Idealize.ShloMosaic.TcCoe Idealize.SL.Sem
open Idealize.ShloMosaic.Pipeline (Dat)

/-! # The key codes a grid point stores -/

namespace Cert.QkvIdeal.Value
open Cert.QkvIdeal Cert.QkvIdeal.Gen

theorem out8_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x3456 .fp8e4m3) (harg4 : arg4.IsWhole) (arg5 : Memref sig .tc .vmem S1x3456 .f32) (harg5 : arg5.IsWhole) (arg6 : Memref sig .tc .vmem S1x256x72 .f32) (harg6 : arg6.IsWhole) (arg7 : Memref sig .tc .vmem S72x128 .f32) (harg7 : arg7.IsWhole) (arg8 : Memref sig .tc .vmem S72x128 .f32) (harg8 : arg8.IsWhole) (arg9 : Memref sig .tc .vmem S1x32x72x256 .bf16) (harg9 : arg9.IsWhole) (arg10 : Memref sig .tc .vmem S1x256x8x72 .fp8e4m3) (harg10 : arg10.IsWhole) (arg11 : Memref sig .tc .vmem S1x256x8 .f32) (harg11 : arg11.IsWhole) (arg12 : Memref sig .tc .vmem S1x256x8x72 .fp8e4m3) (harg12 : arg12.IsWhole) (arg13 : Memref sig .tc .vmem S1x256x8 .f32) (harg13 : arg13.IsWhole) (arg14 : Memref sig .tc .vmem S3456x256 .f32) (harg14 : arg14.IsWhole) (arg15 : Memref sig .tc .vmem S2x72x128 .f32) (harg15 : arg15.IsWhole) (arg16 : Memref sig .tc .vmem S2x72x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S8x256 .f32) (harg19 : arg19.IsWhole) (arg20 : Memref sig .tc .vmem S8x256 .f32) (harg20 : arg20.IsWhole)
    (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32) (r : Fin 256) (j : Fin 8) (n : Fin 72) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 (ix4 0 r j n) = QkRow.code (QkRow.k (rowB x0 x1 x2 x3 x4 x5 x6 r) j) n := by
  frame_out
  exact (kRd_at arg17 (kA arg14 arg15 arg16 x0 x1 x2 x3 x4 x6) r j n).trans (congrArg (fun f => QkRow.code f n) (funext fun k => kA_at x0 x1 x2 x3 x4 x5 x6 arg14 arg15 arg16 j k r))

end Cert.QkvIdeal.Value
end
-- ==== Proof.QkOut9.lean ====
module
public import proofs.«01_k».proof.Proof.QkPieces
@[expose] public section
set_option maxRecDepth 65536
noncomputable section
open Idealize.ShloMosaic Idealize.ShloMosaic.TcCoe Idealize.SL.Sem
open Idealize.ShloMosaic.Pipeline (Dat)

/-! # The key scales a grid point stores -/

namespace Cert.QkvIdeal.Value
open Cert.QkvIdeal Cert.QkvIdeal.Gen

theorem out9_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x3456 .fp8e4m3) (harg4 : arg4.IsWhole) (arg5 : Memref sig .tc .vmem S1x3456 .f32) (harg5 : arg5.IsWhole) (arg6 : Memref sig .tc .vmem S1x256x72 .f32) (harg6 : arg6.IsWhole) (arg7 : Memref sig .tc .vmem S72x128 .f32) (harg7 : arg7.IsWhole) (arg8 : Memref sig .tc .vmem S72x128 .f32) (harg8 : arg8.IsWhole) (arg9 : Memref sig .tc .vmem S1x32x72x256 .bf16) (harg9 : arg9.IsWhole) (arg10 : Memref sig .tc .vmem S1x256x8x72 .fp8e4m3) (harg10 : arg10.IsWhole) (arg11 : Memref sig .tc .vmem S1x256x8 .f32) (harg11 : arg11.IsWhole) (arg12 : Memref sig .tc .vmem S1x256x8x72 .fp8e4m3) (harg12 : arg12.IsWhole) (arg13 : Memref sig .tc .vmem S1x256x8 .f32) (harg13 : arg13.IsWhole) (arg14 : Memref sig .tc .vmem S3456x256 .f32) (harg14 : arg14.IsWhole) (arg15 : Memref sig .tc .vmem S2x72x128 .f32) (harg15 : arg15.IsWhole) (arg16 : Memref sig .tc .vmem S2x72x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S8x256 .f32) (harg19 : arg19.IsWhole) (arg20 : Memref sig .tc .vmem S8x256 .f32) (harg20 : arg20.IsWhole)
    (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32) (r : Fin 256) (j : Fin 8) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 (ix3 0 r j) = QkRow.scale (QkRow.k (rowB x0 x1 x2 x3 x4 x5 x6 r) j) := by
  frame_out
  exact (sRd_at arg19 (kA arg14 arg15 arg16 x0 x1 x2 x3 x4 x6) r j).trans (congrArg QkRow.scale (funext fun k => kA_at x0 x1 x2 x3 x4 x5 x6 arg14 arg15 arg16 j k r))

end Cert.QkvIdeal.Value
end
-- ==== Proof.QkOut10.lean ====
module
public import proofs.«01_k».proof.Proof.QkPieces
@[expose] public section
set_option maxRecDepth 65536
noncomputable section
open Idealize.ShloMosaic Idealize.ShloMosaic.TcCoe Idealize.SL.Sem
open Idealize.ShloMosaic.Pipeline (Dat)

/-! # The value codes a grid point stores -/

namespace Cert.QkvIdeal.Value
open Cert.QkvIdeal Cert.QkvIdeal.Gen

theorem out10_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x3456 .fp8e4m3) (harg4 : arg4.IsWhole) (arg5 : Memref sig .tc .vmem S1x3456 .f32) (harg5 : arg5.IsWhole) (arg6 : Memref sig .tc .vmem S1x256x72 .f32) (harg6 : arg6.IsWhole) (arg7 : Memref sig .tc .vmem S72x128 .f32) (harg7 : arg7.IsWhole) (arg8 : Memref sig .tc .vmem S72x128 .f32) (harg8 : arg8.IsWhole) (arg9 : Memref sig .tc .vmem S1x32x72x256 .bf16) (harg9 : arg9.IsWhole) (arg10 : Memref sig .tc .vmem S1x256x8x72 .fp8e4m3) (harg10 : arg10.IsWhole) (arg11 : Memref sig .tc .vmem S1x256x8 .f32) (harg11 : arg11.IsWhole) (arg12 : Memref sig .tc .vmem S1x256x8x72 .fp8e4m3) (harg12 : arg12.IsWhole) (arg13 : Memref sig .tc .vmem S1x256x8 .f32) (harg13 : arg13.IsWhole) (arg14 : Memref sig .tc .vmem S3456x256 .f32) (harg14 : arg14.IsWhole) (arg15 : Memref sig .tc .vmem S2x72x128 .f32) (harg15 : arg15.IsWhole) (arg16 : Memref sig .tc .vmem S2x72x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S8x256 .f32) (harg19 : arg19.IsWhole) (arg20 : Memref sig .tc .vmem S8x256 .f32) (harg20 : arg20.IsWhole)
    (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32) (r : Fin 256) (j : Fin 8) (n : Fin 72) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 (ix4 0 r j n) = QkRow.code (QkRow.v (rowB x0 x1 x2 x3 x4 x5 x6 r) j) n := by
  frame_out
  exact (kRd_at arg18 (vA arg14 x0 x1 x2 x3) r j n).trans (congrArg (fun f => QkRow.code f n) (funext fun k => vA_at x0 x1 x2 x3 x4 x5 x6 arg14 j k r))

end Cert.QkvIdeal.Value
end
-- ==== Proof.QkOut11.lean ====
module
public import proofs.«01_k».proof.Proof.QkPieces
@[expose] public section
set_option maxRecDepth 65536
noncomputable section
open Idealize.ShloMosaic Idealize.ShloMosaic.TcCoe Idealize.SL.Sem
open Idealize.ShloMosaic.Pipeline (Dat)

/-! # The value scales a grid point stores -/

namespace Cert.QkvIdeal.Value
open Cert.QkvIdeal Cert.QkvIdeal.Gen

theorem out11_ix (c : Dev nD) (i : grid0.Coords) (arg2 : Memref sig .tc .vmem S1x256x2304 .fp8e4m3) (harg2 : arg2.IsWhole) (arg3 : Memref sig .tc .vmem S1x256x1 .f32) (harg3 : arg3.IsWhole) (arg4 : Memref sig .tc .vmem S2304x3456 .fp8e4m3) (harg4 : arg4.IsWhole) (arg5 : Memref sig .tc .vmem S1x3456 .f32) (harg5 : arg5.IsWhole) (arg6 : Memref sig .tc .vmem S1x256x72 .f32) (harg6 : arg6.IsWhole) (arg7 : Memref sig .tc .vmem S72x128 .f32) (harg7 : arg7.IsWhole) (arg8 : Memref sig .tc .vmem S72x128 .f32) (harg8 : arg8.IsWhole) (arg9 : Memref sig .tc .vmem S1x32x72x256 .bf16) (harg9 : arg9.IsWhole) (arg10 : Memref sig .tc .vmem S1x256x8x72 .fp8e4m3) (harg10 : arg10.IsWhole) (arg11 : Memref sig .tc .vmem S1x256x8 .f32) (harg11 : arg11.IsWhole) (arg12 : Memref sig .tc .vmem S1x256x8x72 .fp8e4m3) (harg12 : arg12.IsWhole) (arg13 : Memref sig .tc .vmem S1x256x8 .f32) (harg13 : arg13.IsWhole) (arg14 : Memref sig .tc .vmem S3456x256 .f32) (harg14 : arg14.IsWhole) (arg15 : Memref sig .tc .vmem S2x72x128 .f32) (harg15 : arg15.IsWhole) (arg16 : Memref sig .tc .vmem S2x72x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S8x256 .f32) (harg19 : arg19.IsWhole) (arg20 : Memref sig .tc .vmem S8x256 .f32) (harg20 : arg20.IsWhole)
    (x0 : Vec Ideal S1x256x2304 .fp8e4m3) (x1 : Vec Ideal S1x256x1 .f32) (x2 : Vec Ideal S2304x3456 .fp8e4m3) (x3 : Vec Ideal S1x3456 .f32) (x4 : Vec Ideal S1x256x72 .f32) (x5 : Vec Ideal S72x128 .f32) (x6 : Vec Ideal S72x128 .f32) (r : Fin 256) (j : Fin 8) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 (ix3 0 r j) = QkRow.scale (QkRow.v (rowB x0 x1 x2 x3 x4 x5 x6 r) j) := by
  frame_out
  exact (sRd_at arg20 (vA arg14 x0 x1 x2 x3) r j).trans (congrArg QkRow.scale (funext fun k => vA_at x0 x1 x2 x3 x4 x5 x6 arg14 j k r))

end Cert.QkvIdeal.Value
end
-- ==== Proof.QkRef.lean ====
module
public import proofs.«01_k».proof.Proof.QkRows
public import proofs.«01_k».proof.Proof.Gen.QkvRefIdeal.Value
public import Idealize.ShloMosaic.Lib.Pointwise.Select
@[expose] public section
set_option maxRecDepth 16384
noncomputable section
open Idealize.ShloMosaic Idealize.ShloMosaic.TcCoe Idealize.SL.Sem

/-! # The reference of the query, key and value projection, read

Each result of the reference at an index is the row function of the token the index names. -/

namespace Cert.QkvRefIdeal.Value
open Cert.QkvRefIdeal Cert.QkvRefIdeal.Gen

variable (a0 : Vec Ideal S3x1024x2304 .fp8e4m3) (a1 : Vec Ideal S3x1024x1 .f32) (a2 : Vec Ideal S2304x3456 .fp8e4m3) (a3 : Vec Ideal S1x3456 .f32) (a4 : Vec Ideal S3x1024x72 .f32) (a5 : Vec Ideal S72x128 .f32) (a6 : Vec Ideal S72x128 .f32)

/-- Token `t` of batch `b`. -/
def tok (b : Fin 3) (t : Fin 1024) : QkRow.Row where
  h d := a0 (ix3 b t d)
  hs := a1 (ix3 b t 0)
  w d k := a2 (ix2 d k)
  s k := a3 (ix2 0 k)
  ra c := a4 (ix3 b t c)
  qg c := a5 (ix2 c ⟨t % 128, by omega⟩)
  kg c := a6 (ix2 c ⟨t % 128, by omega⟩)

theorem head_at (b : Fin 3) (t : Fin 1024) (j : Fin 48) (c : Fin 72) : k0_pay2 a0 a2 a1 a3 (ix4 b t j c) = QkRow.head (tok a0 a1 a2 a3 a4 a5 a6 b t) j c := by
  unfold QkRow.head QkRow.lin tok
  pointwise [k0_pay2]

theorem cos_at (b : Fin 3) (t : Fin 1024) (i : Fin 36) : k0_pay3 a4 (ix4 b t 0 i) = a4 (ix3 b t (QkRow.cs i)) := by
  pointwise [k0_pay3]
theorem sin_at (b : Fin 3) (t : Fin 1024) (i : Fin 36) : k0_pay4 a4 (ix4 b t 0 i) = a4 (ix3 b t (QkRow.sn i)) := by
  pointwise [k0_pay4]

/-- The gain, laid over the tokens. -/
def gainR (g : FVec Ideal S72x128 .f32) : FVec Ideal S1x1024x1x72 .f32 :=
  shapeCast S1x1024x1x72 (broadcastTo S8x128x72 (shapeCast S1x128x72 (shapeCast S1x128x72 (transpose S128x72 [1, 0] g transposes_S72x128_p1_0_S128x72) shapeCasts_S128x72_S1x128x72) shapeCasts_S1x128x72_S1x128x72) broadcasts_S1x128x72_S8x128x72) shapeCasts_S8x128x72_S1x1024x1x72
theorem gainR_at (g) (t : Fin 1024) (c : Fin 72) : gainR g (ix4 0 t 0 c) = g (ix2 c ⟨t % 128, by omega⟩) := by
  pointwise [gainR]

theorem sq32_at (v : FVec Ideal S3x1024x32x72 .f32) (b : Fin 3) (t : Fin 1024) (j : Fin 32) :
    multiReduction .add [3] S3x1024x32 (mulf v v) 0x00000000#32 reduces_S3x1024x32x72_S3x1024x32 (.inl rfl) rfl (ix3 b t j) = ∑ c : Fin 72, v (ix4 b t j c) * v (ix4 b t j c) := by
  pointwise
theorem sq8_at (v : FVec Ideal S3x1024x8x72 .f32) (b : Fin 3) (t : Fin 1024) (j : Fin 8) :
    multiReduction .add [3] S3x1024x8 (mulf v v) 0x00000000#32 reduces_S3x1024x8x72_S3x1024x8 (.inl rfl) rfl (ix3 b t j) = ∑ c : Fin 72, v (ix4 b t j c) * v (ix4 b t j c) := by
  pointwise

/-- The roots of the means, from the sums of squares. -/
def rms32 (s : FVec Ideal S3x1024x32 .f32) : FVec Ideal S3x1024x32x1 .f32 :=
  sqrt (addf (mulf (shapeCast S3x1024x32x1 s shapeCasts_S3x1024x32_S3x1024x32x1) (broadcast S3x1024x32x1 (Scalar.ofBits .f32 0x3C638E39#32))) (broadcast S3x1024x32x1 (Scalar.ofBits .f32 0x358637BD#32)))
theorem rms32_at (s) (b : Fin 3) (t : Fin 1024) (j : Fin 32) : rms32 s (ix4 b t j 0) = Ideal.sqrt (s (ix3 b t j) * Ideal.ofBits .f32 0x3C638E39#32 + Ideal.ofBits .f32 0x358637BD#32) := by
  pointwise [rms32]
def rms8 (s : FVec Ideal S3x1024x8 .f32) : FVec Ideal S3x1024x8x1 .f32 :=
  sqrt (addf (mulf (shapeCast S3x1024x8x1 s shapeCasts_S3x1024x8_S3x1024x8x1) (broadcast S3x1024x8x1 (Scalar.ofBits .f32 0x3C638E39#32))) (broadcast S3x1024x8x1 (Scalar.ofBits .f32 0x358637BD#32)))
theorem rms8_at (s) (b : Fin 3) (t : Fin 1024) (j : Fin 8) : rms8 s (ix4 b t j 0) = Ideal.sqrt (s (ix3 b t j) * Ideal.ofBits .f32 0x3C638E39#32 + Ideal.ofBits .f32 0x358637BD#32) := by
  pointwise [rms8]

/-- The normalised heads, from the heads, their roots and the gain. -/
def nrm32 (v : FVec Ideal S3x1024x32x72 .f32) (r : FVec Ideal S3x1024x32x1 .f32) (g : FVec Ideal S1x1024x1x72 .f32) : FVec Ideal S3x1024x32x72 .f32 :=
  mulf (divf v (broadcastTo S3x1024x32x72 r broadcasts_S3x1024x32x1_S3x1024x32x72)) (broadcastTo S3x1024x32x72 g broadcasts_S1x1024x1x72_S3x1024x32x72)
theorem nrm32_at (v r g) (b : Fin 3) (t : Fin 1024) (j : Fin 32) (c : Fin 72) : nrm32 v r g (ix4 b t j c) = Ideal.div (v (ix4 b t j c)) (r (ix4 b t j 0)) * g (ix4 0 t 0 c) := by
  pointwise [nrm32]
def nrm8 (v : FVec Ideal S3x1024x8x72 .f32) (r : FVec Ideal S3x1024x8x1 .f32) (g : FVec Ideal S1x1024x1x72 .f32) : FVec Ideal S3x1024x8x72 .f32 :=
  mulf (divf v (broadcastTo S3x1024x8x72 r broadcasts_S3x1024x8x1_S3x1024x8x72)) (broadcastTo S3x1024x8x72 g broadcasts_S1x1024x1x72_S3x1024x8x72)
theorem nrm8_at (v r g) (b : Fin 3) (t : Fin 1024) (j : Fin 8) (c : Fin 72) : nrm8 v r g (ix4 b t j c) = Ideal.div (v (ix4 b t j c)) (r (ix4 b t j 0)) * g (ix4 0 t 0 c) := by
  pointwise [nrm8]

/-- The query heads, the key heads and the value heads among all. -/
def sl32 (y : FVec Ideal S3x1024x48x72 .f32) : FVec Ideal S3x1024x32x72 .f32 := extractStridedSlice S3x1024x32x72 ![0, 0, 0, 0] y slices_S3x1024x48x72_o0_0_0_0_S3x1024x32x72
theorem sl32_at (y) (b : Fin 3) (t : Fin 1024) (j : Fin 32) (c : Fin 72) : sl32 y (ix4 b t j c) = y (ix4 b t (QkRow.qh j) c) := by
  pointwise [sl32]
def slk (y : FVec Ideal S3x1024x48x72 .f32) : FVec Ideal S3x1024x8x72 .f32 := extractStridedSlice S3x1024x8x72 ![0, 0, 32, 0] y slices_S3x1024x48x72_o0_0_32_0_S3x1024x8x72
theorem slk_at (y) (b : Fin 3) (t : Fin 1024) (j : Fin 8) (c : Fin 72) : slk y (ix4 b t j c) = y (ix4 b t (QkRow.kh j) c) := by
  pointwise [slk]
theorem slv_at (y) (b : Fin 3) (t : Fin 1024) (j : Fin 8) (c : Fin 72) : k0_pay15 (F := Ideal) y (ix4 b t j c) = y (ix4 b t (QkRow.vh j) c) := by
  pointwise [k0_pay15]

theorem pay5_eq (v0 v2 v5 v8 g) : k0_pay5 (F := Ideal) v0 v2 v5 v8 g = nrm32 (sl32 (k0_pay2 v0 v2 v5 v8)) (rms32 (multiReduction .add [3] S3x1024x32 (mulf (sl32 (k0_pay2 v0 v2 v5 v8)) (sl32 (k0_pay2 v0 v2 v5 v8))) 0x00000000#32 reduces_S3x1024x32x72_S3x1024x32 (.inl rfl) rfl)) (gainR g) := rfl

theorem qn_at (b : Fin 3) (t : Fin 1024) (j : Fin 32) (c : Fin 72) : k0_pay5 a0 a2 a1 a3 a5 (ix4 b t j c) = QkRow.nrm (QkRow.head (tok a0 a1 a2 a3 a4 a5 a6 b t) (QkRow.qh j)) (tok a0 a1 a2 a3 a4 a5 a6 b t).qg c := by
  rw [pay5_eq, nrm32_at, rms32_at, sq32_at, gainR_at]
  simp only [sl32_at, head_at a0 a1 a2 a3 a4 a5 a6]
  rfl

/-- The normalised key heads. -/
def kn (y : FVec Ideal S3x1024x48x72 .f32) (g : FVec Ideal S72x128 .f32) : FVec Ideal S3x1024x8x72 .f32 :=
  nrm8 (slk y) (rms8 (multiReduction .add [3] S3x1024x8 (mulf (slk y) (slk y)) 0x00000000#32 reduces_S3x1024x8x72_S3x1024x8 (.inl rfl) rfl)) (gainR g)
theorem pay7_eq (y g) : k0_pay7 (F := Ideal) y g = shapeCast S3x1024x8x36x2 (kn y g) shapeCasts_S3x1024x8x72_S3x1024x8x36x2 := rfl
theorem kn_at (b : Fin 3) (t : Fin 1024) (j : Fin 8) (c : Fin 72) : kn (k0_pay2 a0 a2 a1 a3) a6 (ix4 b t j c) = QkRow.nrm (QkRow.head (tok a0 a1 a2 a3 a4 a5 a6 b t) (QkRow.kh j)) (tok a0 a1 a2 a3 a4 a5 a6 b t).kg c := by
  rw [kn, nrm8_at, rms8_at, sq8_at, gainR_at]
  simp only [slk_at, head_at a0 a1 a2 a3 a4 a5 a6]
  rfl

/-- The members of the pairs. -/
def pe32 (x : FVec Ideal S3x1024x32x72 .f32) : FVec Ideal S3x1024x32x36 .f32 := shapeCast S3x1024x32x36 (extractStridedSlice S3x1024x32x36x1 ![0, 0, 0, 0, 0] (shapeCast S3x1024x32x36x2 x shapeCasts_S3x1024x32x72_S3x1024x32x36x2) slices_S3x1024x32x36x2_o0_0_0_0_0_S3x1024x32x36x1) shapeCasts_S3x1024x32x36x1_S3x1024x32x36
def po32 (x : FVec Ideal S3x1024x32x72 .f32) : FVec Ideal S3x1024x32x36 .f32 := shapeCast S3x1024x32x36 (extractStridedSlice S3x1024x32x36x1 ![0, 0, 0, 0, 1] (shapeCast S3x1024x32x36x2 x shapeCasts_S3x1024x32x72_S3x1024x32x36x2) slices_S3x1024x32x36x2_o0_0_0_0_1_S3x1024x32x36x1) shapeCasts_S3x1024x32x36x1_S3x1024x32x36
theorem pe32_at (x) (b : Fin 3) (t : Fin 1024) (j : Fin 32) (i : Fin 36) : pe32 x (ix4 b t j i) = x (ix4 b t j (QkRow.ev i)) := by
  pointwise [pe32]
  exact congrArg x (congrArg (ix4 b t j) (Fin.ext (mul_comm _ _)))
theorem po32_at (x) (b : Fin 3) (t : Fin 1024) (j : Fin 32) (i : Fin 36) : po32 x (ix4 b t j i) = x (ix4 b t j (QkRow.od i)) := by
  pointwise [po32]
  exact congrArg x (congrArg (ix4 b t j) (Fin.ext (congrArg (· + 1) (mul_comm _ _))))

/-- The pairs put together. -/
def st32 (e o : FVec Ideal S3x1024x32x36 .f32) : FVec Ideal S3x1024x32x72 .f32 :=
  shapeCast S3x1024x32x72 (concatenate S3x1024x32x36x2 4 [⟨S3x1024x32x36x1, shapeCast S3x1024x32x36x1 e shapeCasts_S3x1024x32x36_S3x1024x32x36x1⟩, ⟨S3x1024x32x36x1, shapeCast S3x1024x32x36x1 o shapeCasts_S3x1024x32x36_S3x1024x32x36x1⟩] concatenates_S3x1024x32x36x1_S3x1024x32x36x1_S3x1024x32x36x2_d4) shapeCasts_S3x1024x32x36x2_S3x1024x32x72
theorem st32_at (e o) (b : Fin 3) (t : Fin 1024) (j : Fin 32) (c : Fin 72) : st32 e o (ix4 b t j c) = if (c : ℕ) % 2 = 0 then e (ix4 b t j ⟨c / 2, by omega⟩) else o (ix4 b t j ⟨c / 2, by omega⟩) := by
  pointwise [st32]
  by_cases h : (c : ℕ) % 2 = 0
  · rw [dif_pos (by omega), if_pos h]
  · rw [dif_neg (by omega), if_neg h]

def st8 (e o : FVec Ideal S3x1024x8x36 .f32) : FVec Ideal S3x1024x8x72 .f32 :=
  shapeCast S3x1024x8x72 (concatenate S3x1024x8x36x2 4 [⟨S3x1024x8x36x1, shapeCast S3x1024x8x36x1 e shapeCasts_S3x1024x8x36_S3x1024x8x36x1⟩, ⟨S3x1024x8x36x1, shapeCast S3x1024x8x36x1 o shapeCasts_S3x1024x8x36_S3x1024x8x36x1⟩] concatenates_S3x1024x8x36x1_S3x1024x8x36x1_S3x1024x8x36x2_d4) shapeCasts_S3x1024x8x36x2_S3x1024x8x72
theorem st8_at (e o) (b : Fin 3) (t : Fin 1024) (j : Fin 8) (c : Fin 72) : st8 e o (ix4 b t j c) = if (c : ℕ) % 2 = 0 then e (ix4 b t j ⟨c / 2, by omega⟩) else o (ix4 b t j ⟨c / 2, by omega⟩) := by
  pointwise [st8]
  by_cases h : (c : ℕ) % 2 = 0
  · rw [dif_pos (by omega), if_pos h]
  · rw [dif_neg (by omega), if_neg h]

theorem k0_pay8_eq (y g) (b : Fin 3) (t : Fin 1024) (j : Fin 8) (i : Fin 36) : k0_pay8 (F := Ideal) y g (ix4 b t j i) = kn y g (ix4 b t j (QkRow.ev i)) := by
  unfold k0_pay8; rw [pay7_eq]; generalize kn y g = x
  pointwise
  exact congrArg x (congrArg (ix4 b t j) (Fin.ext (mul_comm _ _)))
theorem k0_pay9_eq (y g) (b : Fin 3) (t : Fin 1024) (j : Fin 8) (i : Fin 36) : k0_pay9 (F := Ideal) y g (ix4 b t j i) = kn y g (ix4 b t j (QkRow.od i)) := by
  unfold k0_pay9; rw [pay7_eq]; generalize kn y g = x
  pointwise
  exact congrArg x (congrArg (ix4 b t j) (Fin.ext (congrArg (· + 1) (mul_comm _ _))))

/-- The rotated pairs. -/
def re32 (c s : FVec Ideal S3x1024x1x36 .f32) (e o : FVec Ideal S3x1024x32x36 .f32) : FVec Ideal S3x1024x32x36 .f32 :=
  subf (mulf e (broadcastTo S3x1024x32x36 c broadcasts_S3x1024x1x36_S3x1024x32x36)) (mulf o (broadcastTo S3x1024x32x36 s broadcasts_S3x1024x1x36_S3x1024x32x36))
def ro32 (c s : FVec Ideal S3x1024x1x36 .f32) (e o : FVec Ideal S3x1024x32x36 .f32) : FVec Ideal S3x1024x32x36 .f32 :=
  addf (mulf e (broadcastTo S3x1024x32x36 s broadcasts_S3x1024x1x36_S3x1024x32x36)) (mulf o (broadcastTo S3x1024x32x36 c broadcasts_S3x1024x1x36_S3x1024x32x36))
theorem re32_at (c s e o) (b : Fin 3) (t : Fin 1024) (j : Fin 32) (i : Fin 36) : re32 c s e o (ix4 b t j i) = e (ix4 b t j i) * c (ix4 b t 0 i) - o (ix4 b t j i) * s (ix4 b t 0 i) := by
  pointwise [re32]
theorem ro32_at (c s e o) (b : Fin 3) (t : Fin 1024) (j : Fin 32) (i : Fin 36) : ro32 c s e o (ix4 b t j i) = e (ix4 b t j i) * s (ix4 b t 0 i) + o (ix4 b t j i) * c (ix4 b t 0 i) := by
  pointwise [ro32]
def re8 (c s : FVec Ideal S3x1024x1x36 .f32) (e o : FVec Ideal S3x1024x8x36 .f32) : FVec Ideal S3x1024x8x36 .f32 :=
  subf (mulf e (broadcastTo S3x1024x8x36 c broadcasts_S3x1024x1x36_S3x1024x8x36)) (mulf o (broadcastTo S3x1024x8x36 s broadcasts_S3x1024x1x36_S3x1024x8x36))
def ro8 (c s : FVec Ideal S3x1024x1x36 .f32) (e o : FVec Ideal S3x1024x8x36 .f32) : FVec Ideal S3x1024x8x36 .f32 :=
  addf (mulf e (broadcastTo S3x1024x8x36 s broadcasts_S3x1024x1x36_S3x1024x8x36)) (mulf o (broadcastTo S3x1024x8x36 c broadcasts_S3x1024x1x36_S3x1024x8x36))
theorem re8_at (c s e o) (b : Fin 3) (t : Fin 1024) (j : Fin 8) (i : Fin 36) : re8 c s e o (ix4 b t j i) = e (ix4 b t j i) * c (ix4 b t 0 i) - o (ix4 b t j i) * s (ix4 b t 0 i) := by
  pointwise [re8]
theorem ro8_at (c s e o) (b : Fin 3) (t : Fin 1024) (j : Fin 8) (i : Fin 36) : ro8 c s e o (ix4 b t j i) = e (ix4 b t j i) * s (ix4 b t 0 i) + o (ix4 b t j i) * c (ix4 b t 0 i) := by
  pointwise [ro8]

def trQ (x : FVec Ideal S3x1024x32x72 .f32) : FVec Ideal S3x32x72x1024 .bf16 := truncf .bf16 (transpose S3x32x72x1024 [0, 2, 3, 1] x transposes_S3x1024x32x72_p0_2_3_1_S3x32x72x1024) bitsLt_bf16_f32
theorem trQ_at (x) (b : Fin 3) (t : Fin 1024) (j : Fin 32) (c : Fin 72) : trQ x (ix4 b j c t) = x (ix4 b t j c) := by
  pointwise [trQ]

theorem pay6_eq (c s x) : k0_pay6 (F := Ideal) c s x = trQ (st32 (re32 c s (pe32 x) (po32 x)) (ro32 c s (pe32 x) (po32 x))) := rfl

theorem q_at (b : Fin 3) (t : Fin 1024) (j : Fin 32) (c : Fin 72) : k0_pay6 (k0_pay3 a4) (k0_pay4 a4) (k0_pay5 a0 a2 a1 a3 a5) (ix4 b j c t) = QkRow.q (tok a0 a1 a2 a3 a4 a5 a6 b t) j c := by
  rw [pay6_eq, trQ_at, st32_at, re32_at, ro32_at, pe32_at, po32_at, cos_at, sin_at]
  simp only [qn_at a0 a1 a2 a3 a4 a5 a6]
  rfl

/-- The rotated key heads. -/
def kr (ra : FVec Ideal S3x1024x72 .f32) (y : FVec Ideal S3x1024x48x72 .f32) (g : FVec Ideal S72x128 .f32) : FVec Ideal S3x1024x8x72 .f32 :=
  st8 (re8 (k0_pay3 ra) (k0_pay4 ra) (k0_pay8 y g) (k0_pay9 y g)) (ro8 (k0_pay3 ra) (k0_pay4 ra) (k0_pay8 y g) (k0_pay9 y g))
theorem pay12_eq (ra y g) : k0_pay12 (F := Ideal) (k0_pay3 ra) (k0_pay4 ra) (k0_pay8 y g) (k0_pay9 y g) (k0_pay10 y (k0_pay3 ra) g) (k0_pay11 y (k0_pay4 ra) g) = kr ra y g := rfl
theorem k_at (b : Fin 3) (t : Fin 1024) (j : Fin 8) (c : Fin 72) : kr a4 (k0_pay2 a0 a2 a1 a3) a6 (ix4 b t j c) = QkRow.k (tok a0 a1 a2 a3 a4 a5 a6 b t) j c := by
  rw [kr, st8_at, re8_at, ro8_at, k0_pay8_eq, k0_pay9_eq, cos_at, sin_at]
  simp only [kn_at a0 a1 a2 a3 a4 a5 a6]
  rfl
theorem v_at (b : Fin 3) (t : Fin 1024) (j : Fin 8) (c : Fin 72) : k0_pay15 (k0_pay2 a0 a2 a1 a3) (ix4 b t j c) = QkRow.v (tok a0 a1 a2 a3 a4 a5 a6 b t) j c := by
  rw [slv_at, head_at a0 a1 a2 a3 a4 a5 a6]; rfl

/-! ## Scales and codes -/

/-- The largest absolute values of the heads. -/
def mx8 (x : FVec Ideal S3x1024x8x72 .f32) : FVec Ideal S3x1024x8 .f32 := multiReduction .maximumf [3] S3x1024x8 (absf x) 0xFF800000#32 reduces_S3x1024x8x72_S3x1024x8 (.inl rfl) rfl
theorem mx8_at (x) (b : Fin 3) (t : Fin 1024) (j : Fin 8) : mx8 x (ix3 b t j) = MlpRow.amax fun c : Fin 72 => x (ix4 b t j c) := by
  unfold MlpRow.amax
  pointwise [mx8]
def sc8 (a : FVec Ideal S3x1024x8 .f32) : FVec Ideal S3x1024x8 .f32 :=
  select (cmpf .oeq a (broadcast S3x1024x8 (Scalar.ofBits .f32 0x00000000#32))) (broadcast S3x1024x8 (Scalar.ofBits .f32 0x3F800000#32)) (divf a (broadcast S3x1024x8 (Scalar.ofBits .f32 0x43E00000#32)))
theorem sc8_at (a) (b : Fin 3) (t : Fin 1024) (j : Fin 8) : sc8 a (ix3 b t j) = MlpRow.scaleOf (a (ix3 b t j)) := by
  unfold MlpRow.scaleOf
  pointwise [sc8]
def cd8 (x : FVec Ideal S3x1024x8x72 .f32) (s : FVec Ideal S3x1024x8 .f32) : FVec Ideal S3x1024x8x72 .fp8e4m3 :=
  truncf .fp8e4m3 (minimumf (broadcast S3x1024x8x72 (Scalar.ofBits .f32 0x43E00000#32)) (maximumf (broadcast S3x1024x8x72 (Scalar.ofBits .f32 0xC3E00000#32))
    (divf x (broadcastTo S3x1024x8x72 (shapeCast S3x1024x8x1 s shapeCasts_S3x1024x8_S3x1024x8x1) broadcasts_S3x1024x8x1_S3x1024x8x72)))) bitsLt_fp8e4m3_f32
theorem cd8_at (x s) (b : Fin 3) (t : Fin 1024) (j : Fin 8) (c : Fin 72) : cd8 x s (ix4 b t j c) = MlpRow.clip (Ideal.div (x (ix4 b t j c)) (s (ix3 b t j))) := by
  unfold MlpRow.clip
  pointwise [cd8]

theorem G7_at (b : Fin 3) (t : Fin 1024) (j : Fin 32) (c : Fin 72) : G7 a0 a1 a2 a3 a4 a5 a6 (ix4 b j c t) = QkRow.q (tok a0 a1 a2 a3 a4 a5 a6 b t) j c := by
  have e : G7 a0 a1 a2 a3 a4 a5 a6 = k0_pay6 (k0_pay3 a4) (k0_pay4 a4) (k0_pay5 a0 a2 a1 a3 a5) := by
    unfold G7 k0_pay19 k0_pay20
    rw [View.ld_unit_zero (S := S3x1024x72) hz4 _ a4]
  rw [e, q_at a0 a1 a2 a3 a4 a5 a6]

/-- The heads and the rotated keys as the reference states them over the arrays it reads. -/
theorem pay18_eq : k0_pay18 a0 a1 a2 a3 a4 a5 a6 = k0_pay2 a0 a2 a1 a3 := by
  unfold k0_pay18
  rw [View.ld_unit_zero (S := S3x1024x2304) hz0 _ a0, View.ld_unit_zero (S := S2304x3456) hz2 _ a2, View.ld_unit_zero (S := S3x1024x1) hz1 _ a1, View.ld_unit_zero (S := S1x3456) hz3 _ a3]
theorem krot_eq : k0_pay12 (k0_pay19 a0 a1 a2 a3 a4 a5 a6) (k0_pay20 a0 a1 a2 a3 a4 a5 a6) (k0_pay21 a0 a1 a2 a3 a4 a5 a6) (k0_pay22 a0 a1 a2 a3 a4 a5 a6) (k0_pay23 a0 a1 a2 a3 a4 a5 a6) (k0_pay24 a0 a1 a2 a3 a4 a5 a6)
    = kr a4 (k0_pay2 a0 a2 a1 a3) a6 := by
  unfold k0_pay24 k0_pay23 k0_pay22 k0_pay21 k0_pay20 k0_pay19
  rw [pay18_eq, View.ld_unit_zero (S := S3x1024x72) hz4 _ a4, View.ld_unit_zero (S := S72x128) hz6 _ a6]
  exact pay12_eq _ _ _
theorem pay13_eq (c s e o x y) : k0_pay13 (F := Ideal) c s e o x y = sc8 (mx8 (k0_pay12 c s e o x y)) := rfl
theorem pay14_eq (c s e o x y) : k0_pay14 (F := Ideal) c s e o x y = cd8 (k0_pay12 c s e o x y) (k0_pay13 c s e o x y) := rfl
theorem pay16_eq (y) : k0_pay16 (F := Ideal) y = sc8 (mx8 (k0_pay15 y)) := rfl
theorem pay1_eq (y) : k0_pay1 (F := Ideal) (k0_pay17 y) (Scalar.ofBits .f32 0xC3E00000#32) = cd8 (k0_pay15 y) (k0_pay16 y) := rfl

theorem G9_at (b : Fin 3) (t : Fin 1024) (j : Fin 8) : G9 a0 a1 a2 a3 a4 a5 a6 (ix3 b t j) = QkRow.scale (QkRow.k (tok a0 a1 a2 a3 a4 a5 a6 b t) j) := by
  unfold G9
  rw [pay13_eq, krot_eq, sc8_at, mx8_at]
  simp only [k_at a0 a1 a2 a3 a4 a5 a6]
  rfl
theorem G8_at (b : Fin 3) (t : Fin 1024) (j : Fin 8) (c : Fin 72) : G8 a0 a1 a2 a3 a4 a5 a6 (ix4 b t j c) = QkRow.code (QkRow.k (tok a0 a1 a2 a3 a4 a5 a6 b t) j) c := by
  have h := G9_at a0 a1 a2 a3 a4 a5 a6 b t j
  unfold G9 at h
  unfold G8
  rw [pay14_eq, cd8_at, h, krot_eq, k_at a0 a1 a2 a3 a4 a5 a6]
  rfl
theorem G11_at (b : Fin 3) (t : Fin 1024) (j : Fin 8) : G11 a0 a1 a2 a3 a4 a5 a6 (ix3 b t j) = QkRow.scale (QkRow.v (tok a0 a1 a2 a3 a4 a5 a6 b t) j) := by
  unfold G11
  rw [pay18_eq, pay16_eq, sc8_at, mx8_at]
  simp only [v_at a0 a1 a2 a3 a4 a5 a6]
  rfl
theorem G10_at (b : Fin 3) (t : Fin 1024) (j : Fin 8) (c : Fin 72) : G10 a0 a1 a2 a3 a4 a5 a6 (ix4 b t j c) = QkRow.code (QkRow.v (tok a0 a1 a2 a3 a4 a5 a6 b t) j) c := by
  have h := G11_at a0 a1 a2 a3 a4 a5 a6 b t j
  unfold G11 at h
  unfold G10
  rw [pay1_eq, cd8_at, h, pay18_eq, v_at a0 a1 a2 a3 a4 a5 a6]
  rfl

end Cert.QkvRefIdeal.Value
end
-- ==== Proof.QkFinal.lean ====
module
public import proofs.«01_k».proof.Proof.QkOut7
public import proofs.«01_k».proof.Proof.QkOut8
public import proofs.«01_k».proof.Proof.QkOut9
public import proofs.«01_k».proof.Proof.QkOut10
public import proofs.«01_k».proof.Proof.QkOut11
public import proofs.«01_k».proof.Proof.QkRef
@[expose] public section
set_option maxRecDepth 16384
noncomputable section
open Idealize.ShloMosaic Idealize.ShloMosaic.TcCoe Idealize.SL.Sem
open Idealize.ShloMosaic.Pipeline (Dat)

/-! # The result arrays of the query, key and value projection

Grid point `t` is batch `t / 4`, block of rows `t % 4`. Every result array is the reference's. -/

namespace Cert.QkvIdeal.Value
open Cert.QkvIdeal Cert.QkvIdeal.Gen

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![t.val / 4, t.val % 4, 0] ∧ win0_5.index t = ![0, 0]
    ∧ win0_6.index t = ![0, 0] ∧ win0_7.index t = ![t.val / 4, 0, 0, t.val % 4]
    ∧ win0_8.index t = ![t.val / 4, t.val % 4, 0, 0] ∧ win0_9.index t = ![t.val / 4, t.val % 4, 0] ∧ win0_10.index t = ![t.val / 4, t.val % 4, 0, 0] ∧ win0_11.index t = ![t.val / 4, t.val % 4, 0] :=
  (by decide +kernel : ∀ t : Fin grid0.N, _)

theorem lt12 (t : Fin cfg0.N) : t.val < 12 := t.isLt

/-- The batch of a grid point, and the token of one of its rows. -/
def batch (t : Fin cfg0.N) : Fin 3 := ⟨t.val / 4, by have := lt12 t; omega⟩
def token (t : Fin cfg0.N) (r : Fin 256) : Fin 1024 := ⟨t.val % 4 * 256 + r, by have := r.isLt; omega⟩

theorem lane_eq (t : Fin cfg0.N) (r : Fin 256) : (⟨r % 128, by omega⟩ : Fin 128) = ⟨token t r % 128, by omega⟩ :=
  Fin.ext (by show (r : ℕ) % 128 = (t.val % 4 * 256 + r) % 128; omega)

theorem row_eq (c : Dev nD) (t : Fin cfg0.N) (r : Fin 256) :
    rowB (iblk m c 0 t) (iblk m c 1 t) (iblk m c 2 t) (iblk m c 3 t) (iblk m c 4 t) (iblk m c 5 t) (iblk m c 6 t) r = Cert.QkvRefIdeal.Value.tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batch t) (token t r) := by
  have ht := lt12 t
  have hl := lane_eq t r
  simp only [rowB, Cert.QkvRefIdeal.Value.tok, QkRow.Row.mk.injEq, hl]
  generalize (⟨token t r % 128, by omega⟩ : Fin 128) = l
  simp only [batch, token]
  refine ⟨funext fun d => ?_, ?_, funext fun d => funext fun k => ?_, funext fun k => ?_, funext fun n => ?_, funext fun n => ?_, funext fun n => ?_⟩
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]

theorem outs7 (c : Dev nD) (t : Fin cfg0.N) : (outsAt0 m c t).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) := by
  dsimp only [outsAt0]

theorem point7 (c : Dev nD) (t : Fin cfg0.N) (j : Fin 32) (n : Fin 72) (r : Fin 256) :
    (outsAt0 m c t).1 (ix4 0 j n r) = Cert.QkvRefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) j n (token t r)) := by
  rw [Cert.QkvRefIdeal.Value.G7_at, ← row_eq m c t r]
  rw [outs7, out7_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) j n r]

theorem final7 (c : Dev nD) : (dats m 0 c).arrAt 7 cfg0.N = Cert.QkvRefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have ht := lt12 t
  have he : ((cfg0.win 7).blk t).view.emb y = ix4 (batch t) (y 1) (y 2) (token t (y 3)) := by
    unfold batch token
    blk_ext [idx t]
  have hy : y = ix4 0 (y 1) (y 2) (y 3) := by
    funext a; fin_cases a
    · exact Subsingleton.elim (α := Fin 1) _ _
    · rfl
    · rfl
    · rfl
  rw [he]
  blk_simp
  rw [after0_7]
  exact (congrArg (outsAt0 m c t).1 hy).trans (point7 m c t (y 1) (y 2) (y 3))

theorem outs8 (c : Dev nD) (t : Fin cfg0.N) : (outsAt0 m c t).2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) := by
  dsimp only [outsAt0]

theorem point8 (c : Dev nD) (t : Fin cfg0.N) (r : Fin 256) (j : Fin 8) (n : Fin 72) :
    (outsAt0 m c t).2.1 (ix4 0 r j n) = Cert.QkvRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) (token t r) j n) := by
  rw [Cert.QkvRefIdeal.Value.G8_at, ← row_eq m c t r]
  rw [outs8, out8_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) r j n]

theorem final8 (c : Dev nD) : (dats m 0 c).arrAt 8 cfg0.N = Cert.QkvRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht := lt12 t
  have he : ((cfg0.win 8).blk t).view.emb y = ix4 (batch t) (token t (y 1)) (y 2) (y 3) := by
    unfold batch token
    blk_ext [idx t]
  have hy : y = ix4 0 (y 1) (y 2) (y 3) := by
    funext a; fin_cases a
    · exact Subsingleton.elim (α := Fin 1) _ _
    · rfl
    · rfl
    · rfl
  rw [he]
  blk_simp
  rw [after0_8]
  exact (congrArg (outsAt0 m c t).2.1 hy).trans (point8 m c t (y 1) (y 2) (y 3))

theorem outs9 (c : Dev nD) (t : Fin cfg0.N) : (outsAt0 m c t).2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) := by
  dsimp only [outsAt0]

theorem point9 (c : Dev nD) (t : Fin cfg0.N) (r : Fin 256) (j : Fin 8) :
    (outsAt0 m c t).2.2.1 (ix3 0 r j) = Cert.QkvRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (batch t) (token t r) j) := by
  rw [Cert.QkvRefIdeal.Value.G9_at, ← row_eq m c t r]
  rw [outs9, out9_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) r j]

theorem final9 (c : Dev nD) : (dats m 0 c).arrAt 9 cfg0.N = Cert.QkvRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have ht := lt12 t
  have he : ((cfg0.win 9).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_9]
  exact (congrArg (outsAt0 m c t).2.2.1 hy).trans (point9 m c t (y 1) (y 2))

theorem outs10 (c : Dev nD) (t : Fin cfg0.N) : (outsAt0 m c t).2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) := by
  dsimp only [outsAt0]

theorem point10 (c : Dev nD) (t : Fin cfg0.N) (r : Fin 256) (j : Fin 8) (n : Fin 72) :
    (outsAt0 m c t).2.2.2.1 (ix4 0 r j n) = Cert.QkvRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix4 (batch t) (token t r) j n) := by
  rw [Cert.QkvRefIdeal.Value.G10_at, ← row_eq m c t r]
  rw [outs10, out10_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) r j n]

theorem final10 (c : Dev nD) : (dats m 0 c).arrAt 10 cfg0.N = Cert.QkvRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have ht := lt12 t
  have he : ((cfg0.win 10).blk t).view.emb y = ix4 (batch t) (token t (y 1)) (y 2) (y 3) := by
    unfold batch token
    blk_ext [idx t]
  have hy : y = ix4 0 (y 1) (y 2) (y 3) := by
    funext a; fin_cases a
    · exact Subsingleton.elim (α := Fin 1) _ _
    · rfl
    · rfl
    · rfl
  rw [he]
  blk_simp
  rw [after0_10]
  exact (congrArg (outsAt0 m c t).2.2.2.1 hy).trans (point10 m c t (y 1) (y 2) (y 3))

theorem outs11 (c : Dev nD) (t : Fin cfg0.N) : (outsAt0 m c t).2.2.2.2 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) := by
  dsimp only [outsAt0]

theorem point11 (c : Dev nD) (t : Fin cfg0.N) (r : Fin 256) (j : Fin 8) :
    (outsAt0 m c t).2.2.2.2 (ix3 0 r j) = Cert.QkvRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (batch t) (token t r) j) := by
  rw [Cert.QkvRefIdeal.Value.G11_at, ← row_eq m c t r]
  rw [outs11, out11_ix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) r j]

theorem final11 (c : Dev nD) : (dats m 0 c).arrAt 11 cfg0.N = Cert.QkvRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht := lt12 t
  have he : ((cfg0.win 11).blk t).view.emb y = ix3 (batch t) (token t (y 1)) (y 2) := by
    unfold batch token
    blk_ext [idx t]
  have hy : y = ix3 0 (y 1) (y 2) := by
    funext a; fin_cases a
    · exact Subsingleton.elim (α := Fin 1) _ _
    · rfl
    · rfl
  rw [he]
  blk_simp
  rw [after0_11]
  exact (congrArg (outsAt0 m c t).2.2.2.2 hy).trans (point11 m c t (y 1) (y 2))

end Cert.QkvIdeal.Value
end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.MlpIdeal.Value
public import proofs.«01_k».proof.Proof.Gen.MlpRefIdeal.Value
public import proofs.«01_k».proof.Proof.Final
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutIdeal.Value
public import proofs.«01_k».proof.Proof.Gen.OutRefIdeal.Value
public import proofs.«01_k».proof.Proof.WoFinal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvIdeal.Value
public import proofs.«01_k».proof.Proof.Gen.QkvRefIdeal.Value
public import proofs.«01_k».proof.Proof.QkFinal
public import Idealize.ShloMosaic.Lib.Claim
public import Idealize.ShloMosaic.Adequacy
public import Idealize.ShloMosaic.Init

@[expose] public section

set_option maxRecDepth 65536

noncomputable section

namespace Cert.Proof

open Idealize.ShloMosaic Idealize.SL.Sem Cert.Mlp

open Idealize.ShloMosaic.TcCoe in
/-- The kernel's run: every result array is the reference's of the arguments, the arguments are unchanged. -/
theorem run (m : (ℓ : Loc Cert.MlpIdeal.nD Cert.MlpIdeal.τ Cert.MlpIdeal.sig) → Buf (Elt Ideal) ℓ) (ρ : Dev Cert.MlpIdeal.nD → PrngReg) :
    θ_run (Cert.MlpIdeal.defs (F := Ideal)) (onTc (τ := Cert.MlpIdeal.τ) (Cert.MlpIdeal.main (F := Ideal))) ⟨m, fun _ => 0, ρ⟩ fun r => ∀ c : Dev Cert.MlpIdeal.nD,
      r.2.mem ((c : Thread Cert.MlpIdeal.nD Cert.MlpIdeal.τ).loc Cert.MlpIdeal.main_v0_0) = Cert.MlpRefIdeal.Value.G9 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8))
      ∧ r.2.mem ((c : Thread Cert.MlpIdeal.nD Cert.MlpIdeal.τ).loc Cert.MlpIdeal.main_v0_1) = Cert.MlpRefIdeal.Value.G10 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8))
      ∧ r.2.mem ((c : Thread Cert.MlpIdeal.nD Cert.MlpIdeal.τ).loc Cert.MlpIdeal.main_v0_2) = Cert.MlpRefIdeal.Value.G11 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8))
      ∧ r.2.mem ((c : Thread Cert.MlpIdeal.nD Cert.MlpIdeal.τ).loc Cert.MlpIdeal.main_v0_3) = Cert.MlpRefIdeal.Value.G12 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8))
      ∧ r.2.mem ((c : Thread Cert.MlpIdeal.nD Cert.MlpIdeal.τ).loc Cert.MlpIdeal.main_v0_4) = Cert.MlpRefIdeal.Value.G13 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8))
      ∧ r.2.mem ((c : Thread Cert.MlpIdeal.nD Cert.MlpIdeal.τ).loc Cert.MlpIdeal.main_arg0) = m ((c : Thread Cert.MlpIdeal.nD Cert.MlpIdeal.τ).loc Cert.MlpIdeal.main_arg0)
      ∧ r.2.mem ((c : Thread Cert.MlpIdeal.nD Cert.MlpIdeal.τ).loc Cert.MlpIdeal.main_arg1) = m ((c : Thread Cert.MlpIdeal.nD Cert.MlpIdeal.τ).loc Cert.MlpIdeal.main_arg1)
      ∧ r.2.mem ((c : Thread Cert.MlpIdeal.nD Cert.MlpIdeal.τ).loc Cert.MlpIdeal.main_arg2) = m ((c : Thread Cert.MlpIdeal.nD Cert.MlpIdeal.τ).loc Cert.MlpIdeal.main_arg2)
      ∧ r.2.mem ((c : Thread Cert.MlpIdeal.nD Cert.MlpIdeal.τ).loc Cert.MlpIdeal.main_arg3) = m ((c : Thread Cert.MlpIdeal.nD Cert.MlpIdeal.τ).loc Cert.MlpIdeal.main_arg3)
      ∧ r.2.mem ((c : Thread Cert.MlpIdeal.nD Cert.MlpIdeal.τ).loc Cert.MlpIdeal.main_arg4) = m ((c : Thread Cert.MlpIdeal.nD Cert.MlpIdeal.τ).loc Cert.MlpIdeal.main_arg4)
      ∧ r.2.mem ((c : Thread Cert.MlpIdeal.nD Cert.MlpIdeal.τ).loc Cert.MlpIdeal.main_arg5) = m ((c : Thread Cert.MlpIdeal.nD Cert.MlpIdeal.τ).loc Cert.MlpIdeal.main_arg5)
      ∧ r.2.mem ((c : Thread Cert.MlpIdeal.nD Cert.MlpIdeal.τ).loc Cert.MlpIdeal.main_arg6) = m ((c : Thread Cert.MlpIdeal.nD Cert.MlpIdeal.τ).loc Cert.MlpIdeal.main_arg6)
      ∧ r.2.mem ((c : Thread Cert.MlpIdeal.nD Cert.MlpIdeal.τ).loc Cert.MlpIdeal.main_arg7) = m ((c : Thread Cert.MlpIdeal.nD Cert.MlpIdeal.τ).loc Cert.MlpIdeal.main_arg7)
      ∧ r.2.mem ((c : Thread Cert.MlpIdeal.nD Cert.MlpIdeal.τ).loc Cert.MlpIdeal.main_arg8) = m ((c : Thread Cert.MlpIdeal.nD Cert.MlpIdeal.τ).loc Cert.MlpIdeal.main_arg8) :=
  (θ_run (Cert.MlpIdeal.defs (F := Ideal)) _ _).mono (fun r h c => ⟨(h c).1.trans (Cert.MlpIdeal.Value.final9 m c), (h c).2.1.trans (Cert.MlpIdeal.Value.final10 m c), (h c).2.2.1.trans (Cert.MlpIdeal.Value.final11 m c), (h c).2.2.2.1.trans (Cert.MlpIdeal.Value.final12 m c), (h c).2.2.2.2.1.trans (Cert.MlpIdeal.Value.final13 m c), (h c).2.2.2.2.2⟩) (Cert.MlpIdeal.Value.run_blocks m ρ)

/-- The reference's results depend on its arguments only. -/
theorem same {α : Type} {A0 A1 A2 A3 A4 A5 A6 A7 A8 : Type} (f : A0 → A1 → A2 → A3 → A4 → A5 → A6 → A7 → A8 → α) {x0 y0 : A0} {x1 y1 : A1} {x2 y2 : A2} {x3 y3 : A3} {x4 y4 : A4}
    {x5 y5 : A5} {x6 y6 : A6} {x7 y7 : A7} {x8 y8 : A8} (e0 : x0 = y0) (e1 : x1 = y1) (e2 : x2 = y2) (e3 : x3 = y3) (e4 : x4 = y4) (e5 : x5 = y5) (e6 : x6 = y6) (e7 : x7 = y7) (e8 : x8 = y8) :
    f x0 x1 x2 x3 x4 x5 x6 x7 x8 = f y0 y1 y2 y3 y4 y5 y6 y7 y8 := by
  subst e0 e1 e2 e3 e4 e5 e6 e7 e8
  rfl

open Idealize.ShloMosaic.TcCoe in
/-- The kernel's result arrays are the reference's, over the reals. -/
theorem algebraic : Cert.algebraic_MlpIdeal_MlpRefIdeal := by
  intro m g m' g' hpre hagree
  refine ⟨fun c => Cert.MlpRefIdeal.Value.G9 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8)), fun c => Cert.MlpRefIdeal.Value.G10 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8)), fun c => Cert.MlpRefIdeal.Value.G11 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8)), fun c => Cert.MlpRefIdeal.Value.G12 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8)), fun c => Cert.MlpRefIdeal.Value.G13 (m ((c : Thread Cert.MlpIdeal.nD Cert.MlpIdeal.τ).loc Cert.MlpIdeal.main_arg0)) (m ((c : Thread Cert.MlpIdeal.nD Cert.MlpIdeal.τ).loc Cert.MlpIdeal.main_arg1)) (m ((c : Thread Cert.MlpIdeal.nD Cert.MlpIdeal.τ).loc Cert.MlpIdeal.main_arg2)) (m ((c : Thread Cert.MlpIdeal.nD Cert.MlpIdeal.τ).loc Cert.MlpIdeal.main_arg3)) (m ((c : Thread Cert.MlpIdeal.nD Cert.MlpIdeal.τ).loc Cert.MlpIdeal.main_arg4)) (m ((c : Thread Cert.MlpIdeal.nD Cert.MlpIdeal.τ).loc Cert.MlpIdeal.main_arg5)) (m ((c : Thread Cert.MlpIdeal.nD Cert.MlpIdeal.τ).loc Cert.MlpIdeal.main_arg6)) (m ((c : Thread Cert.MlpIdeal.nD Cert.MlpIdeal.τ).loc Cert.MlpIdeal.main_arg7)) (m ((c : Thread Cert.MlpIdeal.nD Cert.MlpIdeal.τ).loc Cert.MlpIdeal.main_arg8)), run m g, ?_⟩
  refine (θ_run (Cert.MlpRefIdeal.defs (F := Ideal)) _ _).mono (fun r h c => ?_) (Cert.MlpRefIdeal.Value.run m' g')
  obtain ⟨e0, e1, e2, e3, e4, e5, e6, e7, e8⟩ := hagree c
  obtain ⟨h0, h1, h2, h3, h4, ha⟩ := h c
  refine ⟨h0.trans ?_, h1.trans ?_, h2.trans ?_, h3.trans ?_, h4.trans ?_, ha⟩
  · exact same Cert.MlpRefIdeal.Value.G9 e0 e1 e2 e3 e4 e5 e6 e7 e8
  · exact same Cert.MlpRefIdeal.Value.G10 e0 e1 e2 e3 e4 e5 e6 e7 e8
  · exact same Cert.MlpRefIdeal.Value.G11 e0 e1 e2 e3 e4 e5 e6 e7 e8
  · exact same Cert.MlpRefIdeal.Value.G12 e0 e1 e2 e3 e4 e5 e6 e7 e8
  · exact same Cert.MlpRefIdeal.Value.G13 e0 e1 e2 e3 e4 e5 e6 e7 e8

open Idealize.ShloMosaic.TcCoe in
/-- The run of the output projection: every result array is the reference's of the arguments, the arguments are unchanged. -/
theorem runOut (m : (ℓ : Loc Cert.OutIdeal.nD Cert.OutIdeal.τ Cert.OutIdeal.sig) → Buf (Elt Ideal) ℓ) (ρ : Dev Cert.OutIdeal.nD → PrngReg) :
    θ_run (Cert.OutIdeal.defs (F := Ideal)) (onTc (τ := Cert.OutIdeal.τ) (Cert.OutIdeal.main (F := Ideal))) ⟨m, fun _ => 0, ρ⟩ fun r => ∀ c : Dev Cert.OutIdeal.nD,
      r.2.mem ((c : Thread Cert.OutIdeal.nD Cert.OutIdeal.τ).loc Cert.OutIdeal.main_v0_0) = Cert.OutRefIdeal.Value.G8 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7))
      ∧ r.2.mem ((c : Thread Cert.OutIdeal.nD Cert.OutIdeal.τ).loc Cert.OutIdeal.main_v0_1) = Cert.OutRefIdeal.Value.G9 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7))
      ∧ r.2.mem ((c : Thread Cert.OutIdeal.nD Cert.OutIdeal.τ).loc Cert.OutIdeal.main_v0_2) = Cert.OutRefIdeal.Value.G10 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7))
      ∧ r.2.mem ((c : Thread Cert.OutIdeal.nD Cert.OutIdeal.τ).loc Cert.OutIdeal.main_arg0) = m ((c : Thread Cert.OutIdeal.nD Cert.OutIdeal.τ).loc Cert.OutIdeal.main_arg0)
      ∧ r.2.mem ((c : Thread Cert.OutIdeal.nD Cert.OutIdeal.τ).loc Cert.OutIdeal.main_arg1) = m ((c : Thread Cert.OutIdeal.nD Cert.OutIdeal.τ).loc Cert.OutIdeal.main_arg1)
      ∧ r.2.mem ((c : Thread Cert.OutIdeal.nD Cert.OutIdeal.τ).loc Cert.OutIdeal.main_arg2) = m ((c : Thread Cert.OutIdeal.nD Cert.OutIdeal.τ).loc Cert.OutIdeal.main_arg2)
      ∧ r.2.mem ((c : Thread Cert.OutIdeal.nD Cert.OutIdeal.τ).loc Cert.OutIdeal.main_arg3) = m ((c : Thread Cert.OutIdeal.nD Cert.OutIdeal.τ).loc Cert.OutIdeal.main_arg3)
      ∧ r.2.mem ((c : Thread Cert.OutIdeal.nD Cert.OutIdeal.τ).loc Cert.OutIdeal.main_arg4) = m ((c : Thread Cert.OutIdeal.nD Cert.OutIdeal.τ).loc Cert.OutIdeal.main_arg4)
      ∧ r.2.mem ((c : Thread Cert.OutIdeal.nD Cert.OutIdeal.τ).loc Cert.OutIdeal.main_arg5) = m ((c : Thread Cert.OutIdeal.nD Cert.OutIdeal.τ).loc Cert.OutIdeal.main_arg5)
      ∧ r.2.mem ((c : Thread Cert.OutIdeal.nD Cert.OutIdeal.τ).loc Cert.OutIdeal.main_arg6) = m ((c : Thread Cert.OutIdeal.nD Cert.OutIdeal.τ).loc Cert.OutIdeal.main_arg6)
      ∧ r.2.mem ((c : Thread Cert.OutIdeal.nD Cert.OutIdeal.τ).loc Cert.OutIdeal.main_arg7) = m ((c : Thread Cert.OutIdeal.nD Cert.OutIdeal.τ).loc Cert.OutIdeal.main_arg7) :=
  (θ_run (Cert.OutIdeal.defs (F := Ideal)) _ _).mono (fun r h c => ⟨(h c).1.trans (Cert.OutIdeal.Value.final8 m c), (h c).2.1.trans (Cert.OutIdeal.Value.final9 m c), (h c).2.2.1.trans (Cert.OutIdeal.Value.final10 m c), (h c).2.2.2⟩) (Cert.OutIdeal.Value.run_blocks m ρ)

theorem sameOut {α : Type} {A0 A1 A2 A3 A4 A5 A6 A7 : Type} (f : A0 → A1 → A2 → A3 → A4 → A5 → A6 → A7 → α) {x0 y0 : A0} {x1 y1 : A1} {x2 y2 : A2} {x3 y3 : A3} {x4 y4 : A4} {x5 y5 : A5} {x6 y6 : A6} {x7 y7 : A7}
    (e0 : x0 = y0) (e1 : x1 = y1) (e2 : x2 = y2) (e3 : x3 = y3) (e4 : x4 = y4) (e5 : x5 = y5) (e6 : x6 = y6) (e7 : x7 = y7) :
    f x0 x1 x2 x3 x4 x5 x6 x7 = f y0 y1 y2 y3 y4 y5 y6 y7 := by
  subst e0 e1 e2 e3 e4 e5 e6 e7
  rfl

open Idealize.ShloMosaic.TcCoe in
/-- The output projection: the kernel's result arrays are the reference's, over the reals. -/
theorem algebraicOut : Cert.algebraic_OutIdeal_OutRefIdeal := by
  intro m g m' g' hpre hagree
  refine ⟨fun c => Cert.OutRefIdeal.Value.G8 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7)), fun c => Cert.OutRefIdeal.Value.G9 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7)), fun c => Cert.OutRefIdeal.Value.G10 (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) (m ((c : Thread Cert.OutIdeal.nD Cert.OutIdeal.τ).loc Cert.OutIdeal.main_arg7)), runOut m g, ?_⟩
  refine (θ_run (Cert.OutRefIdeal.defs (F := Ideal)) _ _).mono (fun r h c => ?_) (Cert.OutRefIdeal.Value.run m' g')
  obtain ⟨e0, e1, e2, e3, e4, e5, e6, e7⟩ := hagree c
  obtain ⟨h0, h1, h2, ha⟩ := h c
  refine ⟨h0.trans ?_, h1.trans ?_, h2.trans ?_, ha⟩
  · exact sameOut Cert.OutRefIdeal.Value.G8 e0 e1 e2 e3 e4 e5 e6 e7
  · exact sameOut Cert.OutRefIdeal.Value.G9 e0 e1 e2 e3 e4 e5 e6 e7
  · exact sameOut Cert.OutRefIdeal.Value.G10 e0 e1 e2 e3 e4 e5 e6 e7

open Idealize.ShloMosaic.TcCoe in
/-- The run of the query, key and value projection: every result array is the reference's of the arguments, the arguments are unchanged. -/
theorem runQkv (m : (ℓ : Loc Cert.QkvIdeal.nD Cert.QkvIdeal.τ Cert.QkvIdeal.sig) → Buf (Elt Ideal) ℓ) (ρ : Dev Cert.QkvIdeal.nD → PrngReg) :
    θ_run (Cert.QkvIdeal.defs (F := Ideal)) (onTc (τ := Cert.QkvIdeal.τ) (Cert.QkvIdeal.main (F := Ideal))) ⟨m, fun _ => 0, ρ⟩ fun r => ∀ c : Dev Cert.QkvIdeal.nD,
      r.2.mem ((c : Thread Cert.QkvIdeal.nD Cert.QkvIdeal.τ).loc Cert.QkvIdeal.main_v0_0) = Cert.QkvRefIdeal.Value.G7 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6))
      ∧ r.2.mem ((c : Thread Cert.QkvIdeal.nD Cert.QkvIdeal.τ).loc Cert.QkvIdeal.main_v0_1) = Cert.QkvRefIdeal.Value.G8 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6))
      ∧ r.2.mem ((c : Thread Cert.QkvIdeal.nD Cert.QkvIdeal.τ).loc Cert.QkvIdeal.main_v0_2) = Cert.QkvRefIdeal.Value.G9 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6))
      ∧ r.2.mem ((c : Thread Cert.QkvIdeal.nD Cert.QkvIdeal.τ).loc Cert.QkvIdeal.main_v0_3) = Cert.QkvRefIdeal.Value.G10 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6))
      ∧ r.2.mem ((c : Thread Cert.QkvIdeal.nD Cert.QkvIdeal.τ).loc Cert.QkvIdeal.main_v0_4) = Cert.QkvRefIdeal.Value.G11 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6))
      ∧ r.2.mem ((c : Thread Cert.QkvIdeal.nD Cert.QkvIdeal.τ).loc Cert.QkvIdeal.main_arg0) = m ((c : Thread Cert.QkvIdeal.nD Cert.QkvIdeal.τ).loc Cert.QkvIdeal.main_arg0)
      ∧ r.2.mem ((c : Thread Cert.QkvIdeal.nD Cert.QkvIdeal.τ).loc Cert.QkvIdeal.main_arg1) = m ((c : Thread Cert.QkvIdeal.nD Cert.QkvIdeal.τ).loc Cert.QkvIdeal.main_arg1)
      ∧ r.2.mem ((c : Thread Cert.QkvIdeal.nD Cert.QkvIdeal.τ).loc Cert.QkvIdeal.main_arg2) = m ((c : Thread Cert.QkvIdeal.nD Cert.QkvIdeal.τ).loc Cert.QkvIdeal.main_arg2)
      ∧ r.2.mem ((c : Thread Cert.QkvIdeal.nD Cert.QkvIdeal.τ).loc Cert.QkvIdeal.main_arg3) = m ((c : Thread Cert.QkvIdeal.nD Cert.QkvIdeal.τ).loc Cert.QkvIdeal.main_arg3)
      ∧ r.2.mem ((c : Thread Cert.QkvIdeal.nD Cert.QkvIdeal.τ).loc Cert.QkvIdeal.main_arg4) = m ((c : Thread Cert.QkvIdeal.nD Cert.QkvIdeal.τ).loc Cert.QkvIdeal.main_arg4)
      ∧ r.2.mem ((c : Thread Cert.QkvIdeal.nD Cert.QkvIdeal.τ).loc Cert.QkvIdeal.main_arg5) = m ((c : Thread Cert.QkvIdeal.nD Cert.QkvIdeal.τ).loc Cert.QkvIdeal.main_arg5)
      ∧ r.2.mem ((c : Thread Cert.QkvIdeal.nD Cert.QkvIdeal.τ).loc Cert.QkvIdeal.main_arg6) = m ((c : Thread Cert.QkvIdeal.nD Cert.QkvIdeal.τ).loc Cert.QkvIdeal.main_arg6) :=
  (θ_run (Cert.QkvIdeal.defs (F := Ideal)) _ _).mono (fun r h c => ⟨(h c).1.trans (Cert.QkvIdeal.Value.final7 m c), (h c).2.1.trans (Cert.QkvIdeal.Value.final8 m c), (h c).2.2.1.trans (Cert.QkvIdeal.Value.final9 m c), (h c).2.2.2.1.trans (Cert.QkvIdeal.Value.final10 m c), (h c).2.2.2.2.1.trans (Cert.QkvIdeal.Value.final11 m c), (h c).2.2.2.2.2⟩) (Cert.QkvIdeal.Value.run_blocks m ρ)

theorem sameQkv {α : Type} {A0 A1 A2 A3 A4 A5 A6 : Type} (f : A0 → A1 → A2 → A3 → A4 → A5 → A6 → α) {x0 y0 : A0} {x1 y1 : A1} {x2 y2 : A2} {x3 y3 : A3} {x4 y4 : A4} {x5 y5 : A5} {x6 y6 : A6}
    (e0 : x0 = y0) (e1 : x1 = y1) (e2 : x2 = y2) (e3 : x3 = y3) (e4 : x4 = y4) (e5 : x5 = y5) (e6 : x6 = y6) :
    f x0 x1 x2 x3 x4 x5 x6 = f y0 y1 y2 y3 y4 y5 y6 := by
  subst e0 e1 e2 e3 e4 e5 e6
  rfl

open Idealize.ShloMosaic.TcCoe in
/-- The query, key and value projection: the kernel's result arrays are the reference's, over the reals. -/
theorem algebraicQkv : Cert.algebraic_QkvIdeal_QkvRefIdeal := by
  intro m g m' g' hpre hagree
  refine ⟨fun c => Cert.QkvRefIdeal.Value.G7 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)), fun c => Cert.QkvRefIdeal.Value.G8 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)), fun c => Cert.QkvRefIdeal.Value.G9 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)), fun c => Cert.QkvRefIdeal.Value.G10 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)), fun c => Cert.QkvRefIdeal.Value.G11 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)), runQkv m g, ?_⟩
  refine (θ_run (Cert.QkvRefIdeal.defs (F := Ideal)) _ _).mono (fun r h c => ?_) (Cert.QkvRefIdeal.Value.run m' g')
  obtain ⟨e0, e1, e2, e3, e4, e5, e6⟩ := hagree c
  obtain ⟨h0, h1, h2, h3, h4, ha⟩ := h c
  refine ⟨h0.trans ?_, h1.trans ?_, h2.trans ?_, h3.trans ?_, h4.trans ?_, ha⟩
  · exact sameQkv Cert.QkvRefIdeal.Value.G7 e0 e1 e2 e3 e4 e5 e6
  · exact sameQkv Cert.QkvRefIdeal.Value.G8 e0 e1 e2 e3 e4 e5 e6
  · exact sameQkv Cert.QkvRefIdeal.Value.G9 e0 e1 e2 e3 e4 e5 e6
  · exact sameQkv Cert.QkvRefIdeal.Value.G10 e0 e1 e2 e3 e4 e5 e6
  · exact sameQkv Cert.QkvRefIdeal.Value.G11 e0 e1 e2 e3 e4 e5 e6

theorem claim : Cert.Claim := ⟨Cert.Mlp.Gen.facts, Cert.MlpIdeal.Gen.facts, Cert.MlpRefIdeal.Gen.facts,
  Cert.Out.Gen.facts, Cert.OutIdeal.Gen.facts, Cert.OutRefIdeal.Gen.facts,
  Cert.Qkv.Gen.facts, Cert.QkvIdeal.Gen.facts, Cert.QkvRefIdeal.Gen.facts,
  fun m ρ _ => Cert.Mlp.Gen.frame m ρ, fun m ρ _ => Cert.MlpIdeal.Gen.frame m ρ, fun m ρ _ => Cert.MlpRefIdeal.Gen.frame m ρ,
  fun m ρ _ => Cert.Out.Gen.frame m ρ, fun m ρ _ => Cert.OutIdeal.Gen.frame m ρ, fun m ρ _ => Cert.OutRefIdeal.Gen.frame m ρ,
  fun m ρ _ => Cert.Qkv.Gen.frame m ρ, fun m ρ _ => Cert.QkvIdeal.Gen.frame m ρ, fun m ρ _ => Cert.QkvRefIdeal.Gen.frame m ρ,
  trivial, algebraic, trivial, algebraicOut, trivial, algebraicQkv⟩

end Cert.Proof

end
